-- ==== Defs.lean ====
def Pre_WgUp (m : (ℓ : Loc Cert.WgUp.nD Cert.WgUp.τ Cert.WgUp.sig) → Buf (Elt Bits) ℓ) : Prop :=
  True

def Pre_WgUpIdeal (m : (ℓ : Loc Cert.WgUpIdeal.nD Cert.WgUpIdeal.τ Cert.WgUpIdeal.sig) → Buf (Elt Ideal) ℓ) : Prop :=
  True

def Pre_WgUpRefIdeal (m : (ℓ : Loc Cert.WgUpRefIdeal.nD Cert.WgUpRefIdeal.τ Cert.WgUpRefIdeal.sig) → Buf (Elt Ideal) ℓ) : Prop :=
  True

def Pre_WgDown (m : (ℓ : Loc Cert.WgDown.nD Cert.WgDown.τ Cert.WgDown.sig) → Buf (Elt Bits) ℓ) : Prop :=
  True

def Pre_WgDownIdeal (m : (ℓ : Loc Cert.WgDownIdeal.nD Cert.WgDownIdeal.τ Cert.WgDownIdeal.sig) → Buf (Elt Ideal) ℓ) : Prop :=
  True

def Pre_WgDownRefIdeal (m : (ℓ : Loc Cert.WgDownRefIdeal.nD Cert.WgDownRefIdeal.τ Cert.WgDownRefIdeal.sig) → Buf (Elt Ideal) ℓ) : Prop :=
  True

def Pre_WgProj (m : (ℓ : Loc Cert.WgProj.nD Cert.WgProj.τ Cert.WgProj.sig) → Buf (Elt Bits) ℓ) : Prop :=
  True

def Pre_WgProjIdeal (m : (ℓ : Loc Cert.WgProjIdeal.nD Cert.WgProjIdeal.τ Cert.WgProjIdeal.sig) → Buf (Elt Ideal) ℓ) : Prop :=
  True

def Pre_WgProjRefIdeal (m : (ℓ : Loc Cert.WgProjRefIdeal.nD Cert.WgProjRefIdeal.τ Cert.WgProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_all_real [hPre_all_real : Cert.Pre_all_real.Facts] (m : (ℓ : Loc Cert.MlpIdeal.nD Cert.MlpIdeal.τ Cert.MlpIdeal.sig) → Buf (Elt Ideal) ℓ) : Prop :=
  ∀ c : Dev Cert.MlpIdeal.nD,
    (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.2.1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.2.2.1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.2.2.2.1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.2.2.2.2.1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.2.2.2.2.2.1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.2.2.2.2.2.2.1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.2.2.2.2.2.2.2.1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.2.2.2.2.2.2.2.2.1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.2.2.2.2.2.2.2.2.2.1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.2.2.2.2.2.2.2.2.2.2.1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.2.2.2.2.2.2.2.2.2.2.2.1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.2.2.2.2.2.2.2.2.2.2.2.2.1 = (fun _ => 1#1)
    ∧ (Cert.Pre_all_real.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14))).2.2.2.2.2.2.2.2.2.2.2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_all_real [hPre_all_real : Cert.Pre_all_real.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.2.1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.2.2.1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.2.2.2.1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.2.2.2.2.1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.2.2.2.2.2.1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.2.2.2.2.2.2.1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.2.2.2.2.2.2.2.1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.2.2.2.2.2.2.2.2.1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.2.2.2.2.2.2.2.2.2.1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.2.2.2.2.2.2.2.2.2.2.1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.2.2.2.2.2.2.2.2.2.2.2.1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.2.2.2.2.2.2.2.2.2.2.2.2.1 = (fun _ => 1#1)
    ∧ (Cert.Pre_all_real.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14))).2.2.2.2.2.2.2.2.2.2.2.2.2.2 = (fun _ => 1#1)

def quiescent_WgUp [hWgUp : Cert.WgUp.Facts] : Prop :=
  ∀ (m : (ℓ : Loc Cert.WgUp.nD Cert.WgUp.τ Cert.WgUp.sig) → Buf (Elt Bits) ℓ) (g : Dev Cert.WgUp.nD → PrngReg), Pre_WgUp m →
    θ_run (Cert.WgUp.defs (F := Bits)) (onTc (τ := Cert.WgUp.τ) (Cert.WgUp.main (F := Bits))) ⟨m, fun _ => 0, g⟩ (fun r => (∀ c : Dev Cert.WgUp.nD,
      r.2.mem ((c.tc : Thread Cert.WgUp.nD Cert.WgUp.τ).loc Cert.WgUp.main_arg0) = m ((c.tc : Thread Cert.WgUp.nD Cert.WgUp.τ).loc Cert.WgUp.main_arg0)
      ∧ r.2.mem ((c.tc : Thread Cert.WgUp.nD Cert.WgUp.τ).loc Cert.WgUp.main_arg1) = m ((c.tc : Thread Cert.WgUp.nD Cert.WgUp.τ).loc Cert.WgUp.main_arg1))
      ∧ r.2.sem = fun _ => 0)

def quiescent_WgUpIdeal [hWgUpIdeal : Cert.WgUpIdeal.Facts] : Prop :=
  ∀ (m : (ℓ : Loc Cert.WgUpIdeal.nD Cert.WgUpIdeal.τ Cert.WgUpIdeal.sig) → Buf (Elt Ideal) ℓ) (g : Dev Cert.WgUpIdeal.nD → PrngReg), Pre_WgUpIdeal m →
    θ_run (Cert.WgUpIdeal.defs (F := Ideal)) (onTc (τ := Cert.WgUpIdeal.τ) (Cert.WgUpIdeal.main (F := Ideal))) ⟨m, fun _ => 0, g⟩ (fun r => (∀ c : Dev Cert.WgUpIdeal.nD,
      r.2.mem ((c.tc : Thread Cert.WgUpIdeal.nD Cert.WgUpIdeal.τ).loc Cert.WgUpIdeal.main_arg0) = m ((c.tc : Thread Cert.WgUpIdeal.nD Cert.WgUpIdeal.τ).loc Cert.WgUpIdeal.main_arg0)
      ∧ r.2.mem ((c.tc : Thread Cert.WgUpIdeal.nD Cert.WgUpIdeal.τ).loc Cert.WgUpIdeal.main_arg1) = m ((c.tc : Thread Cert.WgUpIdeal.nD Cert.WgUpIdeal.τ).loc Cert.WgUpIdeal.main_arg1))
      ∧ r.2.sem = fun _ => 0)

def quiescent_WgUpRefIdeal [hWgUpRefIdeal : Cert.WgUpRefIdeal.Facts] : Prop :=
  ∀ (m : (ℓ : Loc Cert.WgUpRefIdeal.nD Cert.WgUpRefIdeal.τ Cert.WgUpRefIdeal.sig) → Buf (Elt Ideal) ℓ) (g : Dev Cert.WgUpRefIdeal.nD → PrngReg), Pre_WgUpRefIdeal m →
    θ_run (Cert.WgUpRefIdeal.defs (F := Ideal)) (onTc (τ := Cert.WgUpRefIdeal.τ) (Cert.WgUpRefIdeal.main (F := Ideal))) ⟨m, fun _ => 0, g⟩ (fun r => (∀ c : Dev Cert.WgUpRefIdeal.nD,
      r.2.mem ((c.tc : Thread Cert.WgUpRefIdeal.nD Cert.WgUpRefIdeal.τ).loc Cert.WgUpRefIdeal.main_arg0) = m ((c.tc : Thread Cert.WgUpRefIdeal.nD Cert.WgUpRefIdeal.τ).loc Cert.WgUpRefIdeal.main_arg0)
      ∧ r.2.mem ((c.tc : Thread Cert.WgUpRefIdeal.nD Cert.WgUpRefIdeal.τ).loc Cert.WgUpRefIdeal.main_arg1) = m ((c.tc : Thread Cert.WgUpRefIdeal.nD Cert.WgUpRefIdeal.τ).loc Cert.WgUpRefIdeal.main_arg1))
      ∧ r.2.sem = fun _ => 0)

def quiescent_WgDown [hWgDown : Cert.WgDown.Facts] : Prop :=
  ∀ (m : (ℓ : Loc Cert.WgDown.nD Cert.WgDown.τ Cert.WgDown.sig) → Buf (Elt Bits) ℓ) (g : Dev Cert.WgDown.nD → PrngReg), Pre_WgDown m →
    θ_run (Cert.WgDown.defs (F := Bits)) (onTc (τ := Cert.WgDown.τ) (Cert.WgDown.main (F := Bits))) ⟨m, fun _ => 0, g⟩ (fun r => (∀ c : Dev Cert.WgDown.nD,
      r.2.mem ((c.tc : Thread Cert.WgDown.nD Cert.WgDown.τ).loc Cert.WgDown.main_arg0) = m ((c.tc : Thread Cert.WgDown.nD Cert.WgDown.τ).loc Cert.WgDown.main_arg0)
      ∧ r.2.mem ((c.tc : Thread Cert.WgDown.nD Cert.WgDown.τ).loc Cert.WgDown.main_arg1) = m ((c.tc : Thread Cert.WgDown.nD Cert.WgDown.τ).loc Cert.WgDown.main_arg1))
      ∧ r.2.sem = fun _ => 0)

def quiescent_WgDownIdeal [hWgDownIdeal : Cert.WgDownIdeal.Facts] : Prop :=
  ∀ (m : (ℓ : Loc Cert.WgDownIdeal.nD Cert.WgDownIdeal.τ Cert.WgDownIdeal.sig) → Buf (Elt Ideal) ℓ) (g : Dev Cert.WgDownIdeal.nD → PrngReg), Pre_WgDownIdeal m →
    θ_run (Cert.WgDownIdeal.defs (F := Ideal)) (onTc (τ := Cert.WgDownIdeal.τ) (Cert.WgDownIdeal.main (F := Ideal))) ⟨m, fun _ => 0, g⟩ (fun r => (∀ c : Dev Cert.WgDownIdeal.nD,
      r.2.mem ((c.tc : Thread Cert.WgDownIdeal.nD Cert.WgDownIdeal.τ).loc Cert.WgDownIdeal.main_arg0) = m ((c.tc : Thread Cert.WgDownIdeal.nD Cert.WgDownIdeal.τ).loc Cert.WgDownIdeal.main_arg0)
      ∧ r.2.mem ((c.tc : Thread Cert.WgDownIdeal.nD Cert.WgDownIdeal.τ).loc Cert.WgDownIdeal.main_arg1) = m ((c.tc : Thread Cert.WgDownIdeal.nD Cert.WgDownIdeal.τ).loc Cert.WgDownIdeal.main_arg1))
      ∧ r.2.sem = fun _ => 0)

def quiescent_WgDownRefIdeal [hWgDownRefIdeal : Cert.WgDownRefIdeal.Facts] : Prop :=
  ∀ (m : (ℓ : Loc Cert.WgDownRefIdeal.nD Cert.WgDownRefIdeal.τ Cert.WgDownRefIdeal.sig) → Buf (Elt Ideal) ℓ) (g : Dev Cert.WgDownRefIdeal.nD → PrngReg), Pre_WgDownRefIdeal m →
    θ_run (Cert.WgDownRefIdeal.defs (F := Ideal)) (onTc (τ := Cert.WgDownRefIdeal.τ) (Cert.WgDownRefIdeal.main (F := Ideal))) ⟨m, fun _ => 0, g⟩ (fun r => (∀ c : Dev Cert.WgDownRefIdeal.nD,
      r.2.mem ((c.tc : Thread Cert.WgDownRefIdeal.nD Cert.WgDownRefIdeal.τ).loc Cert.WgDownRefIdeal.main_arg0) = m ((c.tc : Thread Cert.WgDownRefIdeal.nD Cert.WgDownRefIdeal.τ).loc Cert.WgDownRefIdeal.main_arg0)
      ∧ r.2.mem ((c.tc : Thread Cert.WgDownRefIdeal.nD Cert.WgDownRefIdeal.τ).loc Cert.WgDownRefIdeal.main_arg1) = m ((c.tc : Thread Cert.WgDownRefIdeal.nD Cert.WgDownRefIdeal.τ).loc Cert.WgDownRefIdeal.main_arg1))
      ∧ r.2.sem = fun _ => 0)

def quiescent_WgProj [hWgProj : Cert.WgProj.Facts] : Prop :=
  ∀ (m : (ℓ : Loc Cert.WgProj.nD Cert.WgProj.τ Cert.WgProj.sig) → Buf (Elt Bits) ℓ) (g : Dev Cert.WgProj.nD → PrngReg), Pre_WgProj m →
    θ_run (Cert.WgProj.defs (F := Bits)) (onTc (τ := Cert.WgProj.τ) (Cert.WgProj.main (F := Bits))) ⟨m, fun _ => 0, g⟩ (fun r => (∀ c : Dev Cert.WgProj.nD,
      r.2.mem ((c.tc : Thread Cert.WgProj.nD Cert.WgProj.τ).loc Cert.WgProj.main_arg0) = m ((c.tc : Thread Cert.WgProj.nD Cert.WgProj.τ).loc Cert.WgProj.main_arg0)
      ∧ r.2.mem ((c.tc : Thread Cert.WgProj.nD Cert.WgProj.τ).loc Cert.WgProj.main_arg1) = m ((c.tc : Thread Cert.WgProj.nD Cert.WgProj.τ).loc Cert.WgProj.main_arg1))
      ∧ r.2.sem = fun _ => 0)

def quiescent_WgProjIdeal [hWgProjIdeal : Cert.WgProjIdeal.Facts] : Prop :=
  ∀ (m : (ℓ : Loc Cert.WgProjIdeal.nD Cert.WgProjIdeal.τ Cert.WgProjIdeal.sig) → Buf (Elt Ideal) ℓ) (g : Dev Cert.WgProjIdeal.nD → PrngReg), Pre_WgProjIdeal m →
    θ_run (Cert.WgProjIdeal.defs (F := Ideal)) (onTc (τ := Cert.WgProjIdeal.τ) (Cert.WgProjIdeal.main (F := Ideal))) ⟨m, fun _ => 0, g⟩ (fun r => (∀ c : Dev Cert.WgProjIdeal.nD,
      r.2.mem ((c.tc : Thread Cert.WgProjIdeal.nD Cert.WgProjIdeal.τ).loc Cert.WgProjIdeal.main_arg0) = m ((c.tc : Thread Cert.WgProjIdeal.nD Cert.WgProjIdeal.τ).loc Cert.WgProjIdeal.main_arg0)
      ∧ r.2.mem ((c.tc : Thread Cert.WgProjIdeal.nD Cert.WgProjIdeal.τ).loc Cert.WgProjIdeal.main_arg1) = m ((c.tc : Thread Cert.WgProjIdeal.nD Cert.WgProjIdeal.τ).loc Cert.WgProjIdeal.main_arg1))
      ∧ r.2.sem = fun _ => 0)

def quiescent_WgProjRefIdeal [hWgProjRefIdeal : Cert.WgProjRefIdeal.Facts] : Prop :=
  ∀ (m : (ℓ : Loc Cert.WgProjRefIdeal.nD Cert.WgProjRefIdeal.τ Cert.WgProjRefIdeal.sig) → Buf (Elt Ideal) ℓ) (g : Dev Cert.WgProjRefIdeal.nD → PrngReg), Pre_WgProjRefIdeal m →
    θ_run (Cert.WgProjRefIdeal.defs (F := Ideal)) (onTc (τ := Cert.WgProjRefIdeal.τ) (Cert.WgProjRefIdeal.main (F := Ideal))) ⟨m, fun _ => 0, g⟩ (fun r => (∀ c : Dev Cert.WgProjRefIdeal.nD,
      r.2.mem ((c.tc : Thread Cert.WgProjRefIdeal.nD Cert.WgProjRefIdeal.τ).loc Cert.WgProjRefIdeal.main_arg0) = m ((c.tc : Thread Cert.WgProjRefIdeal.nD Cert.WgProjRefIdeal.τ).loc Cert.WgProjRefIdeal.main_arg0)
      ∧ r.2.mem ((c.tc : Thread Cert.WgProjRefIdeal.nD Cert.WgProjRefIdeal.τ).loc Cert.WgProjRefIdeal.main_arg1) = m ((c.tc : Thread Cert.WgProjRefIdeal.nD Cert.WgProjRefIdeal.τ).loc Cert.WgProjRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12)
      ∧ r.2.mem ((c.tc : Thread Cert.Mlp.nD Cert.Mlp.τ).loc Cert.Mlp.main_arg13) = m ((c.tc : Thread Cert.Mlp.nD Cert.Mlp.τ).loc Cert.Mlp.main_arg13)
      ∧ r.2.mem ((c.tc : Thread Cert.Mlp.nD Cert.Mlp.τ).loc Cert.Mlp.main_arg14) = m ((c.tc : Thread Cert.Mlp.nD Cert.Mlp.τ).loc Cert.Mlp.main_arg14))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
      ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14))
      ∧ r.2.sem = fun _ => 0)

def quiescent_MlpIdeal_pre_all_real [hMlpIdeal : Cert.MlpIdeal.Facts] [hPre_all_real : Cert.Pre_all_real.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_all_real m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
      ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13)
      ∧ r.2.mem ((c.tc : Thread Cert.MlpRefIdeal.nD Cert.MlpRefIdeal.τ).loc Cert.MlpRefIdeal.main_arg14) = m ((c.tc : Thread Cert.MlpRefIdeal.nD Cert.MlpRefIdeal.τ).loc Cert.MlpRefIdeal.main_arg14))
      ∧ r.2.sem = fun _ => 0)

def quiescent_MlpRefIdeal_pre_all_real [hMlpRefIdeal : Cert.MlpRefIdeal.Facts] [hPre_all_real : Cert.Pre_all_real.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_all_real m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13)
      ∧ r.2.mem ((c.tc : Thread Cert.MlpRefIdeal.nD Cert.MlpRefIdeal.τ).loc Cert.MlpRefIdeal.main_arg14) = m ((c.tc : Thread Cert.MlpRefIdeal.nD Cert.MlpRefIdeal.τ).loc Cert.MlpRefIdeal.main_arg14))
      ∧ r.2.sem = fun _ => 0)

def preserves_WgUp_WgUpIdeal : Prop :=
  True

def algebraic_WgUpIdeal_WgUpRefIdeal [hWgUpIdeal : Cert.WgUpIdeal.Facts] [hWgUpRefIdeal : Cert.WgUpRefIdeal.Facts] : Prop :=
  ∀ (m : (ℓ : Loc Cert.WgUpIdeal.nD Cert.WgUpIdeal.τ Cert.WgUpIdeal.sig) → Buf (Elt Ideal) ℓ) (g : Dev Cert.WgUpIdeal.nD → PrngReg)
    (m' : (ℓ : Loc Cert.WgUpRefIdeal.nD Cert.WgUpRefIdeal.τ Cert.WgUpRefIdeal.sig) → Buf (Elt Ideal) ℓ) (g' : Dev Cert.WgUpRefIdeal.nD → PrngReg), Pre_WgUpIdeal m →
    (∀ c : Dev Cert.WgUpIdeal.nD,
      m' ((c.tc : Thread Cert.WgUpRefIdeal.nD Cert.WgUpRefIdeal.τ).loc Cert.WgUpRefIdeal.main_arg0) = m ((c.tc : Thread Cert.WgUpIdeal.nD Cert.WgUpIdeal.τ).loc Cert.WgUpIdeal.main_arg0)
      ∧ m' ((c.tc : Thread Cert.WgUpRefIdeal.nD Cert.WgUpRefIdeal.τ).loc Cert.WgUpRefIdeal.main_arg1) = m ((c.tc : Thread Cert.WgUpIdeal.nD Cert.WgUpIdeal.τ).loc Cert.WgUpIdeal.main_arg1)) →
    ∃ (v0 : (c : Dev Cert.WgUpIdeal.nD) → Buf (Elt Ideal) ((c.tc : Thread Cert.WgUpIdeal.nD Cert.WgUpIdeal.τ).loc Cert.WgUpIdeal.main_v0)),
      θ_run (Cert.WgUpIdeal.defs (F := Ideal)) (onTc (τ := Cert.WgUpIdeal.τ) (Cert.WgUpIdeal.main (F := Ideal))) ⟨m, fun _ => 0, g⟩ (fun r => ∀ c : Dev Cert.WgUpIdeal.nD,
          r.2.mem ((c.tc : Thread Cert.WgUpIdeal.nD Cert.WgUpIdeal.τ).loc Cert.WgUpIdeal.main_v0) = v0 c
          ∧ r.2.mem ((c.tc : Thread Cert.WgUpIdeal.nD Cert.WgUpIdeal.τ).loc Cert.WgUpIdeal.main_arg0) = m ((c.tc : Thread Cert.WgUpIdeal.nD Cert.WgUpIdeal.τ).loc Cert.WgUpIdeal.main_arg0)
          ∧ r.2.mem ((c.tc : Thread Cert.WgUpIdeal.nD Cert.WgUpIdeal.τ).loc Cert.WgUpIdeal.main_arg1) = m ((c.tc : Thread Cert.WgUpIdeal.nD Cert.WgUpIdeal.τ).loc Cert.WgUpIdeal.main_arg1))
      ∧ θ_run (Cert.WgUpRefIdeal.defs (F := Ideal)) (onTc (τ := Cert.WgUpRefIdeal.τ) (Cert.WgUpRefIdeal.main (F := Ideal))) ⟨m', fun _ => 0, g'⟩ (fun r => ∀ c : Dev Cert.WgUpRefIdeal.nD,
          r.2.mem ((c.tc : Thread Cert.WgUpRefIdeal.nD Cert.WgUpRefIdeal.τ).loc Cert.WgUpRefIdeal.main_v7) = v0 c
          ∧ r.2.mem ((c.tc : Thread Cert.WgUpRefIdeal.nD Cert.WgUpRefIdeal.τ).loc Cert.WgUpRefIdeal.main_arg0) = m' ((c.tc : Thread Cert.WgUpRefIdeal.nD Cert.WgUpRefIdeal.τ).loc Cert.WgUpRefIdeal.main_arg0)
          ∧ r.2.mem ((c.tc : Thread Cert.WgUpRefIdeal.nD Cert.WgUpRefIdeal.τ).loc Cert.WgUpRefIdeal.main_arg1) = m' ((c.tc : Thread Cert.WgUpRefIdeal.nD Cert.WgUpRefIdeal.τ).loc Cert.WgUpRefIdeal.main_arg1))

def preserves_WgDown_WgDownIdeal : Prop :=
  True

def algebraic_WgDownIdeal_WgDownRefIdeal [hWgDownIdeal : Cert.WgDownIdeal.Facts] [hWgDownRefIdeal : Cert.WgDownRefIdeal.Facts] : Prop :=
  ∀ (m : (ℓ : Loc Cert.WgDownIdeal.nD Cert.WgDownIdeal.τ Cert.WgDownIdeal.sig) → Buf (Elt Ideal) ℓ) (g : Dev Cert.WgDownIdeal.nD → PrngReg)
    (m' : (ℓ : Loc Cert.WgDownRefIdeal.nD Cert.WgDownRefIdeal.τ Cert.WgDownRefIdeal.sig) → Buf (Elt Ideal) ℓ) (g' : Dev Cert.WgDownRefIdeal.nD → PrngReg), Pre_WgDownIdeal m →
    (∀ c : Dev Cert.WgDownIdeal.nD,
      m' ((c.tc : Thread Cert.WgDownRefIdeal.nD Cert.WgDownRefIdeal.τ).loc Cert.WgDownRefIdeal.main_arg0) = m ((c.tc : Thread Cert.WgDownIdeal.nD Cert.WgDownIdeal.τ).loc Cert.WgDownIdeal.main_arg0)
      ∧ m' ((c.tc : Thread Cert.WgDownRefIdeal.nD Cert.WgDownRefIdeal.τ).loc Cert.WgDownRefIdeal.main_arg1) = m ((c.tc : Thread Cert.WgDownIdeal.nD Cert.WgDownIdeal.τ).loc Cert.WgDownIdeal.main_arg1)) →
    ∃ (v0 : (c : Dev Cert.WgDownIdeal.nD) → Buf (Elt Ideal) ((c.tc : Thread Cert.WgDownIdeal.nD Cert.WgDownIdeal.τ).loc Cert.WgDownIdeal.main_v0)),
      θ_run (Cert.WgDownIdeal.defs (F := Ideal)) (onTc (τ := Cert.WgDownIdeal.τ) (Cert.WgDownIdeal.main (F := Ideal))) ⟨m, fun _ => 0, g⟩ (fun r => ∀ c : Dev Cert.WgDownIdeal.nD,
          r.2.mem ((c.tc : Thread Cert.WgDownIdeal.nD Cert.WgDownIdeal.τ).loc Cert.WgDownIdeal.main_v0) = v0 c
          ∧ r.2.mem ((c.tc : Thread Cert.WgDownIdeal.nD Cert.WgDownIdeal.τ).loc Cert.WgDownIdeal.main_arg0) = m ((c.tc : Thread Cert.WgDownIdeal.nD Cert.WgDownIdeal.τ).loc Cert.WgDownIdeal.main_arg0)
          ∧ r.2.mem ((c.tc : Thread Cert.WgDownIdeal.nD Cert.WgDownIdeal.τ).loc Cert.WgDownIdeal.main_arg1) = m ((c.tc : Thread Cert.WgDownIdeal.nD Cert.WgDownIdeal.τ).loc Cert.WgDownIdeal.main_arg1))
      ∧ θ_run (Cert.WgDownRefIdeal.defs (F := Ideal)) (onTc (τ := Cert.WgDownRefIdeal.τ) (Cert.WgDownRefIdeal.main (F := Ideal))) ⟨m', fun _ => 0, g'⟩ (fun r => ∀ c : Dev Cert.WgDownRefIdeal.nD,
          r.2.mem ((c.tc : Thread Cert.WgDownRefIdeal.nD Cert.WgDownRefIdeal.τ).loc Cert.WgDownRefIdeal.main_v5) = v0 c
          ∧ r.2.mem ((c.tc : Thread Cert.WgDownRefIdeal.nD Cert.WgDownRefIdeal.τ).loc Cert.WgDownRefIdeal.main_arg0) = m' ((c.tc : Thread Cert.WgDownRefIdeal.nD Cert.WgDownRefIdeal.τ).loc Cert.WgDownRefIdeal.main_arg0)
          ∧ r.2.mem ((c.tc : Thread Cert.WgDownRefIdeal.nD Cert.WgDownRefIdeal.τ).loc Cert.WgDownRefIdeal.main_arg1) = m' ((c.tc : Thread Cert.WgDownRefIdeal.nD Cert.WgDownRefIdeal.τ).loc Cert.WgDownRefIdeal.main_arg1))

def preserves_WgProj_WgProjIdeal : Prop :=
  True

def algebraic_WgProjIdeal_WgProjRefIdeal [hWgProjIdeal : Cert.WgProjIdeal.Facts] [hWgProjRefIdeal : Cert.WgProjRefIdeal.Facts] : Prop :=
  ∀ (m : (ℓ : Loc Cert.WgProjIdeal.nD Cert.WgProjIdeal.τ Cert.WgProjIdeal.sig) → Buf (Elt Ideal) ℓ) (g : Dev Cert.WgProjIdeal.nD → PrngReg)
    (m' : (ℓ : Loc Cert.WgProjRefIdeal.nD Cert.WgProjRefIdeal.τ Cert.WgProjRefIdeal.sig) → Buf (Elt Ideal) ℓ) (g' : Dev Cert.WgProjRefIdeal.nD → PrngReg), Pre_WgProjIdeal m →
    (∀ c : Dev Cert.WgProjIdeal.nD,
      m' ((c.tc : Thread Cert.WgProjRefIdeal.nD Cert.WgProjRefIdeal.τ).loc Cert.WgProjRefIdeal.main_arg0) = m ((c.tc : Thread Cert.WgProjIdeal.nD Cert.WgProjIdeal.τ).loc Cert.WgProjIdeal.main_arg0)
      ∧ m' ((c.tc : Thread Cert.WgProjRefIdeal.nD Cert.WgProjRefIdeal.τ).loc Cert.WgProjRefIdeal.main_arg1) = m ((c.tc : Thread Cert.WgProjIdeal.nD Cert.WgProjIdeal.τ).loc Cert.WgProjIdeal.main_arg1)) →
    ∃ (v0 : (c : Dev Cert.WgProjIdeal.nD) → Buf (Elt Ideal) ((c.tc : Thread Cert.WgProjIdeal.nD Cert.WgProjIdeal.τ).loc Cert.WgProjIdeal.main_v0)),
      θ_run (Cert.WgProjIdeal.defs (F := Ideal)) (onTc (τ := Cert.WgProjIdeal.τ) (Cert.WgProjIdeal.main (F := Ideal))) ⟨m, fun _ => 0, g⟩ (fun r => ∀ c : Dev Cert.WgProjIdeal.nD,
          r.2.mem ((c.tc : Thread Cert.WgProjIdeal.nD Cert.WgProjIdeal.τ).loc Cert.WgProjIdeal.main_v0) = v0 c
          ∧ r.2.mem ((c.tc : Thread Cert.WgProjIdeal.nD Cert.WgProjIdeal.τ).loc Cert.WgProjIdeal.main_arg0) = m ((c.tc : Thread Cert.WgProjIdeal.nD Cert.WgProjIdeal.τ).loc Cert.WgProjIdeal.main_arg0)
          ∧ r.2.mem ((c.tc : Thread Cert.WgProjIdeal.nD Cert.WgProjIdeal.τ).loc Cert.WgProjIdeal.main_arg1) = m ((c.tc : Thread Cert.WgProjIdeal.nD Cert.WgProjIdeal.τ).loc Cert.WgProjIdeal.main_arg1))
      ∧ θ_run (Cert.WgProjRefIdeal.defs (F := Ideal)) (onTc (τ := Cert.WgProjRefIdeal.τ) (Cert.WgProjRefIdeal.main (F := Ideal))) ⟨m', fun _ => 0, g'⟩ (fun r => ∀ c : Dev Cert.WgProjRefIdeal.nD,
          r.2.mem ((c.tc : Thread Cert.WgProjRefIdeal.nD Cert.WgProjRefIdeal.τ).loc Cert.WgProjRefIdeal.main_v7) = v0 c
          ∧ r.2.mem ((c.tc : Thread Cert.WgProjRefIdeal.nD Cert.WgProjRefIdeal.τ).loc Cert.WgProjRefIdeal.main_arg0) = m' ((c.tc : Thread Cert.WgProjRefIdeal.nD Cert.WgProjRefIdeal.τ).loc Cert.WgProjRefIdeal.main_arg0)
          ∧ r.2.mem ((c.tc : Thread Cert.WgProjRefIdeal.nD Cert.WgProjRefIdeal.τ).loc Cert.WgProjRefIdeal.main_arg1) = m' ((c.tc : Thread Cert.WgProjRefIdeal.nD Cert.WgProjRefIdeal.τ).loc Cert.WgProjRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v1_0)) (v1 : (c : Dev Cert.MixIdeal.nD) → Buf (Elt Ideal) ((c.tc : Thread Cert.MixIdeal.nD Cert.MixIdeal.τ).loc Cert.MixIdeal.main_v1_1)) (v2 : (c : Dev Cert.MixIdeal.nD) → Buf (Elt Ideal) ((c.tc : Thread Cert.MixIdeal.nD Cert.MixIdeal.τ).loc Cert.MixIdeal.main_v1_2)) (v3 : (c : Dev Cert.MixIdeal.nD) → Buf (Elt Ideal) ((c.tc : Thread Cert.MixIdeal.nD Cert.MixIdeal.τ).loc Cert.MixIdeal.main_v1_3)) (v4 : (c : Dev Cert.MixIdeal.nD) → Buf (Elt Ideal) ((c.tc : Thread Cert.MixIdeal.nD Cert.MixIdeal.τ).loc Cert.MixIdeal.main_v1_4)) (v5 : (c : Dev Cert.MixIdeal.nD) → Buf (Elt Ideal) ((c.tc : Thread Cert.MixIdeal.nD Cert.MixIdeal.τ).loc Cert.MixIdeal.main_v1_5)) (v6 : (c : Dev Cert.MixIdeal.nD) → Buf (Elt Ideal) ((c.tc : Thread Cert.MixIdeal.nD Cert.MixIdeal.τ).loc Cert.MixIdeal.main_v1_6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1_0) = v0 c
          ∧ r.2.mem ((c.tc : Thread Cert.MixIdeal.nD Cert.MixIdeal.τ).loc Cert.MixIdeal.main_v1_1) = v1 c
          ∧ r.2.mem ((c.tc : Thread Cert.MixIdeal.nD Cert.MixIdeal.τ).loc Cert.MixIdeal.main_v1_2) = v2 c
          ∧ r.2.mem ((c.tc : Thread Cert.MixIdeal.nD Cert.MixIdeal.τ).loc Cert.MixIdeal.main_v1_3) = v3 c
          ∧ r.2.mem ((c.tc : Thread Cert.MixIdeal.nD Cert.MixIdeal.τ).loc Cert.MixIdeal.main_v1_4) = v4 c
          ∧ r.2.mem ((c.tc : Thread Cert.MixIdeal.nD Cert.MixIdeal.τ).loc Cert.MixIdeal.main_v1_5) = v5 c
          ∧ r.2.mem ((c.tc : Thread Cert.MixIdeal.nD Cert.MixIdeal.τ).loc Cert.MixIdeal.main_v1_6) = v6 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v48) = v0 c
          ∧ r.2.mem ((c.tc : Thread Cert.MixRefIdeal.nD Cert.MixRefIdeal.τ).loc Cert.MixRefIdeal.main_v49) = v1 c
          ∧ r.2.mem ((c.tc : Thread Cert.MixRefIdeal.nD Cert.MixRefIdeal.τ).loc Cert.MixRefIdeal.main_v50) = v2 c
          ∧ r.2.mem ((c.tc : Thread Cert.MixRefIdeal.nD Cert.MixRefIdeal.τ).loc Cert.MixRefIdeal.main_v51) = v3 c
          ∧ r.2.mem ((c.tc : Thread Cert.MixRefIdeal.nD Cert.MixRefIdeal.τ).loc Cert.MixRefIdeal.main_v29) = v4 c
          ∧ r.2.mem ((c.tc : Thread Cert.MixRefIdeal.nD Cert.MixRefIdeal.τ).loc Cert.MixRefIdeal.main_v53) = v5 c
          ∧ r.2.mem ((c.tc : Thread Cert.MixRefIdeal.nD Cert.MixRefIdeal.τ).loc Cert.MixRefIdeal.main_v55) = v6 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5) = v0 c
          ∧ r.2.mem ((c.tc : Thread Cert.InProjRefIdeal.nD Cert.InProjRefIdeal.τ).loc Cert.InProjRefIdeal.main_v6) = v1 c
          ∧ r.2.mem ((c.tc : Thread Cert.InProjRefIdeal.nD Cert.InProjRefIdeal.τ).loc Cert.InProjRefIdeal.main_v7) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v11) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2))

def preserves_Mlp_MlpIdeal : Prop :=
  True

def algebraic_MlpIdeal_MlpRefIdeal_pre_all_real [hMlpIdeal : Cert.MlpIdeal.Facts] [hMlpRefIdeal : Cert.MlpRefIdeal.Facts] [hPre_all_real : Cert.Pre_all_real.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_all_real m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)
      ∧ m' ((c.tc : Thread Cert.MlpRefIdeal.nD Cert.MlpRefIdeal.τ).loc Cert.MlpRefIdeal.main_arg12) = m ((c.tc : Thread Cert.MlpIdeal.nD Cert.MlpIdeal.τ).loc Cert.MlpIdeal.main_arg12)
      ∧ m' ((c.tc : Thread Cert.MlpRefIdeal.nD Cert.MlpRefIdeal.τ).loc Cert.MlpRefIdeal.main_arg13) = m ((c.tc : Thread Cert.MlpIdeal.nD Cert.MlpIdeal.τ).loc Cert.MlpIdeal.main_arg13)
      ∧ m' ((c.tc : Thread Cert.MlpRefIdeal.nD Cert.MlpRefIdeal.τ).loc Cert.MlpRefIdeal.main_arg14) = m ((c.tc : Thread Cert.MlpIdeal.nD Cert.MlpIdeal.τ).loc Cert.MlpIdeal.main_arg14)) →
    ∃ (v0 : (c : Dev Cert.MlpIdeal.nD) → Buf (Elt Ideal) ((c.tc : Thread Cert.MlpIdeal.nD Cert.MlpIdeal.τ).loc Cert.MlpIdeal.main_v5_0)) (v1 : (c : Dev Cert.MlpIdeal.nD) → Buf (Elt Ideal) ((c.tc : Thread Cert.MlpIdeal.nD Cert.MlpIdeal.τ).loc Cert.MlpIdeal.main_v5_1)) (v2 : (c : Dev Cert.MlpIdeal.nD) → Buf (Elt Ideal) ((c.tc : Thread Cert.MlpIdeal.nD Cert.MlpIdeal.τ).loc Cert.MlpIdeal.main_v5_2)) (v3 : (c : Dev Cert.MlpIdeal.nD) → Buf (Elt Ideal) ((c.tc : Thread Cert.MlpIdeal.nD Cert.MlpIdeal.τ).loc Cert.MlpIdeal.main_v5_3)) (v4 : (c : Dev Cert.MlpIdeal.nD) → Buf (Elt Ideal) ((c.tc : Thread Cert.MlpIdeal.nD Cert.MlpIdeal.τ).loc Cert.MlpIdeal.main_v5_4)) (v5 : (c : Dev Cert.MlpIdeal.nD) → Buf (Elt Ideal) ((c.tc : Thread Cert.MlpIdeal.nD Cert.MlpIdeal.τ).loc Cert.MlpIdeal.main_v5_5)) (v6 : (c : Dev Cert.MlpIdeal.nD) → Buf (Elt Ideal) ((c.tc : Thread Cert.MlpIdeal.nD Cert.MlpIdeal.τ).loc Cert.MlpIdeal.main_v5_6)) (v7 : (c : Dev Cert.MlpIdeal.nD) → Buf (Elt Ideal) ((c.tc : Thread Cert.MlpIdeal.nD Cert.MlpIdeal.τ).loc Cert.MlpIdeal.main_v5_7)) (v8 : (c : Dev Cert.MlpIdeal.nD) → Buf (Elt Ideal) ((c.tc : Thread Cert.MlpIdeal.nD Cert.MlpIdeal.τ).loc Cert.MlpIdeal.main_v5_8)) (v9 : (c : Dev Cert.MlpIdeal.nD) → Buf (Elt Ideal) ((c.tc : Thread Cert.MlpIdeal.nD Cert.MlpIdeal.τ).loc Cert.MlpIdeal.main_v5_9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5_0) = v0 c
          ∧ r.2.mem ((c.tc : Thread Cert.MlpIdeal.nD Cert.MlpIdeal.τ).loc Cert.MlpIdeal.main_v5_1) = v1 c
          ∧ r.2.mem ((c.tc : Thread Cert.MlpIdeal.nD Cert.MlpIdeal.τ).loc Cert.MlpIdeal.main_v5_2) = v2 c
          ∧ r.2.mem ((c.tc : Thread Cert.MlpIdeal.nD Cert.MlpIdeal.τ).loc Cert.MlpIdeal.main_v5_3) = v3 c
          ∧ r.2.mem ((c.tc : Thread Cert.MlpIdeal.nD Cert.MlpIdeal.τ).loc Cert.MlpIdeal.main_v5_4) = v4 c
          ∧ r.2.mem ((c.tc : Thread Cert.MlpIdeal.nD Cert.MlpIdeal.τ).loc Cert.MlpIdeal.main_v5_5) = v5 c
          ∧ r.2.mem ((c.tc : Thread Cert.MlpIdeal.nD Cert.MlpIdeal.τ).loc Cert.MlpIdeal.main_v5_6) = v6 c
          ∧ r.2.mem ((c.tc : Thread Cert.MlpIdeal.nD Cert.MlpIdeal.τ).loc Cert.MlpIdeal.main_v5_7) = v7 c
          ∧ r.2.mem ((c.tc : Thread Cert.MlpIdeal.nD Cert.MlpIdeal.τ).loc Cert.MlpIdeal.main_v5_8) = v8 c
          ∧ r.2.mem ((c.tc : Thread Cert.MlpIdeal.nD Cert.MlpIdeal.τ).loc Cert.MlpIdeal.main_v5_9) = v9 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
          ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
          ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v191) = v0 c
          ∧ r.2.mem ((c.tc : Thread Cert.MlpRefIdeal.nD Cert.MlpRefIdeal.τ).loc Cert.MlpRefIdeal.main_v192) = v1 c
          ∧ r.2.mem ((c.tc : Thread Cert.MlpRefIdeal.nD Cert.MlpRefIdeal.τ).loc Cert.MlpRefIdeal.main_v193) = v2 c
          ∧ r.2.mem ((c.tc : Thread Cert.MlpRefIdeal.nD Cert.MlpRefIdeal.τ).loc Cert.MlpRefIdeal.main_v194) = v3 c
          ∧ r.2.mem ((c.tc : Thread Cert.MlpRefIdeal.nD Cert.MlpRefIdeal.τ).loc Cert.MlpRefIdeal.main_v190) = v4 c
          ∧ r.2.mem ((c.tc : Thread Cert.MlpRefIdeal.nD Cert.MlpRefIdeal.τ).loc Cert.MlpRefIdeal.main_v195) = v5 c
          ∧ r.2.mem ((c.tc : Thread Cert.MlpRefIdeal.nD Cert.MlpRefIdeal.τ).loc Cert.MlpRefIdeal.main_v196) = v6 c
          ∧ r.2.mem ((c.tc : Thread Cert.MlpRefIdeal.nD Cert.MlpRefIdeal.τ).loc Cert.MlpRefIdeal.main_v197) = v7 c
          ∧ r.2.mem ((c.tc : Thread Cert.MlpRefIdeal.nD Cert.MlpRefIdeal.τ).loc Cert.MlpRefIdeal.main_v198) = v8 c
          ∧ r.2.mem ((c.tc : Thread Cert.MlpRefIdeal.nD Cert.MlpRefIdeal.τ).loc Cert.MlpRefIdeal.main_v199) = v9 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11)
          ∧ r.2.mem ((c.tc : Thread Cert.MlpRefIdeal.nD Cert.MlpRefIdeal.τ).loc Cert.MlpRefIdeal.main_arg12) = m' ((c.tc : Thread Cert.MlpRefIdeal.nD Cert.MlpRefIdeal.τ).loc Cert.MlpRefIdeal.main_arg12)
          ∧ r.2.mem ((c.tc : Thread Cert.MlpRefIdeal.nD Cert.MlpRefIdeal.τ).loc Cert.MlpRefIdeal.main_arg13) = m' ((c.tc : Thread Cert.MlpRefIdeal.nD Cert.MlpRefIdeal.τ).loc Cert.MlpRefIdeal.main_arg13)
          ∧ r.2.mem ((c.tc : Thread Cert.MlpRefIdeal.nD Cert.MlpRefIdeal.τ).loc Cert.MlpRefIdeal.main_arg14) = m' ((c.tc : Thread Cert.MlpRefIdeal.nD Cert.MlpRefIdeal.τ).loc Cert.MlpRefIdeal.main_arg14))

def Claim : Prop :=
  ∃ (hWgUp : Cert.WgUp.Facts) (hWgUpIdeal : Cert.WgUpIdeal.Facts) (hWgUpRefIdeal : Cert.WgUpRefIdeal.Facts) (hWgDown : Cert.WgDown.Facts) (hWgDownIdeal : Cert.WgDownIdeal.Facts) (hWgDownRefIdeal : Cert.WgDownRefIdeal.Facts) (hWgProj : Cert.WgProj.Facts) (hWgProjIdeal : Cert.WgProjIdeal.Facts) (hWgProjRefIdeal : Cert.WgProjRefIdeal.Facts) (hMix : Cert.Mix.Facts) (hMixIdeal : Cert.MixIdeal.Facts) (hMixRefIdeal : Cert.MixRefIdeal.Facts) (hInProj : Cert.InProj.Facts) (hInProjIdeal : Cert.InProjIdeal.Facts) (hInProjRefIdeal : Cert.InProjRefIdeal.Facts) (hInGrad : Cert.InGrad.Facts) (hInGradIdeal : Cert.InGradIdeal.Facts) (hInGradRefIdeal : Cert.InGradRefIdeal.Facts) (hMlp : Cert.Mlp.Facts) (hMlpIdeal : Cert.MlpIdeal.Facts) (hMlpRefIdeal : Cert.MlpRefIdeal.Facts) (hPre_all_real : Cert.Pre_all_real.Facts),
    quiescent_WgUp (hWgUp := hWgUp)
    ∧ quiescent_WgUpIdeal (hWgUpIdeal := hWgUpIdeal)
    ∧ quiescent_WgUpRefIdeal (hWgUpRefIdeal := hWgUpRefIdeal)
    ∧ quiescent_WgDown (hWgDown := hWgDown)
    ∧ quiescent_WgDownIdeal (hWgDownIdeal := hWgDownIdeal)
    ∧ quiescent_WgDownRefIdeal (hWgDownRefIdeal := hWgDownRefIdeal)
    ∧ quiescent_WgProj (hWgProj := hWgProj)
    ∧ quiescent_WgProjIdeal (hWgProjIdeal := hWgProjIdeal)
    ∧ quiescent_WgProjRefIdeal (hWgProjRefIdeal := hWgProjRefIdeal)
    ∧ quiescent_Mix (hMix := hMix)
    ∧ quiescent_MixIdeal (hMixIdeal := hMixIdeal)
    ∧ quiescent_MixRefIdeal (hMixRefIdeal := hMixRefIdeal)
    ∧ quiescent_InProj (hInProj := hInProj)
    ∧ quiescent_InProjIdeal (hInProjIdeal := hInProjIdeal)
    ∧ quiescent_InProjRefIdeal (hInProjRefIdeal := hInProjRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_Mlp (hMlp := hMlp)
    ∧ quiescent_MlpIdeal (hMlpIdeal := hMlpIdeal)
    ∧ quiescent_MlpIdeal_pre_all_real (hMlpIdeal := hMlpIdeal) (hPre_all_real := hPre_all_real)
    ∧ quiescent_MlpRefIdeal (hMlpRefIdeal := hMlpRefIdeal)
    ∧ quiescent_MlpRefIdeal_pre_all_real (hMlpRefIdeal := hMlpRefIdeal) (hPre_all_real := hPre_all_real)
    ∧ preserves_WgUp_WgUpIdeal
    ∧ algebraic_WgUpIdeal_WgUpRefIdeal (hWgUpIdeal := hWgUpIdeal) (hWgUpRefIdeal := hWgUpRefIdeal)
    ∧ preserves_WgDown_WgDownIdeal
    ∧ algebraic_WgDownIdeal_WgDownRefIdeal (hWgDownIdeal := hWgDownIdeal) (hWgDownRefIdeal := hWgDownRefIdeal)
    ∧ preserves_WgProj_WgProjIdeal
    ∧ algebraic_WgProjIdeal_WgProjRefIdeal (hWgProjIdeal := hWgProjIdeal) (hWgProjRefIdeal := hWgProjRefIdeal)
    ∧ preserves_Mix_MixIdeal
    ∧ algebraic_MixIdeal_MixRefIdeal (hMixIdeal := hMixIdeal) (hMixRefIdeal := hMixRefIdeal)
    ∧ preserves_InProj_InProjIdeal
    ∧ algebraic_InProjIdeal_InProjRefIdeal (hInProjIdeal := hInProjIdeal) (hInProjRefIdeal := hInProjRefIdeal)
    ∧ preserves_InGrad_InGradIdeal
    ∧ algebraic_InGradIdeal_InGradRefIdeal (hInGradIdeal := hInGradIdeal) (hInGradRefIdeal := hInGradRefIdeal)
    ∧ preserves_Mlp_MlpIdeal
    ∧ algebraic_MlpIdeal_MlpRefIdeal_pre_all_real (hMlpIdeal := hMlpIdeal) (hMlpRefIdeal := hMlpRefIdeal) (hPre_all_real := hPre_all_real)
-- ==== Pre_all_real.lean ====
abbrev S4096x1024 : Shape := ⟨2, ![4096, 1024]⟩
abbrev S4096x512 : Shape := ⟨2, ![4096, 512]⟩
abbrev S4096x2048 : Shape := ⟨2, ![4096, 2048]⟩
abbrev S2048 : Shape := ⟨1, ![2048]⟩
abbrev S8x512x128 : Shape := ⟨3, ![8, 512, 128]⟩
abbrev S1024x1024 : Shape := ⟨2, ![1024, 1024]⟩
abbrev S8x1024x512 : Shape := ⟨3, ![8, 1024, 512]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S4096x2048 : S_.BroadcastsInDim S4096x2048 (![] : Fin 0 → Fin S4096x2048.rank)
  bcast_S_S2048 : S_.BroadcastsInDim S2048 (![] : Fin 0 → Fin S2048.rank)
  bcast_S_S8x512x128 : S_.BroadcastsInDim S8x512x128 (![] : Fin 0 → Fin S8x512x128.rank)
  bcast_S_S1024x1024 : S_.BroadcastsInDim S1024x1024 (![] : Fin 0 → Fin S1024x1024.rank)
  bcast_S_S8x1024x512 : S_.BroadcastsInDim S8x1024x512 (![] : Fin 0 → Fin S8x1024x512.rank)
  bcast_S_S1024 : S_.BroadcastsInDim S1024 (![] : Fin 0 → Fin S1024.rank)

variable [Facts]

def fn_part4 {F : FTy → Type} [FloatOps F] (main_arg13 : FVec F S1024 .f32) (main_arg14 : FVec F S1024 .f32) (main_v4 : IVec S4096x1024 1) (main_v9 : IVec S4096x512 1) (main_v14 : IVec S4096x512 1) (main_v19 : IVec S4096x2048 1) (main_v24 : IVec S2048 1) (main_v29 : IVec S8x512x128 1) (main_v34 : IVec S8x512x128 1) (main_v39 : IVec S1024x1024 1) (main_v44 : IVec S4096x1024 1) (main_v49 : IVec S8x1024x512 1) (main_v54 : IVec S4096x1024 1) (main_v59 : IVec S1024 1) (main_v64 : IVec S1024 1) (main_v66 : IVec S1024 1) (main_v67 : FVec F S1024 .f32) : IVec S4096x1024 1 × IVec S4096x512 1 × IVec S4096x512 1 × IVec S4096x2048 1 × IVec S2048 1 × IVec S8x512x128 1 × IVec S8x512x128 1 × IVec S1024x1024 1 × IVec S4096x1024 1 × IVec S8x1024x512 1 × IVec S4096x1024 1 × IVec S1024 1 × IVec S1024 1 × IVec S1024 1 × IVec S1024 1 :=
  let main_v68 : IVec S1024 1 := cmpf .olt main_arg13 main_v67
  let main_v69 : IVec S1024 1 := andi main_v66 main_v68
  let main_cst_27 : FVec F S_ .f32 := constant S_ .f32 0xFF800000#32
  let main_v70 : FVec F S1024 .f32 := broadcastInDim S1024 ![] bcast_S_S1024 main_cst_27
  let main_v71 : IVec S1024 1 := cmpf .ogt main_arg14 main_v70
  let main_cst_28 : FVec F S_ .f32 := constant S_ .f32 0x7F800000#32
  let main_v72 : FVec F S1024 .f32 := broadcastInDim S1024 ![] bcast_S_S1024 main_cst_28
  let main_v73 : IVec S1024 1 := cmpf .olt main_arg14 main_v72
  let main_v74 : IVec S1024 1 := andi main_v71 main_v73
  (main_v4, main_v9, main_v14, main_v19, main_v24, main_v29, main_v34, main_v39, main_v44, main_v49, main_v54, main_v59, main_v64, main_v69, main_v74)

def fn_part3 {F : FTy → Type} [FloatOps F] (main_arg10 : FVec F S4096x1024 .bf16) (main_arg11 : FVec F S1024 .f32) (main_arg12 : FVec F S1024 .f32) (main_arg13 : FVec F S1024 .f32) (main_arg14 : FVec F S1024 .f32) (main_v4 : IVec S4096x1024 1) (main_v9 : IVec S4096x512 1) (main_v14 : IVec S4096x512 1) (main_v19 : IVec S4096x2048 1) (main_v24 : IVec S2048 1) (main_v29 : IVec S8x512x128 1) (main_v34 : IVec S8x512x128 1) (main_v39 : IVec S1024x1024 1) (main_v44 : IVec S4096x1024 1) (main_v49 : IVec S8x1024x512 1) (main_v50 : FVec F S4096x1024 .bf16) : IVec S4096x1024 1 × IVec S4096x512 1 × IVec S4096x512 1 × IVec S4096x2048 1 × IVec S2048 1 × IVec S8x512x128 1 × IVec S8x512x128 1 × IVec S1024x1024 1 × IVec S4096x1024 1 × IVec S8x1024x512 1 × IVec S4096x1024 1 × IVec S1024 1 × IVec S1024 1 × IVec S1024 1 × IVec S1024 1 :=
  let main_v51 : IVec S4096x1024 1 := cmpf .ogt main_arg10 main_v50
  let main_cst_20 : FVec F S_ .bf16 := constant S_ .bf16 0x7F80#16
  let main_v52 : FVec F S4096x1024 .bf16 := broadcastInDim S4096x1024 ![] bcast_S_S4096x1024 main_cst_20
  let main_v53 : IVec S4096x1024 1 := cmpf .olt main_arg10 main_v52
  let main_v54 : IVec S4096x1024 1 := andi main_v51 main_v53
  let main_cst_21 : FVec F S_ .f32 := constant S_ .f32 0xFF800000#32
  let main_v55 : FVec F S1024 .f32 := broadcastInDim S1024 ![] bcast_S_S1024 main_cst_21
  let main_v56 : IVec S1024 1 := cmpf .ogt main_arg11 main_v55
  let main_cst_22 : FVec F S_ .f32 := constant S_ .f32 0x7F800000#32
  let main_v57 : FVec F S1024 .f32 := broadcastInDim S1024 ![] bcast_S_S1024 main_cst_22
  let main_v58 : IVec S1024 1 := cmpf .olt main_arg11 main_v57
  let main_v59 : IVec S1024 1 := andi main_v56 main_v58
  let main_cst_23 : FVec F S_ .f32 := constant S_ .f32 0xFF800000#32
  let main_v60 : FVec F S1024 .f32 := broadcastInDim S1024 ![] bcast_S_S1024 main_cst_23
  let main_v61 : IVec S1024 1 := cmpf .ogt main_arg12 main_v60
  let main_cst_24 : FVec F S_ .f32 := constant S_ .f32 0x7F800000#32
  let main_v62 : FVec F S1024 .f32 := broadcastInDim S1024 ![] bcast_S_S1024 main_cst_24
  let main_v63 : IVec S1024 1 := cmpf .olt main_arg12 main_v62
  let main_v64 : IVec S1024 1 := andi main_v61 main_v63
  let main_cst_25 : FVec F S_ .f32 := constant S_ .f32 0xFF800000#32
  let main_v65 : FVec F S1024 .f32 := broadcastInDim S1024 ![] bcast_S_S1024 main_cst_25
  let main_v66 : IVec S1024 1 := cmpf .ogt main_arg13 main_v65
  let main_cst_26 : FVec F S_ .f32 := constant S_ .f32 0x7F800000#32
  let main_v67 : FVec F S1024 .f32 := broadcastInDim S1024 ![] bcast_S_S1024 main_cst_26
  fn_part4 (F := F) main_arg13 main_arg14 main_v4 main_v9 main_v14 main_v19 main_v24 main_v29 main_v34 main_v39 main_v44 main_v49 main_v54 main_v59 main_v64 main_v66 main_v67

def fn_part2 {F : FTy → Type} [FloatOps F] (main_arg7 : FVec F S1024x1024 .bf16) (main_arg8 : FVec F S4096x1024 .f32) (main_arg9 : FVec F S8x1024x512 .bf16) (main_arg10 : FVec F S4096x1024 .bf16) (main_arg11 : FVec F S1024 .f32) (main_arg12 : FVec F S1024 .f32) (main_arg13 : FVec F S1024 .f32) (main_arg14 : FVec F S1024 .f32) (main_v4 : IVec S4096x1024 1) (main_v9 : IVec S4096x512 1) (main_v14 : IVec S4096x512 1) (main_v19 : IVec S4096x2048 1) (main_v24 : IVec S2048 1) (main_v29 : IVec S8x512x128 1) (main_v31 : IVec S8x512x128 1) (main_v33 : IVec S8x512x128 1) : IVec S4096x1024 1 × IVec S4096x512 1 × IVec S4096x512 1 × IVec S4096x2048 1 × IVec S2048 1 × IVec S8x512x128 1 × IVec S8x512x128 1 × IVec S1024x1024 1 × IVec S4096x1024 1 × IVec S8x1024x512 1 × IVec S4096x1024 1 × IVec S1024 1 × IVec S1024 1 × IVec S1024 1 × IVec S1024 1 :=
  let main_v34 : IVec S8x512x128 1 := andi main_v31 main_v33
  let main_cst_13 : FVec F S_ .bf16 := constant S_ .bf16 0xFF80#16
  let main_v35 : FVec F S1024x1024 .bf16 := broadcastInDim S1024x1024 ![] bcast_S_S1024x1024 main_cst_13
  let main_v36 : IVec S1024x1024 1 := cmpf .ogt main_arg7 main_v35
  let main_cst_14 : FVec F S_ .bf16 := constant S_ .bf16 0x7F80#16
  let main_v37 : FVec F S1024x1024 .bf16 := broadcastInDim S1024x1024 ![] bcast_S_S1024x1024 main_cst_14
  let main_v38 : IVec S1024x1024 1 := cmpf .olt main_arg7 main_v37
  let main_v39 : IVec S1024x1024 1 := andi main_v36 main_v38
  let main_cst_15 : FVec F S_ .f32 := constant S_ .f32 0xFF800000#32
  let main_v40 : FVec F S4096x1024 .f32 := broadcastInDim S4096x1024 ![] bcast_S_S4096x1024 main_cst_15
  let main_v41 : IVec S4096x1024 1 := cmpf .ogt main_arg8 main_v40
  let main_cst_16 : FVec F S_ .f32 := constant S_ .f32 0x7F800000#32
  let main_v42 : FVec F S4096x1024 .f32 := broadcastInDim S4096x1024 ![] bcast_S_S4096x1024 main_cst_16
  let main_v43 : IVec S4096x1024 1 := cmpf .olt main_arg8 main_v42
  let main_v44 : IVec S4096x1024 1 := andi main_v41 main_v43
  let main_cst_17 : FVec F S_ .bf16 := constant S_ .bf16 0xFF80#16
  let main_v45 : FVec F S8x1024x512 .bf16 := broadcastInDim S8x1024x512 ![] bcast_S_S8x1024x512 main_cst_17
  let main_v46 : IVec S8x1024x512 1 := cmpf .ogt main_arg9 main_v45
  let main_cst_18 : FVec F S_ .bf16 := constant S_ .bf16 0x7F80#16
  let main_v47 : FVec F S8x1024x512 .bf16 := broadcastInDim S8x1024x512 ![] bcast_S_S8x1024x512 main_cst_18
  let main_v48 : IVec S8x1024x512 1 := cmpf .olt main_arg9 main_v47
  let main_v49 : IVec S8x1024x512 1 := andi main_v46 main_v48
  let main_cst_19 : FVec F S_ .bf16 := constant S_ .bf16 0xFF80#16
  let main_v50 : FVec F S4096x1024 .bf16 := broadcastInDim S4096x1024 ![] bcast_S_S4096x1024 main_cst_19
  fn_part3 (F := F) main_arg10 main_arg11 main_arg12 main_arg13 main_arg14 main_v4 main_v9 main_v14 main_v19 main_v24 main_v29 main_v34 main_v39 main_v44 main_v49 main_v50

def fn_part1 {F : FTy → Type} [FloatOps F] (main_arg3 : FVec F S4096x2048 .f32) (main_arg4 : FVec F S2048 .f32) (main_arg5 : FVec F S8x512x128 .bf16) (main_arg6 : FVec F S8x512x128 .bf16) (main_arg7 : FVec F S1024x1024 .bf16) (main_arg8 : FVec F S4096x1024 .f32) (main_arg9 : FVec F S8x1024x512 .bf16) (main_arg10 : FVec F S4096x1024 .bf16) (main_arg11 : FVec F S1024 .f32) (main_arg12 : FVec F S1024 .f32) (main_arg13 : FVec F S1024 .f32) (main_arg14 : FVec F S1024 .f32) (main_v4 : IVec S4096x1024 1) (main_v9 : IVec S4096x512 1) (main_v14 : IVec S4096x512 1) (main_v16 : IVec S4096x2048 1) : IVec S4096x1024 1 × IVec S4096x512 1 × IVec S4096x512 1 × IVec S4096x2048 1 × IVec S2048 1 × IVec S8x512x128 1 × IVec S8x512x128 1 × IVec S1024x1024 1 × IVec S4096x1024 1 × IVec S8x1024x512 1 × IVec S4096x1024 1 × IVec S1024 1 × IVec S1024 1 × IVec S1024 1 × IVec S1024 1 :=
  let main_cst_6 : FVec F S_ .f32 := constant S_ .f32 0x7F800000#32
  let main_v17 : FVec F S4096x2048 .f32 := broadcastInDim S4096x2048 ![] bcast_S_S4096x2048 main_cst_6
  let main_v18 : IVec S4096x2048 1 := cmpf .olt main_arg3 main_v17
  let main_v19 : IVec S4096x2048 1 := andi main_v16 main_v18
  let main_cst_7 : FVec F S_ .f32 := constant S_ .f32 0xFF800000#32
  let main_v20 : FVec F S2048 .f32 := broadcastInDim S2048 ![] bcast_S_S2048 main_cst_7
  let main_v21 : IVec S2048 1 := cmpf .ogt main_arg4 main_v20
  let main_cst_8 : FVec F S_ .f32 := constant S_ .f32 0x7F800000#32
  let main_v22 : FVec F S2048 .f32 := broadcastInDim S2048 ![] bcast_S_S2048 main_cst_8
  let main_v23 : IVec S2048 1 := cmpf .olt main_arg4 main_v22
  let main_v24 : IVec S2048 1 := andi main_v21 main_v23
  let main_cst_9 : FVec F S_ .bf16 := constant S_ .bf16 0xFF80#16
  let main_v25 : FVec F S8x512x128 .bf16 := broadcastInDim S8x512x128 ![] bcast_S_S8x512x128 main_cst_9
  let main_v26 : IVec S8x512x128 1 := cmpf .ogt main_arg5 main_v25
  let main_cst_10 : FVec F S_ .bf16 := constant S_ .bf16 0x7F80#16
  let main_v27 : FVec F S8x512x128 .bf16 := broadcastInDim S8x512x128 ![] bcast_S_S8x512x128 main_cst_10
  let main_v28 : IVec S8x512x128 1 := cmpf .olt main_arg5 main_v27
  let main_v29 : IVec S8x512x128 1 := andi main_v26 main_v28
  let main_cst_11 : FVec F S_ .bf16 := constant S_ .bf16 0xFF80#16
  let main_v30 : FVec F S8x512x128 .bf16 := broadcastInDim S8x512x128 ![] bcast_S_S8x512x128 main_cst_11
  let main_v31 : IVec S8x512x128 1 := cmpf .ogt main_arg6 main_v30
  let main_cst_12 : FVec F S_ .bf16 := constant S_ .bf16 0x7F80#16
  let main_v32 : FVec F S8x512x128 .bf16 := broadcastInDim S8x512x128 ![] bcast_S_S8x512x128 main_cst_12
  let main_v33 : IVec S8x512x128 1 := cmpf .olt main_arg6 main_v32
  fn_part2 (F := F) main_arg7 main_arg8 main_arg9 main_arg10 main_arg11 main_arg12 main_arg13 main_arg14 main_v4 main_v9 main_v14 main_v19 main_v24 main_v29 main_v31 main_v33

def fn {F : FTy → Type} [FloatOps F] (main_arg0 : FVec F S4096x1024 .f32) (main_arg1 : FVec F S4096x512 .f32) (main_arg2 : FVec F S4096x512 .bf16) (main_arg3 : FVec F S4096x2048 .f32) (main_arg4 : FVec F S2048 .f32) (main_arg5 : FVec F S8x512x128 .bf16) (main_arg6 : FVec F S8x512x128 .bf16) (main_arg7 : FVec F S1024x1024 .bf16) (main_arg8 : FVec F S4096x1024 .f32) (main_arg9 : FVec F S8x1024x512 .bf16) (main_arg10 : FVec F S4096x1024 .bf16) (main_arg11 : FVec F S1024 .f32) (main_arg12 : FVec F S1024 .f32) (main_arg13 : FVec F S1024 .f32) (main_arg14 : FVec F S1024 .f32) : IVec S4096x1024 1 × IVec S4096x512 1 × IVec S4096x512 1 × IVec S4096x2048 1 × IVec S2048 1 × IVec S8x512x128 1 × IVec S8x512x128 1 × IVec S1024x1024 1 × IVec S4096x1024 1 × IVec S8x1024x512 1 × IVec S4096x1024 1 × IVec S1024 1 × IVec S1024 1 × IVec S1024 1 × IVec S1024 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_cst_1 : FVec F S_ .f32 := constant S_ .f32 0xFF800000#32
  let main_v5 : FVec F S4096x512 .f32 := broadcastInDim S4096x512 ![] bcast_S_S4096x512 main_cst_1
  let main_v6 : IVec S4096x512 1 := cmpf .ogt main_arg1 main_v5
  let main_cst_2 : FVec F S_ .f32 := constant S_ .f32 0x7F800000#32
  let main_v7 : FVec F S4096x512 .f32 := broadcastInDim S4096x512 ![] bcast_S_S4096x512 main_cst_2
  let main_v8 : IVec S4096x512 1 := cmpf .olt main_arg1 main_v7
  let main_v9 : IVec S4096x512 1 := andi main_v6 main_v8
  let main_cst_3 : FVec F S_ .bf16 := constant S_ .bf16 0xFF80#16
  let main_v10 : FVec F S4096x512 .bf16 := broadcastInDim S4096x512 ![] bcast_S_S4096x512 main_cst_3
  let main_v11 : IVec S4096x512 1 := cmpf .ogt main_arg2 main_v10
  let main_cst_4 : FVec F S_ .bf16 := constant S_ .bf16 0x7F80#16
  let main_v12 : FVec F S4096x512 .bf16 := broadcastInDim S4096x512 ![] bcast_S_S4096x512 main_cst_4
  let main_v13 : IVec S4096x512 1 := cmpf .olt main_arg2 main_v12
  let main_v14 : IVec S4096x512 1 := andi main_v11 main_v13
  let main_cst_5 : FVec F S_ .f32 := constant S_ .f32 0xFF800000#32
  let main_v15 : FVec F S4096x2048 .f32 := broadcastInDim S4096x2048 ![] bcast_S_S4096x2048 main_cst_5
  let main_v16 : IVec S4096x2048 1 := cmpf .ogt main_arg3 main_v15
  fn_part1 (F := F) main_arg3 main_arg4 main_arg5 main_arg6 main_arg7 main_arg8 main_arg9 main_arg10 main_arg11 main_arg12 main_arg13 main_arg14 main_v4 main_v9 main_v14 main_v16
-- ==== WgUp.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgUpRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgDown.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgDownRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgProj.lean ====
abbrev S4096x1024 : Shape := ⟨2, ![4096, 1024]⟩
abbrev S4096x5120 : Shape := ⟨2, ![4096, 5120]⟩
abbrev S8x1024x640 : Shape := ⟨3, ![8, 1024, 640]⟩
abbrev S2048x1024 : Shape := ⟨2, ![2048, 1024]⟩
abbrev S2048x1280 : Shape := ⟨2, ![2048, 1280]⟩
abbrev S2x1024x640 : Shape := ⟨3, ![2, 1024, 640]⟩
abbrev S1024x1280 : Shape := ⟨2, ![1024, 1280]⟩
abbrev S1024x640 : Shape := ⟨2, ![1024, 640]⟩
abbrev S1x1024x640 : Shape := ⟨3, ![1, 1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S8x1024x640, .f32⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S2x1024x640, .f32⟩
  | .local _ .vmem, ⟨5, _⟩ => ⟨S2x1024x640, .f32⟩
  | .local _ .vmem, ⟨6, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgProjRefIdeal.lean ====
abbrev S4096x1024 : Shape := ⟨2, ![4096, 1024]⟩
abbrev S4096x5120 : Shape := ⟨2, ![4096, 5120]⟩
abbrev S_ : Shape := ⟨0, ![]⟩
abbrev S1024x5120 : Shape := ⟨2, ![1024, 5120]⟩
abbrev S5120x1024 : Shape := ⟨2, ![5120, 1024]⟩
abbrev S1024x8x640 : Shape := ⟨3, ![1024, 8, 640]⟩
abbrev S8x1024x640 : Shape := ⟨3, ![8, 1024, 640]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S4096x1024, .f32⟩
  | .hbm, ⟨3, _⟩ => ⟨S4096x5120, .f32⟩
  | .hbm, ⟨4, _⟩ => ⟨S_, .f32⟩
  | .hbm, ⟨5, _⟩ => ⟨S1024x5120, .f32⟩
  | .hbm, ⟨6, _⟩ => ⟨S4096x5120, .f32⟩
  | .hbm, ⟨7, _⟩ => ⟨S5120x1024, .f32⟩
  | .hbm, ⟨8, _⟩ => ⟨S1024x5120, .f32⟩
  | .hbm, ⟨9, _⟩ => ⟨S1024x8x640, .f32⟩
  | .hbm, ⟨10, _⟩ => ⟨S8x1024x640, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Mix.lean ====
abbrev S4096x1024 : Shape := ⟨2, ![4096, 1024]⟩
abbrev S4096x512 : Shape := ⟨2, ![4096, 512]⟩
abbrev S4096x2048 : Shape := ⟨2, ![4096, 2048]⟩
abbrev S2048 : Shape := ⟨1, ![2048]⟩
abbrev S8x512x128 : Shape := ⟨3, ![8, 512, 128]⟩
abbrev S1024x1024 : Shape := ⟨2, ![1024, 1024]⟩
abbrev S1x2048 : Shape := ⟨2, ![1, 2048]⟩
abbrev S256x1024 : Shape := ⟨2, ![256, 1024]⟩
abbrev S256x512 : Shape := ⟨2, ![256, 512]⟩
abbrev S256x2048 : Shape := ⟨2, ![256, 2048]⟩
abbrev S512x1024 : Shape := ⟨2, ![512, 1024]⟩
abbrev S1x512x128 : Shape := ⟨3, ![1, 512, 128]⟩
abbrev S512x128 : Shape := ⟨2, ![512, 128]⟩
abbrev S1x1024 : Shape := ⟨2, ![1, 1024]⟩
abbrev S1024 : Shape := ⟨1, ![1024]⟩

abbrev nBuf : Space → Nat
  | .hbm => 16
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .bf16⟩
  | .hbm, ⟨3, _⟩ => ⟨S4096x2048, .f32⟩
  | .hbm, ⟨4, _⟩ => ⟨S2048, .f32⟩
  | .hbm, ⟨5, _⟩ => ⟨S8x512x128, .bf16⟩
  | .hbm, ⟨6, _⟩ => ⟨S8x512x128, .bf16⟩
  | .hbm, ⟨7, _⟩ => ⟨S1024x1024, .bf16⟩
  | .hbm, ⟨8, _⟩ => ⟨S1x2048, .f32⟩
  | .hbm, ⟨9, _⟩ => ⟨S4096x2048, .bf16⟩
  | .hbm, ⟨10, _⟩ => ⟨S4096x512, .bf16⟩
  | .hbm, ⟨11, _⟩ => ⟨S4096x512, .bf16⟩
  | .hbm, ⟨12, _⟩ => ⟨S1x2048, .f32⟩
  | .hbm, ⟨13, _⟩ => ⟨S1024x1024, .f32⟩
  | .hbm, ⟨14, _⟩ => ⟨S8x512x128, .f32⟩
  | .hbm, ⟨15, _⟩ => ⟨S8x512x128, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S8x512x128, .bf16⟩
  | .local _ .vmem, ⟨10, _⟩ => ⟨S8x512x128, .bf16⟩
  | .local _ .vmem, ⟨11, _⟩ => ⟨S1024x1024, .bf16⟩
  | .local _ .vmem, ⟨12, _⟩ => ⟨S256x2048, .bf16⟩
  | .local _ .vmem, ⟨13, _⟩ => ⟨S256x2048, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S1x2048, .f32⟩
  | .local _ .vmem, ⟨19, _⟩ => ⟨S1024x1024, .f32⟩
  | .local _ .vmem, ⟨20, _⟩ => ⟨S8x512x128, .f32⟩
  | .local _ .vmem, ⟨21, _⟩ => ⟨S8x512x128, .f32⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v81 : BitVec 1 := Scalar.cmpi .eq arg0 c15_i32
  let v82 : BitVec 32 := Scalar.extui v81
  let c0_i32_58 : BitVec 32 := 0#32
  let v83 : BitVec 1 := Scalar.cmpi .ne v82 c0_i32_58
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixRefIdeal.lean ====
abbrev S4096x1024 : Shape := ⟨2, ![4096, 1024]⟩
abbrev S4096x512 : Shape := ⟨2, ![4096, 512]⟩
abbrev S4096x2048 : Shape := ⟨2, ![4096, 2048]⟩
abbrev S2048 : Shape := ⟨1, ![2048]⟩
abbrev S8x512x128 : Shape := ⟨3, ![8, 512, 128]⟩
abbrev S1024x1024 : Shape := ⟨2, ![1024, 1024]⟩
abbrev S512x8x128 : Shape := ⟨3, ![512, 8, 128]⟩
abbrev S512x1024 : Shape := ⟨2, ![512, 1024]⟩
abbrev S1x2048 : Shape := ⟨2, ![1, 2048]⟩
abbrev S_ : Shape := ⟨0, ![]⟩
abbrev S1024x512 : Shape := ⟨2, ![1024, 512]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .bf16⟩
  | .hbm, ⟨3, _⟩ => ⟨S4096x2048, .f32⟩
  | .hbm, ⟨4, _⟩ => ⟨S2048, .f32⟩
  | .hbm, ⟨5, _⟩ => ⟨S8x512x128, .bf16⟩
  | .hbm, ⟨6, _⟩ => ⟨S8x512x128, .bf16⟩
  | .hbm, ⟨7, _⟩ => ⟨S1024x1024, .bf16⟩
  | .hbm, ⟨8, _⟩ => ⟨S4096x512, .f32⟩
  | .hbm, ⟨9, _⟩ => ⟨S8x512x128, .f32⟩
  | .hbm, ⟨10, _⟩ => ⟨S512x8x128, .f32⟩
  | .hbm, ⟨11, _⟩ => ⟨S512x1024, .f32⟩
  | .hbm, ⟨12, _⟩ => ⟨S8x512x128, .f32⟩
  | .hbm, ⟨13, _⟩ => ⟨S512x8x128, .f32⟩
  | .hbm, ⟨14, _⟩ => ⟨S512x1024, .f32⟩
  | .hbm, ⟨15, _⟩ => ⟨S1024x1024, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x1024, .f32⟩
  | .hbm, ⟨20, _⟩ => ⟨S4096x1024, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S1024x1024, .f32⟩
  | .hbm, ⟨40, _⟩ => ⟨S1024x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x2048, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S1024x512, .f32⟩
  | .hbm, ⟨53, _⟩ => ⟨S512x1024, .f32⟩
  | .hbm, ⟨54, _⟩ => ⟨S4096x512, .f32⟩
  | .hbm, ⟨55, _⟩ => ⟨S1024x512, .f32⟩
  | .hbm, ⟨56, _⟩ => ⟨S512x1024, .f32⟩
  | .hbm, ⟨57, _⟩ => ⟨S4096x512, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S_, .f32⟩
  | .hbm, ⟨62, _⟩ => ⟨S2048, .f32⟩
  | .hbm, ⟨63, _⟩ => ⟨S4096x2048, .bf16⟩
  | .hbm, ⟨64, _⟩ => ⟨S4096x512, .bf16⟩
  | .hbm, ⟨65, _⟩ => ⟨S4096x512, .bf16⟩
  | .hbm, ⟨66, _⟩ => ⟨S1x2048, .f32⟩
  | .hbm, ⟨67, _⟩ => ⟨S512x8x128, .f32⟩
  | .hbm, ⟨68, _⟩ => ⟨S8x512x128, .f32⟩
  | .hbm, ⟨69, _⟩ => ⟨S512x8x128, .f32⟩
  | .hbm, ⟨70, _⟩ => ⟨S8x512x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== InProj.lean ====
abbrev S4096x1024 : Shape := ⟨2, ![4096, 1024]⟩
abbrev S8x1024x640 : Shape := ⟨3, ![8, 1024, 640]⟩
abbrev S4096x3072 : Shape := ⟨2, ![4096, 3072]⟩
abbrev S4096x2048 : Shape := ⟨2, ![4096, 2048]⟩
abbrev S512x1024 : Shape := ⟨2, ![512, 1024]⟩
abbrev S512x3072 : Shape := ⟨2, ![512, 3072]⟩
abbrev S512x2048 : Shape := ⟨2, ![512, 2048]⟩
abbrev S4x1024x1280 : Shape := ⟨3, ![4, 1024, 1280]⟩
abbrev S8 : Shape := ⟨1, ![8]⟩
abbrev S1 : Shape := ⟨1, ![1]⟩
abbrev S_ : Shape := ⟨0, ![]⟩
abbrev S1x1024x640 : Shape := ⟨3, ![1, 1024, 640]⟩
abbrev S1024x640 : Shape := ⟨2, ![1024, 640]⟩
abbrev S1x1024x1280 : Shape := ⟨3, ![1, 1024, 1280]⟩
abbrev S1024x1280 : Shape := ⟨2, ![1024, 1280]⟩
abbrev S512x1280 : Shape := ⟨2, ![512, 1280]⟩
abbrev S512x512 : Shape := ⟨2, ![512, 512]⟩
abbrev S512x768 : Shape := ⟨2, ![512, 768]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S8x1024x640, .bf16⟩
  | .hbm, ⟨2, _⟩ => ⟨S4096x3072, .bf16⟩
  | .hbm, ⟨3, _⟩ => ⟨S4096x2048, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | .local _ .vmem, ⟨8, _⟩ => ⟨S4x1024x1280, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjRefIdeal.lean ====
abbrev S4096x1024 : Shape := ⟨2, ![4096, 1024]⟩
abbrev S8x1024x640 : Shape := ⟨3, ![8, 1024, 640]⟩
abbrev S1024x8x640 : Shape := ⟨3, ![1024, 8, 640]⟩
abbrev S1024x5120 : Shape := ⟨2, ![1024, 5120]⟩
abbrev S4096x5120 : Shape := ⟨2, ![4096, 5120]⟩
abbrev S4096x3072 : Shape := ⟨2, ![4096, 3072]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x1024x640, .bf16⟩
  | .hbm, ⟨2, _⟩ => ⟨S8x1024x640, .f32⟩
  | .hbm, ⟨3, _⟩ => ⟨S1024x8x640, .f32⟩
  | .hbm, ⟨4, _⟩ => ⟨S1024x5120, .f32⟩
  | .hbm, ⟨5, _⟩ => ⟨S4096x5120, .f32⟩
  | .hbm, ⟨6, _⟩ => ⟨S4096x3072, .f32⟩
  | .hbm, ⟨7, _⟩ => ⟨S4096x3072, .bf16⟩
  | .hbm, ⟨8, _⟩ => ⟨S4096x2048, .f32⟩
  | .hbm, ⟨9, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== InGrad.lean ====
abbrev S4096x1024 : Shape := ⟨2, ![4096, 1024]⟩
abbrev S4096x5120 : Shape := ⟨2, ![4096, 5120]⟩
abbrev S8x1024x640 : Shape := ⟨3, ![8, 1024, 640]⟩
abbrev S512x1024 : Shape := ⟨2, ![512, 1024]⟩
abbrev S512x5120 : Shape := ⟨2, ![512, 5120]⟩
abbrev S4x1024x1280 : Shape := ⟨3, ![4, 1024, 1280]⟩
abbrev S8 : Shape := ⟨1, ![8]⟩
abbrev S1 : Shape := ⟨1, ![1]⟩
abbrev S_ : Shape := ⟨0, ![]⟩
abbrev S1x1024x640 : Shape := ⟨3, ![1, 1024, 640]⟩
abbrev S1024x640 : Shape := ⟨2, ![1024, 640]⟩
abbrev S512x1280 : Shape := ⟨2, ![512, 1280]⟩
abbrev S1x1024x1280 : Shape := ⟨3, ![1, 1024, 1280]⟩
abbrev S1024x1280 : Shape := ⟨2, ![1024, 1280]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5120, .bf16⟩
  | .hbm, ⟨2, _⟩ => ⟨S8x1024x640, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x5120, .bf16⟩
  | .local _ .vmem, ⟨3, _⟩ => ⟨S512x5120, .bf16⟩
  | .local _ .vmem, ⟨4, _⟩ => ⟨S512x1024, .f32⟩
  | .local _ .vmem, ⟨5, _⟩ => ⟨S512x1024, .f32⟩
  | .local _ .vmem, ⟨6, _⟩ => ⟨S4x1024x1280, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InGradRefIdeal.lean ====
abbrev S4096x1024 : Shape := ⟨2, ![4096, 1024]⟩
abbrev S4096x5120 : Shape := ⟨2, ![4096, 5120]⟩
abbrev S8x1024x640 : Shape := ⟨3, ![8, 1024, 640]⟩
abbrev S1024x8x640 : Shape := ⟨3, ![1024, 8, 640]⟩
abbrev S1024x5120 : Shape := ⟨2, ![1024, 5120]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5120, .bf16⟩
  | .hbm, ⟨2, _⟩ => ⟨S8x1024x640, .bf16⟩
  | .hbm, ⟨3, _⟩ => ⟨S8x1024x640, .f32⟩
  | .hbm, ⟨4, _⟩ => ⟨S1024x8x640, .f32⟩
  | .hbm, ⟨5, _⟩ => ⟨S1024x5120, .f32⟩
  | .hbm, ⟨6, _⟩ => ⟨S_, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x5120, .f32⟩
  | .hbm, ⟨12, _⟩ => ⟨S4096x5120, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Mlp.lean ====
abbrev S4096x1024 : Shape := ⟨2, ![4096, 1024]⟩
abbrev S4096x512 : Shape := ⟨2, ![4096, 512]⟩
abbrev S4096x2048 : Shape := ⟨2, ![4096, 2048]⟩
abbrev S2048 : Shape := ⟨1, ![2048]⟩
abbrev S8x512x128 : Shape := ⟨3, ![8, 512, 128]⟩
abbrev S1024x1024 : Shape := ⟨2, ![1024, 1024]⟩
abbrev S8x1024x512 : Shape := ⟨3, ![8, 1024, 512]⟩
abbrev S1024 : Shape := ⟨1, ![1024]⟩
abbrev S1x2048 : Shape := ⟨2, ![1, 2048]⟩
abbrev S1x1024 : Shape := ⟨2, ![1, 1024]⟩
abbrev S4096x4096 : Shape := ⟨2, ![4096, 4096]⟩
abbrev S1x1 : Shape := ⟨2, ![1, 1]⟩
abbrev S256x1024 : Shape := ⟨2, ![256, 1024]⟩
abbrev S256x512 : Shape := ⟨2, ![256, 512]⟩
abbrev S256x2048 : Shape := ⟨2, ![256, 2048]⟩
abbrev S256x4096 : Shape := ⟨2, ![256, 4096]⟩
abbrev S1024x4096 : Shape := ⟨2, ![1024, 4096]⟩
abbrev S9 : Shape := ⟨1, ![9]⟩
abbrev S512x1024 : Shape := ⟨2, ![512, 1024]⟩
abbrev S17 : Shape := ⟨1, ![17]⟩
abbrev S1 : Shape := ⟨1, ![1]⟩
abbrev S_ : Shape := ⟨0, ![]⟩
abbrev S1024x512 : Shape := ⟨2, ![1024, 512]⟩
abbrev S1x1024x512 : Shape := ⟨3, ![1, 1024, 512]⟩
abbrev S512x128 : Shape := ⟨2, ![512, 128]⟩
abbrev S1x512x128 : Shape := ⟨3, ![1, 512, 128]⟩
abbrev S256 : Shape := ⟨1, ![256]⟩
abbrev S256x1 : Shape := ⟨2, ![256, 1]⟩

abbrev nBuf : Space → Nat
  | .hbm => 30
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .bf16⟩
  | .hbm, ⟨3, _⟩ => ⟨S4096x2048, .f32⟩
  | .hbm, ⟨4, _⟩ => ⟨S2048, .f32⟩
  | .hbm, ⟨5, _⟩ => ⟨S8x512x128, .bf16⟩
  | .hbm, ⟨6, _⟩ => ⟨S8x512x128, .bf16⟩
  | .hbm, ⟨7, _⟩ => ⟨S1024x1024, .bf16⟩
  | .hbm, ⟨8, _⟩ => ⟨S4096x1024, .f32⟩
  | .hbm, ⟨9, _⟩ => ⟨S8x1024x512, .bf16⟩
  | .hbm, ⟨10, _⟩ => ⟨S4096x1024, .bf16⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x2048, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S4096x4096, .bf16⟩
  | .hbm, ⟨21, _⟩ => ⟨S4096x1024, .bf16⟩
  | .hbm, ⟨22, _⟩ => ⟨S4096x4096, .bf16⟩
  | .hbm, ⟨23, _⟩ => ⟨S4096x1024, .bf16⟩
  | .hbm, ⟨24, _⟩ => ⟨S4096x1024, .f32⟩
  | .hbm, ⟨25, _⟩ => ⟨S1x1, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x4096, .bf16⟩
  | .local _ .vmem, ⟨16, _⟩ => ⟨S256x4096, .bf16⟩
  | .local _ .vmem, ⟨17, _⟩ => ⟨S256x1024, .bf16⟩
  | .local _ .vmem, ⟨18, _⟩ => ⟨S256x1024, .bf16⟩
  | .local _ .vmem, ⟨19, _⟩ => ⟨S256x4096, .bf16⟩
  | .local _ .vmem, ⟨20, _⟩ => ⟨S256x4096, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S1x1, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1024x4096, .bf16⟩
  | .local _ .vmem, ⟨31, _⟩ => ⟨S4096x1024, .bf16⟩
  | .local _ .vmem, ⟨32, _⟩ => ⟨S256x4096, .f32⟩
  | .local _ .vmem, ⟨33, _⟩ => ⟨S512x1024, .bf16⟩
  | .local _ .vmem, ⟨34, _⟩ => ⟨S512x1024, .bf16⟩
  | .local _ .vmem, ⟨35, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_v5_3 : Ref sig .tc := ⟨.hbm, 23, rfl⟩
abbrev main_v5_4 : Ref sig .tc := ⟨.hbm, 24, rfl⟩
abbrev main_v5_5 : Ref sig .tc := ⟨.hbm, 25, rfl⟩
abbrev main_v5_6 : Ref sig .tc := ⟨.hbm, 26, rfl⟩
abbrev main_v5_7 : Ref sig .tc := ⟨.hbm, 27, rfl⟩
abbrev main_v5_8 : Ref sig .tc := ⟨.hbm, 28, rfl⟩
abbrev main_v5_9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MlpRefIdeal.lean ====
abbrev S4096x1024 : Shape := ⟨2, ![4096, 1024]⟩
abbrev S4096x512 : Shape := ⟨2, ![4096, 512]⟩
abbrev S4096x2048 : Shape := ⟨2, ![4096, 2048]⟩
abbrev S2048 : Shape := ⟨1, ![2048]⟩
abbrev S8x512x128 : Shape := ⟨3, ![8, 512, 128]⟩
abbrev S1024x1024 : Shape := ⟨2, ![1024, 1024]⟩
abbrev S8x1024x512 : Shape := ⟨3, ![8, 1024, 512]⟩
abbrev S1024 : Shape := ⟨1, ![1024]⟩
abbrev S1024x8x512 : Shape := ⟨3, ![1024, 8, 512]⟩
abbrev S1024x4096 : Shape := ⟨2, ![1024, 4096]⟩
abbrev S1x2048 : Shape := ⟨2, ![1, 2048]⟩
abbrev S512x8x128 : Shape := ⟨3, ![512, 8, 128]⟩
abbrev S512x1024 : Shape := ⟨2, ![512, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1x1 : Shape := ⟨2, ![1, 1]⟩

abbrev nBuf : Space → Nat
  | .hbm => 270
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .bf16⟩
  | 3 => ⟨S4096x2048, .f32⟩
  | 4 => ⟨S2048, .f32⟩
  | 5 => ⟨S8x512x128, .bf16⟩
  | 6 => ⟨S8x512x128, .bf16⟩
  | 7 => ⟨S1024x1024, .bf16⟩
  | 8 => ⟨S4096x1024, .f32⟩
  | 9 => ⟨S8x1024x512, .bf16⟩
  | 10 => ⟨S4096x1024, .bf16⟩
  | 11 => ⟨S1024, .f32⟩
  | 12 => ⟨S1024, .f32⟩
  | 13 => ⟨S1024, .f32⟩
  | 14 => ⟨S1024, .f32⟩
  | 15 => ⟨S8x1024x512, .f32⟩
  | 16 => ⟨S1024x8x512, .f32⟩
  | 17 => ⟨S1024x4096, .f32⟩
  | 18 => ⟨S4096x1024, .f32⟩
  | 19 => ⟨S1x2048, .f32⟩
  | 20 => ⟨S4096x2048, .f32⟩
  | 21 => ⟨S4096x2048, .f32⟩
  | 22 => ⟨S8x512x128, .f32⟩
  | 23 => ⟨S512x8x128, .f32⟩
  | 24 => ⟨S512x1024, .f32⟩
  | 25 => ⟨S4096x1024, .f32⟩
  | 26 => ⟨S4096x512, .f32⟩
  | 27 => ⟨S8x512x128, .f32⟩
  | 28 => ⟨S512x8x128, .f32⟩
  | 29 => ⟨S512x1024, .f32⟩
  | 30 => ⟨S4096x1024, .f32⟩
  | 31 => ⟨S4096x2048, .f32⟩
  | 32 => ⟨S4096x2048, .f32⟩
  | 33 => ⟨S_, .f32⟩
  | 34 => ⟨S4096x2048, .f32⟩
  | 35 => ⟨S4096x2048, .f32⟩
  | 36 => ⟨S_, .f32⟩
  | 37 => ⟨S4096x2048, .f32⟩
  | 38 => ⟨S4096x2048, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S1024x1024, .f32⟩
  | 48 => ⟨S4096x1024, .f32⟩
  | 49 => ⟨S4096x1024, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S4096x1024, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S_, .f32⟩
  | 63 => ⟨S4096, .f32⟩
  | 64 => ⟨S4096x1, .f32⟩
  | 65 => ⟨S_, .f32⟩
  | 66 => ⟨S4096x1, .f32⟩
  | 67 => ⟨S4096x1, .f32⟩
  | 68 => ⟨S4096x1024, .f32⟩
  | 69 => ⟨S4096x1024, .f32⟩
  | 70 => ⟨S_, .f32⟩
  | 71 => ⟨S4096x1, .f32⟩
  | 72 => ⟨S4096x1, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x1024, .f32⟩
  | 79 => ⟨S4096x1024, .f32⟩
  | 80 => ⟨S1x1024, .f32⟩
  | 81 => ⟨S4096x1024, .f32⟩
  | 82 => ⟨S4096x1024, .f32⟩
  | 83 => ⟨S1x1024, .f32⟩
  | 84 => ⟨S4096x1024, .f32⟩
  | 85 => ⟨S4096x1024, .f32⟩
  | 86 => ⟨S4096x4096, .f32⟩
  | 87 => ⟨S_, .f32⟩
  | 88 => ⟨S4096x4096, .f32⟩
  | 89 => ⟨S4096x4096, .f32⟩
  | 90 => ⟨S_, .f32⟩
  | 91 => ⟨S4096x4096, .f32⟩
  | 92 => ⟨S4096x4096, .i1⟩
  | 93 => ⟨S_, .f32⟩
  | 94 => ⟨S4096x4096, .f32⟩
  | 95 => ⟨S4096x4096, .f32⟩
  | 96 => ⟨S_, .f32⟩
  | 97 => ⟨S4096x4096, .f32⟩
  | 98 => ⟨S4096x4096, .f32⟩
  | 99 => ⟨S_, .f32⟩
  | 100 => ⟨S4096x1024, .f32⟩
  | 101 => ⟨S4096x1024, .f32⟩
  | 102 => ⟨S4096x1024, .f32⟩
  | 103 => ⟨S4096x1024, .f32⟩
  | 104 => ⟨S_, .f32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S4096x1024, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S_, .f32⟩
  | 117 => ⟨S4096, .f32⟩
  | 118 => ⟨S4096x1, .f32⟩
  | 119 => ⟨S_, .f32⟩
  | 120 => ⟨S4096x1, .f32⟩
  | 121 => ⟨S4096x1, .f32⟩
  | 122 => ⟨S4096x1024, .f32⟩
  | 123 => ⟨S4096x1024, .f32⟩
  | 124 => ⟨S_, .f32⟩
  | 125 => ⟨S4096x1, .f32⟩
  | 126 => ⟨S4096x1, .f32⟩
  | 127 => ⟨S4096x1, .f32⟩
  | _ => ⟨S4096x1024, .f32⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S4096x1024, .f32⟩
  | 5 => ⟨S4096x1024, .f32⟩
  | 6 => ⟨S1x1024, .f32⟩
  | 7 => ⟨S4096x1024, .f32⟩
  | 8 => ⟨S4096x1024, .f32⟩
  | 9 => ⟨S1x1024, .f32⟩
  | 10 => ⟨S4096x1024, .f32⟩
  | 11 => ⟨S4096x1024, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S_, .f32⟩
  | 18 => ⟨S4096, .f32⟩
  | 19 => ⟨S_, .f32⟩
  | 20 => ⟨S4096, .f32⟩
  | 21 => ⟨S4096, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S4096, .f32⟩
  | 30 => ⟨S_, .f32⟩
  | 31 => ⟨S4096, .f32⟩
  | 32 => ⟨S4096, .f32⟩
  | 33 => ⟨S4096x1024, .f32⟩
  | 34 => ⟨S4096x1024, .f32⟩
  | 35 => ⟨S_, .f32⟩
  | 36 => ⟨S1024, .f32⟩
  | 37 => ⟨S1x1024, .f32⟩
  | 38 => ⟨S_, .f32⟩
  | 39 => ⟨S1024, .f32⟩
  | 40 => ⟨S4096x1024, .f32⟩
  | 41 => ⟨S_, .f32⟩
  | 42 => ⟨S1024, .f32⟩
  | 43 => ⟨S1x1024, .f32⟩
  | 44 => ⟨S4096x1024, .f32⟩
  | 45 => ⟨S4096x1024, .f32⟩
  | 46 => ⟨S_, .f32⟩
  | 47 => ⟨S1024, .f32⟩
  | 48 => ⟨S4096x1024, .f32⟩
  | 49 => ⟨S_, .f32⟩
  | 50 => ⟨S4096, .f32⟩
  | 51 => ⟨S4096x1, .f32⟩
  | 52 => ⟨S4096x1024, .f32⟩
  | 53 => ⟨S4096x1024, .f32⟩
  | 54 => ⟨S4096x1, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096, .f32⟩
  | 64 => ⟨S4096x1024, .f32⟩
  | 65 => ⟨S4096x1024, .f32⟩
  | 66 => ⟨S4096x1024, .f32⟩
  | 67 => ⟨S_, .f32⟩
  | 68 => ⟨S4096, .f32⟩
  | 69 => ⟨S4096x1, .f32⟩
  | 70 => ⟨S4096x1024, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096, .f32⟩
  | 77 => ⟨S4096x1024, .f32⟩
  | 78 => ⟨S4096x1024, .f32⟩
  | 79 => ⟨S4096x4096, .f32⟩
  | 80 => ⟨S_, .f32⟩
  | 81 => ⟨S4096x1024, .f32⟩
  | 82 => ⟨S4096x1024, .f32⟩
  | 83 => ⟨S4096x4096, .f32⟩
  | 84 => ⟨S_, .f32⟩
  | 85 => ⟨S4096x4096, .f32⟩
  | 86 => ⟨S4096x4096, .f32⟩
  | 87 => ⟨S4096x1024, .f32⟩
  | 88 => ⟨S4096x1024, .f32⟩
  | 89 => ⟨S_, .f32⟩
  | 90 => ⟨S1024, .f32⟩
  | 91 => ⟨S1x1024, .f32⟩
  | 92 => ⟨S_, .f32⟩
  | 93 => ⟨S1024, .f32⟩
  | 94 => ⟨S4096x1024, .f32⟩
  | 95 => ⟨S_, .f32⟩
  | 96 => ⟨S1024, .f32⟩
  | 97 => ⟨S1x1024, .f32⟩
  | 98 => ⟨S4096x1024, .f32⟩
  | 99 => ⟨S4096x1024, .f32⟩
  | 100 => ⟨S_, .f32⟩
  | 101 => ⟨S1024, .f32⟩
  | 102 => ⟨S4096x1024, .f32⟩
  | 103 => ⟨S_, .f32⟩
  | 104 => ⟨S4096, .f32⟩
  | 105 => ⟨S4096x1, .f32⟩
  | 106 => ⟨S4096x1024, .f32⟩
  | 107 => ⟨S4096x1024, .f32⟩
  | 108 => ⟨S4096x1, .f32⟩
  | 109 => ⟨S4096x1024, .f32⟩
  | 110 => ⟨S_, .f32⟩
  | 111 => ⟨S4096, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x1024, .f32⟩
  | 119 => ⟨S4096x1024, .f32⟩
  | 120 => ⟨S4096x1024, .f32⟩
  | 121 => ⟨S_, .f32⟩
  | 122 => ⟨S4096, .f32⟩
  | 123 => ⟨S4096x1, .f32⟩
  | 124 => ⟨S4096x1024, .f32⟩
  | 125 => ⟨S4096x1, .f32⟩
  | 126 => ⟨S_, .f32⟩
  | 127 => ⟨S4096x1, .f32⟩
  | _ => ⟨S4096x1024, .f32⟩

abbrev hbmTy0_2 (i : Nat) : BufTy := match i % 128 with
  | 0 => ⟨S4096x1, .f32⟩
  | 1 => ⟨S_, .f32⟩
  | 2 => ⟨S4096, .f32⟩
  | 3 => ⟨S4096x1024, .f32⟩
  | 4 => ⟨S4096x1024, .f32⟩
  | 5 => ⟨S4096x4096, .bf16⟩
  | 6 => ⟨S4096x1024, .bf16⟩
  | 7 => ⟨S4096x4096, .bf16⟩
  | 8 => ⟨S4096x1024, .bf16⟩
  | 9 => ⟨S1x1, .f32⟩
  | 10 => ⟨S1x1024, .f32⟩
  | 11 => ⟨S1x1024, .f32⟩
  | 12 => ⟨S1x1024, .f32⟩
  | 13 => ⟨S1x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call0_cst : Ref sig .tc := ⟨.hbm, 87, rfl⟩
abbrev main_call0_v0 : Ref sig .tc := ⟨.hbm, 88, rfl⟩
abbrev main_v62 : Ref sig .tc := ⟨.hbm, 89, rfl⟩
abbrev main_cst_9 : Ref sig .tc := ⟨.hbm, 90, rfl⟩
abbrev main_v63 : Ref sig .tc := ⟨.hbm, 91, rfl⟩
abbrev main_v64 : Ref sig .tc := ⟨.hbm, 92, rfl⟩
abbrev main_cst_10 : Ref sig .tc := ⟨.hbm, 93, rfl⟩
abbrev main_v65 : Ref sig .tc := ⟨.hbm, 94, rfl⟩
abbrev main_v66 : Ref sig .tc := ⟨.hbm, 95, rfl⟩
abbrev main_cst_11 : Ref sig .tc := ⟨.hbm, 96, rfl⟩
abbrev main_v67 : Ref sig .tc := ⟨.hbm, 97, rfl⟩
abbrev main_v68 : Ref sig .tc := ⟨.hbm, 98, rfl⟩
abbrev main_cst_12 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_13 : Ref sig .tc := ⟨.hbm, 104, rfl⟩
abbrev main_v73 : Ref sig .tc := ⟨.hbm, 105, rfl⟩
abbrev main_v74 : Ref sig .tc := ⟨.hbm, 106, rfl⟩
abbrev main_cst_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_15 : Ref sig .tc := ⟨.hbm, 113, rfl⟩
abbrev main_v80 : Ref sig .tc := ⟨.hbm, 114, rfl⟩
abbrev main_v81 : Ref sig .tc := ⟨.hbm, 115, rfl⟩
abbrev main_cst_16 : Ref sig .tc := ⟨.hbm, 116, rfl⟩
abbrev main_v82 : Ref sig .tc := ⟨.hbm, 117, rfl⟩
abbrev main_v83 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_18 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_19 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_20 : Ref sig .tc := ⟨.hbm, 142, rfl⟩
abbrev main_v104 : Ref sig .tc := ⟨.hbm, 143, rfl⟩
abbrev main_v105 : Ref sig .tc := ⟨.hbm, 144, rfl⟩
abbrev main_cst_21 : Ref sig .tc := ⟨.hbm, 145, rfl⟩
abbrev main_v106 : Ref sig .tc := ⟨.hbm, 146, rfl⟩
abbrev main_cst_22 : Ref sig .tc := ⟨.hbm, 147, rfl⟩
abbrev main_v107 : Ref sig .tc := ⟨.hbm, 148, rfl⟩
abbrev main_v108 : Ref sig .tc := ⟨.hbm, 149, rfl⟩
abbrev main_cst_23 : Ref sig .tc := ⟨.hbm, 150, rfl⟩
abbrev main_v109 : Ref sig .tc := ⟨.hbm, 151, rfl⟩
abbrev main_cst_24 : Ref sig .tc := ⟨.hbm, 152, rfl⟩
abbrev main_v110 : Ref sig .tc := ⟨.hbm, 153, rfl⟩
abbrev main_cst_25 : Ref sig .tc := ⟨.hbm, 154, rfl⟩
abbrev main_cst_26 : Ref sig .tc := ⟨.hbm, 155, rfl⟩
abbrev main_v111 : Ref sig .tc := ⟨.hbm, 156, rfl⟩
abbrev main_v112 : Ref sig .tc := ⟨.hbm, 157, rfl⟩
abbrev main_cst_27 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_28 : Ref sig .tc := ⟨.hbm, 163, rfl⟩
abbrev main_v117 : Ref sig .tc := ⟨.hbm, 164, rfl⟩
abbrev main_v118 : Ref sig .tc := ⟨.hbm, 165, rfl⟩
abbrev main_cst_29 : Ref sig .tc := ⟨.hbm, 166, rfl⟩
abbrev main_v119 : Ref sig .tc := ⟨.hbm, 167, rfl⟩
abbrev main_v120 : Ref sig .tc := ⟨.hbm, 168, rfl⟩
abbrev main_cst_30 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_31 : Ref sig .tc := ⟨.hbm, 174, rfl⟩
abbrev main_v125 : Ref sig .tc := ⟨.hbm, 175, rfl⟩
abbrev main_v126 : Ref sig .tc := ⟨.hbm, 176, rfl⟩
abbrev main_cst_32 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_33 : Ref sig .tc := ⟨.hbm, 184, rfl⟩
abbrev main_v133 : Ref sig .tc := ⟨.hbm, 185, rfl⟩
abbrev main_v134 : Ref sig .tc := ⟨.hbm, 186, rfl⟩
abbrev main_cst_34 : Ref sig .tc := ⟨.hbm, 187, rfl⟩
abbrev main_v135 : Ref sig .tc := ⟨.hbm, 188, rfl⟩
abbrev main_v136 : Ref sig .tc := ⟨.hbm, 189, rfl⟩
abbrev main_cst_35 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_36 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_37 : Ref sig .tc := ⟨.hbm, 200, rfl⟩
abbrev main_v145 : Ref sig .tc := ⟨.hbm, 201, rfl⟩
abbrev main_v146 : Ref sig .tc := ⟨.hbm, 202, rfl⟩
abbrev main_cst_38 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_39 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_40 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_cst_41 : Ref sig .tc := ⟨.hbm, 217, rfl⟩
abbrev main_v158 : Ref sig .tc := ⟨.hbm, 218, rfl⟩
abbrev main_v159 : Ref sig .tc := ⟨.hbm, 219, rfl⟩
abbrev main_cst_42 : Ref sig .tc := ⟨.hbm, 220, rfl⟩
abbrev main_v160 : Ref sig .tc := ⟨.hbm, 221, rfl⟩
abbrev main_v161 : Ref sig .tc := ⟨.hbm, 222, rfl⟩
abbrev main_cst_43 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_cst_44 : Ref sig .tc := ⟨.hbm, 228, rfl⟩
abbrev main_v166 : Ref sig .tc := ⟨.hbm, 229, rfl⟩
abbrev main_v167 : Ref sig .tc := ⟨.hbm, 230, rfl⟩
abbrev main_cst_45 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_cst_46 : Ref sig .tc := ⟨.hbm, 238, rfl⟩
abbrev main_v174 : Ref sig .tc := ⟨.hbm, 239, rfl⟩
abbrev main_v175 : Ref sig .tc := ⟨.hbm, 240, rfl⟩
abbrev main_cst_47 : Ref sig .tc := ⟨.hbm, 241, rfl⟩
abbrev main_v176 : Ref sig .tc := ⟨.hbm, 242, rfl⟩
abbrev main_v177 : Ref sig .tc := ⟨.hbm, 243, rfl⟩
abbrev main_cst_48 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_cst_49 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_cst_50 : Ref sig .tc := ⟨.hbm, 254, rfl⟩
abbrev main_v186 : Ref sig .tc := ⟨.hbm, 255, rfl⟩
abbrev main_v187 : Ref sig .tc := ⟨.hbm, 256, rfl⟩
abbrev main_cst_51 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩

abbrev nD : Nat := 1
abbrev τ : Topo := Topo.v7x

variable {F : FTy → Type} [FloatOps F]
-- ==== Proof.WgUp.lean ====
/- The weight gradient of the MLP's first product: what the kernel's tiles add up to, against the reference. -/
module

public import proofs.«01_k».proof.Defs
public import proofs.«01_k».proof.Proof.Gen.WgUpIdeal.Value
public import proofs.«01_k».proof.Proof.Gen.WgUpRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WgUpIdeal.Tiles

open Cert.WgUpIdeal Cert.WgUpIdeal.Gen

variable (m : (ℓ : Loc nD τ sig) → Buf (Elt Ideal) ℓ)

/-- Every window's block index at a grid point. -/
theorem idx : ∀ t : Fin cfg0.N, win0_0.index t = ![0, 0] ∧ win0_1.index t = ![0, t.val] ∧ win0_2.index t = ![t.val, 0, 0] :=
  (by decide +kernel : ∀ t : Fin grid0.N, _)

/-- The result: column shard `j` holds the products of all rows' activations and gradients. -/
theorem final (c : Dev nD) : (dats m 0 c).arrAt 2 cfg0.N
    = Cert.WgUpRefIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]; unfold outsAt0
  frame_out
  unfold_payloads
  pointwise [Cert.WgUpRefIdeal.Read.val_main_v7, Cert.WgUpRefIdeal.Read.val_main_v6, Cert.WgUpRefIdeal.Read.val_main_v5, Cert.WgUpRefIdeal.Read.val_main_v4, Cert.WgUpRefIdeal.Read.val_main_v0, Cert.WgUpRefIdeal.Read.val_main_v1]
  conv_rhs => enter [2, k]; rw [mul_comm]
  blk_point [iblk, V, idx t]

end Cert.WgUpIdeal.Tiles

/-- Kernel and reference end with the same gradient. -/
theorem Cert.WgUpIdeal.Tiles.algebraic : Cert.algebraic_WgUpIdeal_WgUpRefIdeal := by
  pair_intro
  · run_from Cert.WgUpIdeal.Value.run_blocks m g
  · hlo_run
    exact (Cert.WgUpIdeal.Tiles.final m c).symm

end
-- ==== Proof.WgDown.lean ====
/- The weight gradient of the MLP's second product: what the kernel's tiles add up to, against the reference. -/
module

public import proofs.«01_k».proof.Defs
public import proofs.«01_k».proof.Proof.Gen.WgDownIdeal.Value
public import proofs.«01_k».proof.Proof.Gen.WgDownRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WgDownIdeal.Tiles

open Cert.WgDownIdeal Cert.WgDownIdeal.Gen

variable (m : (ℓ : Loc nD τ sig) → Buf (Elt Ideal) ℓ)

/-- Every window's block index at a grid point. -/
theorem idx : ∀ t : Fin cfg0.N, win0_0.index t = ![0, t.val] ∧ win0_1.index t = ![0, 0] ∧ win0_2.index t = ![t.val, 0] :=
  (by decide +kernel : ∀ t : Fin grid0.N, _)

/-- The result: the products of all rows' activations and gradients. -/
theorem final (c : Dev nD) : (dats m 0 c).arrAt 2 cfg0.N
    = Cert.WgDownRefIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]; unfold outsAt0
  frame_out
  unfold_payloads
  pointwise [Cert.WgDownRefIdeal.Read.val_main_v5, Cert.WgDownRefIdeal.Read.val_main_v5, Cert.WgDownRefIdeal.Read.val_main_v4, Cert.WgDownRefIdeal.Read.val_main_v0, Cert.WgDownRefIdeal.Read.val_main_v1]
  conv_rhs => enter [2, k]; rw [mul_comm]
  blk_point [iblk, V, idx t]

end Cert.WgDownIdeal.Tiles

/-- Kernel and reference end with the same gradient. -/
theorem Cert.WgDownIdeal.Tiles.algebraic : Cert.algebraic_WgDownIdeal_WgDownRefIdeal := by
  pair_intro
  · run_from Cert.WgDownIdeal.Value.run_blocks m g
  · hlo_run
    exact (Cert.WgDownIdeal.Tiles.final m c).symm

end
-- ==== Proof.WgProj.lean ====
/- The weight gradient of the input projection: what the kernel's tiles add up to, against the reference. -/
module

public import proofs.«01_k».proof.Defs
public import proofs.«01_k».proof.Proof.Gen.WgProjIdeal.Value
public import proofs.«01_k».proof.Proof.Gen.WgProjRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WgProjIdeal.Tiles

open Cert.WgProjIdeal Cert.WgProjIdeal.Gen

variable (m : (ℓ : Loc nD τ sig) → Buf (Elt Ideal) ℓ)

/-- Every window's block index at a grid point. -/
theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- A sum over all rows is the sum over the first half and the sum over the second half. -/
theorem halves (f : Fin 4096 → EReal) : ∑ l, f l
    = ∑ k : Fin 2048, f ⟨k.val, by omega⟩ + ∑ k : Fin 2048, f ⟨2048 + k.val, by omega⟩ :=
  Fin.sum_univ_add (a := 2048) (b := 2048) f

/-- Two steps of a run add up all rows: entry `i` of the running tile against entry `j` of the gradient. -/
theorem core (c : Dev nD) (t s : Fin cfg0.N) (h1 : t.val % 2 = 1) (hs : s.val = t.val - 1) (i : S1024x1280.Idx) (j : S8x1024x640.Idx)
    (hj0 : (j 0 : ℕ) = t.val / 2 * 2 + i 1 / 640) (hj1 : (j 1 : ℕ) = i 0) (hj2 : (j 2 : ℕ) = i 1 % 640) :
    k0_pay2 (F := Ideal) (k0_pay2 (F := Ideal) (k0_pay1 (F := Ideal)) (iblk m c 0 s) (iblk m c 1 s)) (iblk m c 0 t) (iblk m c 1 t) i
      = Cert.WgProjRefIdeal.Read.val_main_v7 (F := Ideal) (m ((c : Thread nD τ).loc main_arg0)) (m ((c : Thread nD τ).loc main_arg1)) j := by
  unfold_payloads
  pointwise [Cert.WgProjRefIdeal.Read.val_main_v7, Cert.WgProjRefIdeal.Read.val_main_v6, Cert.WgProjRefIdeal.Read.val_main_v5, Cert.WgProjRefIdeal.Read.val_main_v4, Cert.WgProjRefIdeal.Read.val_main_v0, Cert.WgProjRefIdeal.Read.val_main_v1]
  conv_rhs => enter [2, k]; rw [mul_comm]
  conv_rhs => rw [halves]
  blk_point [iblk, V, idx t, idx s]

/-- The result: column shard `j` holds the products of all rows' activations and gradients. -/
theorem final (c : Dev nD) : (dats m 0 c).arrAt 2 cfg0.N
    = Cert.WgProjRefIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have ht : t.val - 1 < cfg0.N := Nat.lt_of_le_of_lt (Nat.sub_le _ _) t.isLt
  rw [after0_2, outsAt0_B m c t (by omega) h1]
  frame_out
  rw [outsAt0_A m c ⟨t.val - 1, ht⟩ (by show (t.val - 1) % 2 = 0; omega) (by show ¬ (t.val - 1) % 2 = 1; omega)]
  frame_out
  have hT : t.val < 8 := lt_of_lt_of_eq t.isLt N_0
  have hy0 : (y 0).val < 2 := (y 0).isLt
  have hy1 : (y 1).val < 1024 := (y 1).isLt
  have hy2 : (y 2).val < 640 := (y 2).isLt
  obtain_idx i : S1024x1280 := [(y 1 : ℕ), 640 * (y 0 : ℕ) + (y 2 : ℕ)] with hi
  refine Eq.trans ?_ (core m c t ⟨t.val - 1, ht⟩ h1 rfl i _ ?_ ?_ ?_)
  · canon_tiles x h
    all_goals
      rw [read_unread_whole, View.readCov_fill (h := by decide)]
      generalize k0_pay2 (F := Ideal) (k0_pay2 (F := Ideal) _ _ _) _ _ = P
      open_payloads
      pointwise
      blk_ext
  all_goals (blk_simp [idx t] <;> try omega)

end Cert.WgProjIdeal.Tiles

/-- Kernel and reference end with the same gradient. -/
theorem Cert.WgProjIdeal.Tiles.algebraic : Cert.algebraic_WgProjIdeal_WgProjRefIdeal := by
  pair_intro
  · run_from Cert.WgProjIdeal.Value.run_blocks m g
  · hlo_run
    exact (Cert.WgProjIdeal.Tiles.final m c).symm

end
-- ==== Proof.Mix.lean ====
/- The backward pass of the gated merge: what the kernel's tiles add up to, against the reference. -/
module

public import proofs.«01_k».proof.Defs
public import proofs.«01_k».proof.Proof.Gen.MixIdeal.Value
public import proofs.«01_k».proof.Proof.Gen.MixRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIdeal.Tiles

open Cert.MixIdeal Cert.MixIdeal.Gen

variable (m : (ℓ : Loc nD τ sig) → Buf (Elt Ideal) ℓ)

/-- Every window's block index at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![0, 0, 0]
    ∧ win0_7.index t = ![0, 0] ∧ win0_8.index t = ![t.val, 0] ∧ win0_9.index t = ![t.val, 0] ∧ win0_10.index t = ![t.val, 0]
    ∧ win0_11.index t = ![0, 0] ∧ win0_12.index t = ![0, 0] ∧ win0_13.index t = ![0, 0, 0] ∧ win0_14.index t = ![0, 0, 0] :=
  (by decide +kernel : ∀ t : Fin grid0.N, _)

open Cert.MixRefIdeal.Read

/-- A projection with its column shards side by side. -/
def side (X : Vec Ideal S8x512x128 .bf16) : Vec Ideal S512x1024 .bf16 := fun i => val_main_v3 (F := Ideal) X i

theorem slabs (X : Vec Ideal S8x512x128 .bf16) : View.canon [
    (⟨Rect.unit ![0, 896] ![512, 128] (by decide), shapeCast S512x128 (shapeCast S512x128 (View.ld X (Rect.unit ![7, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 768] ![512, 128] (by decide), shapeCast S512x128 (shapeCast S512x128 (View.ld X (Rect.unit ![6, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 640] ![512, 128] (by decide), shapeCast S512x128 (shapeCast S512x128 (View.ld X (Rect.unit ![5, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 512] ![512, 128] (by decide), shapeCast S512x128 (shapeCast S512x128 (View.ld X (Rect.unit ![4, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 384] ![512, 128] (by decide), shapeCast S512x128 (shapeCast S512x128 (View.ld X (Rect.unit ![3, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 256] ![512, 128] (by decide), shapeCast S512x128 (shapeCast S512x128 (View.ld X (Rect.unit ![2, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 128] ![512, 128] (by decide), shapeCast S512x128 (shapeCast S512x128 (View.ld X (Rect.unit ![1, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 0] ![512, 128] (by decide), shapeCast S512x128 (shapeCast S512x128 (View.ld X (Rect.unit ![0, 0, 0] ![1, 512, 128] (by decide)) : Vec Ideal S1x512x128 .bf16) shapeCasts_S1x512x128_S512x128) shapeCasts_S512x128_S512x128⟩ : View.Piece (Elt Ideal) S512x1024 .bf16)] = side X := by
  funext i
  unfold side
  canon_tiles x h
  all_goals
    pointwise [val_main_v3, val_main_v2, val_main_v1]
    blk_ext

theorem iblk5 (c : Dev nD) (t : Fin cfg0.N) : iblk m c 5 t = m ((c : Thread nD τ).loc main_arg5) := by
  funext i
  blk_point [iblk, V, idx t]

theorem iblk6 (c : Dev nD) (t : Fin cfg0.N) : iblk m c 6 t = m ((c : Thread nD τ).loc main_arg6) := by
  funext i
  blk_point [iblk, V, idx t]

theorem wsb_A (c : Dev nD) (t : Fin cfg0.N) (h0 : t.val % 16 = 0) (h1 : ¬t.val % 16 = 15) :
    (outsAt0 m c t.val t.isLt).2.2.2.2.2.2.2.1 = side (m ((c : Thread nD τ).loc main_arg5)) := by
  rw [outsAt0_A m c t h0 h1]
  frame_out
  rw [slabs, iblk5]

theorem wca_A (c : Dev nD) (t : Fin cfg0.N) (h0 : t.val % 16 = 0) (h1 : ¬t.val % 16 = 15) :
    (outsAt0 m c t.val t.isLt).2.2.2.2.2.2.2.2.1 = side (m ((c : Thread nD τ).loc main_arg6)) := by
  rw [outsAt0_A m c t h0 h1]
  frame_out
  unfold_payloads
  rw [slabs, iblk6]

/-- The assembled projections stay in their scratches. -/
theorem kept (c : Dev nD) : ∀ (n : ℕ) (hn : n < cfg0.N),
    (outsAt0 m c n hn).2.2.2.2.2.2.2.1 = side (m ((c : Thread nD τ).loc main_arg5))
      ∧ (outsAt0 m c n hn).2.2.2.2.2.2.2.2.1 = side (m ((c : Thread nD τ).loc main_arg6)) := by
  intro n
  induction n with
  | zero => exact fun hn => ⟨wsb_A m c ⟨0, hn⟩ rfl (show ¬ 0 % 16 = 15 by decide), wca_A m c ⟨0, hn⟩ rfl (show ¬ 0 % 16 = 15 by decide)⟩
  | succ n ih =>
    intro hn
    have hN : n + 1 < 16 := lt_of_lt_of_eq hn N_0
    have h := ih (by omega)
    by_cases h1 : (n + 1) % 16 = 15
    · rw [outsAt0_C m c ⟨n + 1, hn⟩ (by show ¬ (n + 1) % 16 = 0; omega) h1]
      exact h
    · rw [outsAt0_B m c ⟨n + 1, hn⟩ (by show ¬ (n + 1) % 16 = 0; omega) h1]
      exact h

/-- A covered read of the assembled scratch. -/
theorem read_slabs (v : View sig .tc .vmem S512x1024 .bf16) (X : Vec Ideal S8x512x128 .bf16) (inb) : v.readCov [
    (⟨Rect.unit ![0, 896] ![512, 128] (by decide), shapeCast S512x128 (shapeCast S512x128 (View.ld X (Rect.unit ![7, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 768] ![512, 128] (by decide), shapeCast S512x128 (shapeCast S512x128 (View.ld X (Rect.unit ![6, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 640] ![512, 128] (by decide), shapeCast S512x128 (shapeCast S512x128 (View.ld X (Rect.unit ![5, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 512] ![512, 128] (by decide), shapeCast S512x128 (shapeCast S512x128 (View.ld X (Rect.unit ![4, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 384] ![512, 128] (by decide), shapeCast S512x128 (shapeCast S512x128 (View.ld X (Rect.unit ![3, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 256] ![512, 128] (by decide), shapeCast S512x128 (shapeCast S512x128 (View.ld X (Rect.unit ![2, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 128] ![512, 128] (by decide), shapeCast S512x128 (shapeCast S512x128 (View.ld X (Rect.unit ![1, 0, 0] ![1, 512, 128] (by decide)) : Vec Ideal S1x512x128 .bf16) shapeCasts_S1x512x128_S512x128) shapeCasts_S512x128_S512x128⟩ : View.Piece (Elt Ideal) S512x1024 .bf16),
    (⟨Rect.unit ![0, 0] ![512, 128] (by decide), shapeCast S512x128 (shapeCast S512x128 (View.ld X (Rect.unit ![0, 0, 0] ![1, 512, 128] (by decide)) : Vec Ideal S1x512x128 .bf16) shapeCasts_S1x512x128_S512x128) shapeCasts_S512x128_S512x128⟩ : View.Piece (Elt Ideal) S512x1024 .bf16)] (Rect.unit ![0, 0] ![512, 1024] inb).toLoadRect = side X := by
  rw [View.readCov_eq_canon', slabs]
  funext j
  exact congrFun (View.ld_unit_lit' (S := S512x1024) inb (side X) (by decide)) j

variable (c : Dev nD) (t : Fin cfg0.N)

theorem iblk4 (i : S1x2048.Idx) : iblk m c 4 t i = m ((c : Thread nD τ).loc main_arg4) (ix1 (i 1)) := by
  blk_simp [iblk, V, idx t]
  entry_read
  pointwise
  blk_ext [idx t]

theorem gateL (x : S256x1024.Idx) (j : S4096x2048.Idx) (hj0 : (j 0 : ℕ) = t.val * 256 + x 0) (hj1 : (j 1 : ℕ) = x 1) :
    k0_pay46 (F := Ideal) (iblk m c 3 t) (iblk m c 4 t) x = val_main_v18 (F := Ideal) (m ((c : Thread nD τ).loc main_arg3)) (m ((c : Thread nD τ).loc main_arg4)) j := by
  unfold_payloads
  pointwise [val_main_v18, val_main_v17, val_main_v16, val_main_v15, val_main_v14, val_main_v13, val_main_v10, val_main_v9, val_main_v8, val_main_cst, val_main_cst_0]
  rw [iblk4]
  refine congrArg Ideal.logistic ?_
  blk_point [iblk, V, idx t]

theorem ysb (x : S256x1024.Idx) (j : S4096x1024.Idx) (hj0 : (j 0 : ℕ) = t.val * 256 + x 0) (hj1 : (j 1 : ℕ) = x 1) :
    k0_pay43 (F := Ideal) (iblk m c 1 t) (side (m ((c : Thread nD τ).loc main_arg5))) x = val_main_v11 (F := Ideal) (m ((c : Thread nD τ).loc main_arg1)) (m ((c : Thread nD τ).loc main_arg5)) j := by
  unfold_payloads
  pointwise [val_main_v11]
  blk_point [iblk, V, idx t]

theorem dm (x : S256x1024.Idx) (j : S4096x1024.Idx) (hj0 : (j 0 : ℕ) = t.val * 256 + x 0) (hj1 : (j 1 : ℕ) = x 1) :
    k0_pay49 (F := Ideal) (iblk m c 0 t) (iblk m c 7 t) x = val_main_v30 (F := Ideal) (m ((c : Thread nD τ).loc main_arg0)) (m ((c : Thread nD τ).loc main_arg7)) j := by
  unfold_payloads
  pointwise [val_main_v30, val_main_v7]
  blk_point [iblk, V, idx t]

theorem gateR (x : S256x1024.Idx) (j : S4096x2048.Idx) (hj0 : (j 0 : ℕ) = t.val * 256 + x 0) (hj1 : (j 1 : ℕ) = 1024 + x 1) :
    k0_pay47 (F := Ideal) (iblk m c 3 t) (iblk m c 4 t) x = val_main_v18 (F := Ideal) (m ((c : Thread nD τ).loc main_arg3)) (m ((c : Thread nD τ).loc main_arg4)) j := by
  unfold_payloads
  pointwise [val_main_v18, val_main_v17, val_main_v16, val_main_v15, val_main_v14, val_main_v13, val_main_v10, val_main_v9, val_main_v8, val_main_cst, val_main_cst_0]
  rw [iblk4]
  refine congrArg Ideal.logistic ?_
  blk_point [iblk, V, idx t]

theorem yca (x : S256x1024.Idx) (j : S4096x1024.Idx) (hj0 : (j 0 : ℕ) = t.val * 256 + x 0) (hj1 : (j 1 : ℕ) = x 1) :
    k0_pay44 (F := Ideal) (iblk m c 2 t) (side (m ((c : Thread nD τ).loc main_arg6))) x = val_main_v12 (F := Ideal) (m ((c : Thread nD τ).loc main_arg2)) (m ((c : Thread nD τ).loc main_arg6)) j := by
  unfold_payloads
  pointwise [val_main_v12, val_main_v0]
  blk_point [iblk, V, idx t]

/-- The merged rows of one point. -/
theorem merged (x : S256x1024.Idx) (j : S4096x1024.Idx) (hj0 : (j 0 : ℕ) = t.val * 256 + x 0) (hj1 : (j 1 : ℕ) = x 1) :
    k0_pay48 (F := Ideal) (iblk m c 1 t) (iblk m c 2 t) (iblk m c 3 t) (iblk m c 4 t) (side (m ((c : Thread nD τ).loc main_arg5))) (side (m ((c : Thread nD τ).loc main_arg6))) x
      = val_main_v26 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  have hx1 : (x 1).val < 1024 := (x 1).isLt
  have hj0' : (j 0).val < 4096 := (j 0).isLt
  unfold k0_pay48
  pointwise [val_main_v26, val_main_v25, val_main_v24, val_main_v23, val_main_v22]
  rw [ysb m c t x j hj0 hj1, yca m c t x j hj0 hj1, gateL m c t x (ix2 (j 0) ⟨(j 1).val, by omega⟩) hj0 hj1, gateR m c t x (ix2 (j 0) ⟨1024 + (j 1).val, by omega⟩) hj0 (by show 1024 + (j 1).val = _; omega)]
  blk_ext

/-- The gate logits' gradient, first half of the columns. -/
theorem dlgL (x : S256x1024.Idx) (j : S4096x2048.Idx) (hj0 : (j 0 : ℕ) = t.val * 256 + x 0) (hj1 : (j 1 : ℕ) = x 1) :
    k0_pay50 (F := Ideal) (iblk m c 1 t) (iblk m c 0 t) (iblk m c 3 t) (iblk m c 4 t) (side (m ((c : Thread nD τ).loc main_arg5))) (iblk m c 7 t) x
      = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j := by
  have hx1 : (x 1).val < 1024 := (x 1).isLt
  have hj0' : (j 0).val < 4096 := (j 0).isLt
  unfold k0_pay50
  pointwise [val_main_v38, val_main_v37, val_main_v36, val_main_v33, val_main_v35, val_main_v32, val_main_v21, val_main_v20, val_main_v19, val_main_cst_1, val_main_cst_2]
  rw [dif_neg (by omega), dif_pos (by omega : (j 1).val < 1024), zero_add, dm m c t x (ix2 (j 0) ⟨(j 1).val, by omega⟩) hj0 hj1, ysb m c t x (ix2 (j 0) ⟨(j 1).val, by omega⟩) hj0 hj1,
    gateL m c t x j hj0 hj1, mul_assoc]

/-- The gate logits' gradient, second half of the columns. -/
theorem dlgR (x : S256x1024.Idx) (j : S4096x2048.Idx) (hj0 : (j 0 : ℕ) = t.val * 256 + x 0) (hj1 : (j 1 : ℕ) = 1024 + x 1) :
    k0_pay51 (F := Ideal) (iblk m c 2 t) (iblk m c 0 t) (iblk m c 3 t) (iblk m c 4 t) (side (m ((c : Thread nD τ).loc main_arg6))) (iblk m c 7 t) x
      = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j := by
  have hx1 : (x 1).val < 1024 := (x 1).isLt
  have hj0' : (j 0).val < 4096 := (j 0).isLt
  have hj1' : (j 1).val < 2048 := (j 1).isLt
  unfold k0_pay51
  pointwise [val_main_v38, val_main_v37, val_main_v36, val_main_v33, val_main_v35, val_main_v32, val_main_v21, val_main_v20, val_main_v19, val_main_cst_1, val_main_cst_3]
  rw [dif_pos (by omega), dif_neg (by omega), add_zero, dm m c t x (ix2 (j 0) ⟨(j 1).val - 1024, by omega⟩) hj0 (by show (j 1).val - 1024 = _; omega),
    yca m c t x (ix2 (j 0) ⟨(j 1).val - 1024, by omega⟩) hj0 (by show (j 1).val - 1024 = _; omega), gateR m c t x j hj0 hj1, mul_assoc]

/-- The cotangent of a branch's projection. -/
theorem dyL (x : S256x1024.Idx) (j : S4096x1024.Idx) (hj0 : (j 0 : ℕ) = t.val * 256 + x 0) (hj1 : (j 1 : ℕ) = x 1) :
    k0_pay56 (F := Ideal) (k0_pay46 (iblk m c 3 t) (iblk m c 4 t)) (k0_pay49 (iblk m c 0 t) (iblk m c 7 t)) x
      = val_main_v34 (F := Ideal) (m ((c : Thread nD τ).loc main_arg0)) (m ((c : Thread nD τ).loc main_arg3)) (m ((c : Thread nD τ).loc main_arg4)) (m ((c : Thread nD τ).loc main_arg7)) j := by
  have hx1 : (x 1).val < 1024 := (x 1).isLt
  have hj0' : (j 0).val < 4096 := (j 0).isLt
  unfold k0_pay56
  pointwise [val_main_v34, val_main_v22]
  rw [dm m c t x j hj0 hj1, gateL m c t x (ix2 (j 0) ⟨(j 1).val, by omega⟩) hj0 hj1]
  rw [mul_comm]
  blk_ext

theorem dyR (x : S256x1024.Idx) (j : S4096x1024.Idx) (hj0 : (j 0 : ℕ) = t.val * 256 + x 0) (hj1 : (j 1 : ℕ) = x 1) :
    k0_pay57 (F := Ideal) (k0_pay47 (F := Ideal) (iblk m c 3 t) (iblk m c 4 t)) (k0_pay49 (F := Ideal) (iblk m c 0 t) (iblk m c 7 t)) x
      = val_main_v31 (F := Ideal) (m ((c : Thread nD τ).loc main_arg0)) (m ((c : Thread nD τ).loc main_arg3)) (m ((c : Thread nD τ).loc main_arg4)) (m ((c : Thread nD τ).loc main_arg7)) j := by
  have hx1 : (x 1).val < 1024 := (x 1).isLt
  have hj0' : (j 0).val < 4096 := (j 0).isLt
  unfold k0_pay57
  pointwise [val_main_v31, val_main_v24]
  rw [dm m c t x j hj0 hj1, gateR m c t x (ix2 (j 0) ⟨1024 + (j 1).val, by omega⟩) hj0 (by show 1024 + (j 1).val = _; omega)]
  rw [mul_comm]
  blk_ext

/-! ## What each point leaves -/

theorem out8 : (outsAt0 m c t.val t.isLt).1 = View.canon [(⟨Rect.unit ![0, 1024] ![256, 1024] inb_S256x2048_S256x1024_0_1024, k0_pay53 (F := Ideal) (k0_pay51 (F := Ideal) (iblk m c 2 t) (iblk m c 0 t) (iblk m c 3 t) (iblk m c 4 t) (side (m ((c : Thread nD τ).loc main_arg6))) (iblk m c 7 t))⟩ : View.Piece (Elt Ideal) S256x2048 .bf16), (⟨Rect.unit ![0, 0] ![256, 1024] inb_S256x2048_S256x1024_0_0, k0_pay52 (F := Ideal) (k0_pay50 (F := Ideal) (iblk m c 1 t) (iblk m c 0 t) (iblk m c 3 t) (iblk m c 4 t) (side (m ((c : Thread nD τ).loc main_arg5))) (iblk m c 7 t))⟩ : View.Piece (Elt Ideal) S256x2048 .bf16)] := by
  have hT : t.val < 16 := lt_of_lt_of_eq t.isLt N_0
  by_cases h0 : t.val % 16 = 0
  · rw [outsAt0_A m c t h0 (by omega)]
    frame_out
    simp only [k0_pay8, k0_pay9, k0_pay10, k0_pay11, k0_pay12, k0_pay13, k0_pay14, k0_pay15, k0_pay16, k0_pay17, k0_pay18, k0_pay19, k0_pay20, k0_pay21, k0_pay22, k0_pay23, k0_pay24, iblk5, iblk6]
    repeat rw [read_slabs]
  · by_cases h1 : t.val % 16 = 15
    · rw [outsAt0_C m c t h0 h1]
      frame_out
      simp only [read_unread_whole, (kept m c (t.val - 1) (by omega)).1, (kept m c (t.val - 1) (by omega)).2]
    · rw [outsAt0_B m c t h0 h1]
      frame_out
      simp only [read_unread_whole, (kept m c (t.val - 1) (by omega)).1, (kept m c (t.val - 1) (by omega)).2]

theorem out9 : (outsAt0 m c t.val t.isLt).2.1 = k0_pay58 (F := Ideal) (k0_pay46 (F := Ideal) (iblk m c 3 t) (iblk m c 4 t)) (k0_pay49 (F := Ideal) (iblk m c 0 t) (iblk m c 7 t)) (side (m ((c : Thread nD τ).loc main_arg5))) := by
  have hT : t.val < 16 := lt_of_lt_of_eq t.isLt N_0
  by_cases h0 : t.val % 16 = 0
  · rw [outsAt0_A m c t h0 (by omega)]
    frame_out
    simp only [k0_pay8, k0_pay9, k0_pay10, k0_pay11, k0_pay12, k0_pay13, k0_pay14, k0_pay15, k0_pay16, k0_pay17, k0_pay18, k0_pay19, k0_pay20, k0_pay21, k0_pay22, k0_pay23, k0_pay24, iblk5, iblk6]
    repeat rw [read_slabs]
  · by_cases h1 : t.val % 16 = 15
    · rw [outsAt0_C m c t h0 h1]
      frame_out
      simp only [read_unread_whole, (kept m c (t.val - 1) (by omega)).1, (kept m c (t.val - 1) (by omega)).2]
    · rw [outsAt0_B m c t h0 h1]
      frame_out
      simp only [read_unread_whole, (kept m c (t.val - 1) (by omega)).1, (kept m c (t.val - 1) (by omega)).2]

theorem out10 : (outsAt0 m c t.val t.isLt).2.2.1 = k0_pay59 (F := Ideal) (k0_pay47 (F := Ideal) (iblk m c 3 t) (iblk m c 4 t)) (k0_pay49 (F := Ideal) (iblk m c 0 t) (iblk m c 7 t)) (side (m ((c : Thread nD τ).loc main_arg6))) := by
  have hT : t.val < 16 := lt_of_lt_of_eq t.isLt N_0
  by_cases h0 : t.val % 16 = 0
  · rw [outsAt0_A m c t h0 (by omega)]
    frame_out
    simp only [k0_pay8, k0_pay9, k0_pay10, k0_pay11, k0_pay12, k0_pay13, k0_pay14, k0_pay15, k0_pay16, k0_pay17, k0_pay18, k0_pay19, k0_pay20, k0_pay21, k0_pay22, k0_pay23, k0_pay24, iblk5, iblk6]
    repeat rw [read_slabs]
  · by_cases h1 : t.val % 16 = 15
    · rw [outsAt0_C m c t h0 h1]
      frame_out
      simp only [read_unread_whole, (kept m c (t.val - 1) (by omega)).1, (kept m c (t.val - 1) (by omega)).2]
    · rw [outsAt0_B m c t h0 h1]
      frame_out
      simp only [read_unread_whole, (kept m c (t.val - 1) (by omega)).1, (kept m c (t.val - 1) (by omega)).2]

/-- One point's step of the gate bias's gradient: both halves of the row take the column sums of a tile. -/
def dbgStep (u v : FVec Ideal S256x1024 .f32) (acc : Vec Ideal S1x2048 .f32) : Vec Ideal S1x2048 .f32 :=
  View.canon [(⟨Rect.unit ![0, 1024] ![1, 1024] inb_S1x2048_S1x1024_0_1024, k0_pay55 (F := Ideal) u (View.ld (Val := Elt Ideal) (e' := .f32) acc (Rect.unit ![0, 1024] ![1, 1024] inb_S1x2048_S1x1024_0_1024))⟩ : View.Piece (Elt Ideal) S1x2048 .f32),
    (⟨Rect.unit ![0, 0] ![1, 1024] inb_S1x2048_S1x1024_0_0, k0_pay54 (F := Ideal) v (View.ld (Val := Elt Ideal) (e' := .f32) acc (Rect.unit ![0, 0] ![1, 1024] inb_S1x2048_S1x1024_0_0))⟩ : View.Piece (Elt Ideal) S1x2048 .f32)]

/-- What a later point leaves. -/
theorem out11_next (h0 : ¬ t.val % 16 = 0) : (outsAt0 m c t.val t.isLt).2.2.2.1 = dbgStep (k0_pay51 (F := Ideal) (iblk m c 2 t) (iblk m c 0 t) (iblk m c 3 t) (iblk m c 4 t) (side (m ((c : Thread nD τ).loc main_arg6))) (iblk m c 7 t)) (k0_pay50 (F := Ideal) (iblk m c 1 t) (iblk m c 0 t) (iblk m c 3 t) (iblk m c 4 t) (side (m ((c : Thread nD τ).loc main_arg5))) (iblk m c 7 t)) ((outsAt0 m c (t.val - 1) (Nat.lt_of_le_of_lt (Nat.sub_le _ _) t.isLt)).2.2.2.1) := by
  have hT : t.val < 16 := lt_of_lt_of_eq t.isLt N_0
  by_cases h1 : t.val % 16 = 15
  · rw [outsAt0_C m c t h0 h1]
    frame_out
    simp only [read_unread_whole, (kept m c (t.val - 1) (by omega)).1, (kept m c (t.val - 1) (by omega)).2]
  · rw [outsAt0_B m c t h0 h1]
    frame_out
    simp only [read_unread_whole, (kept m c (t.val - 1) (by omega)).1, (kept m c (t.val - 1) (by omega)).2]

/-- What a first point leaves. -/
theorem out12_first (h0 : t.val % 16 = 0) : (outsAt0 m c t.val t.isLt).2.2.2.2.1 = k0_pay1 (F := Ideal) (k0_pay42 (F := Ideal) (iblk m c 0 t)) (k0_pay48 (F := Ideal) (iblk m c 1 t) (iblk m c 2 t) (iblk m c 3 t) (iblk m c 4 t) (side (m ((c : Thread nD τ).loc main_arg5))) (side (m ((c : Thread nD τ).loc main_arg6)))) (k0_pay38 (F := Ideal)) := by
  have hT : t.val < 16 := lt_of_lt_of_eq t.isLt N_0
  rw [outsAt0_A m c t h0 (by omega)]
  frame_out
  simp only [k0_pay8, k0_pay9, k0_pay10, k0_pay11, k0_pay12, k0_pay13, k0_pay14, k0_pay15, k0_pay16, k0_pay17, k0_pay18, k0_pay19, k0_pay20, k0_pay21, k0_pay22, k0_pay23, k0_pay24, iblk5, iblk6]
  repeat rw [read_slabs]
  all_goals (repeat rw [View.readCov_fill (h := by decide)])

/-- What a later point leaves. -/
theorem out12_next (h0 : ¬ t.val % 16 = 0) : (outsAt0 m c t.val t.isLt).2.2.2.2.1 = k0_pay1 (F := Ideal) (k0_pay42 (F := Ideal) (iblk m c 0 t)) (k0_pay48 (F := Ideal) (iblk m c 1 t) (iblk m c 2 t) (iblk m c 3 t) (iblk m c 4 t) (side (m ((c : Thread nD τ).loc main_arg5))) (side (m ((c : Thread nD τ).loc main_arg6)))) ((outsAt0 m c (t.val - 1) (Nat.lt_of_le_of_lt (Nat.sub_le _ _) t.isLt)).2.2.2.2.1) := by
  have hT : t.val < 16 := lt_of_lt_of_eq t.isLt N_0
  by_cases h1 : t.val % 16 = 15
  · rw [outsAt0_C m c t h0 h1]
    frame_out
    simp only [read_unread_whole, (kept m c (t.val - 1) (by omega)).1, (kept m c (t.val - 1) (by omega)).2]
  · rw [outsAt0_B m c t h0 h1]
    frame_out
    simp only [read_unread_whole, (kept m c (t.val - 1) (by omega)).1, (kept m c (t.val - 1) (by omega)).2]

/-- What a first point leaves. -/
theorem acc2_first (h0 : t.val % 16 = 0) : (outsAt0 m c t.val t.isLt).2.2.2.2.2.2.2.2.2.1 = k0_pay2 (F := Ideal) (k0_pay41 (F := Ideal) (iblk m c 1 t)) (k0_pay56 (F := Ideal) (k0_pay46 (F := Ideal) (iblk m c 3 t) (iblk m c 4 t)) (k0_pay49 (F := Ideal) (iblk m c 0 t) (iblk m c 7 t))) (k0_pay39 (F := Ideal)) := by
  have hT : t.val < 16 := lt_of_lt_of_eq t.isLt N_0
  rw [outsAt0_A m c t h0 (by omega)]
  frame_out
  all_goals (repeat rw [View.readCov_fill (h := by decide)])

/-- What a later point leaves. -/
theorem acc2_next (h0 : ¬ t.val % 16 = 0) : (outsAt0 m c t.val t.isLt).2.2.2.2.2.2.2.2.2.1 = k0_pay2 (F := Ideal) (k0_pay41 (F := Ideal) (iblk m c 1 t)) (k0_pay56 (F := Ideal) (k0_pay46 (F := Ideal) (iblk m c 3 t) (iblk m c 4 t)) (k0_pay49 (F := Ideal) (iblk m c 0 t) (iblk m c 7 t))) ((outsAt0 m c (t.val - 1) (Nat.lt_of_le_of_lt (Nat.sub_le _ _) t.isLt)).2.2.2.2.2.2.2.2.2.1) := by
  have hT : t.val < 16 := lt_of_lt_of_eq t.isLt N_0
  by_cases h1 : t.val % 16 = 15
  · rw [outsAt0_C m c t h0 h1]
    frame_out
    simp only [read_unread_whole, (kept m c (t.val - 1) (by omega)).1, (kept m c (t.val - 1) (by omega)).2]
  · rw [outsAt0_B m c t h0 h1]
    frame_out
    simp only [read_unread_whole, (kept m c (t.val - 1) (by omega)).1, (kept m c (t.val - 1) (by omega)).2]

/-- What a first point leaves. -/
theorem acc3_first (h0 : t.val % 16 = 0) : (outsAt0 m c t.val t.isLt).2.2.2.2.2.2.2.2.2.2 = k0_pay3 (F := Ideal) (iblk m c 2 t) (k0_pay57 (F := Ideal) (k0_pay47 (F := Ideal) (iblk m c 3 t) (iblk m c 4 t)) (k0_pay49 (F := Ideal) (iblk m c 0 t) (iblk m c 7 t))) (k0_pay40 (F := Ideal)) := by
  have hT : t.val < 16 := lt_of_lt_of_eq t.isLt N_0
  rw [outsAt0_A m c t h0 (by omega)]
  frame_out
  all_goals (repeat rw [View.readCov_fill (h := by decide)])

/-- What a later point leaves. -/
theorem acc3_next (h0 : ¬ t.val % 16 = 0) : (outsAt0 m c t.val t.isLt).2.2.2.2.2.2.2.2.2.2 = k0_pay3 (F := Ideal) (iblk m c 2 t) (k0_pay57 (F := Ideal) (k0_pay47 (F := Ideal) (iblk m c 3 t) (iblk m c 4 t)) (k0_pay49 (F := Ideal) (iblk m c 0 t) (iblk m c 7 t))) ((outsAt0 m c (t.val - 1) (Nat.lt_of_le_of_lt (Nat.sub_le _ _) t.isLt)).2.2.2.2.2.2.2.2.2.2) := by
  have hT : t.val < 16 := lt_of_lt_of_eq t.isLt N_0
  by_cases h1 : t.val % 16 = 15
  · rw [outsAt0_C m c t h0 h1]
    frame_out
    simp only [read_unread_whole, (kept m c (t.val - 1) (by omega)).1, (kept m c (t.val - 1) (by omega)).2]
  · rw [outsAt0_B m c t h0 h1]
    frame_out
    simp only [read_unread_whole, (kept m c (t.val - 1) (by omega)).1, (kept m c (t.val - 1) (by omega)).2]

/-! ## Row by row against the reference -/

/-- Row `k` of point `t`'s tile, as a row of the whole. -/
def row (t : Fin cfg0.N) (k : Fin 256) : Fin 4096 := ⟨t.val * 256 + k.val, by have h : t.val < 16 := lt_of_lt_of_eq t.isLt N_0; omega⟩

theorem step12 (acc : Vec Ideal S1024x1024 .f32) (j : S1024x1024.Idx) :
    k0_pay1 (F := Ideal) (k0_pay42 (F := Ideal) (iblk m c 0 t)) (k0_pay48 (F := Ideal) (iblk m c 1 t) (iblk m c 2 t) (iblk m c 3 t) (iblk m c 4 t) (side (m ((c : Thread nD τ).loc main_arg5))) (side (m ((c : Thread nD τ).loc main_arg6)))) acc j
      = (acc j : EReal) + ∑ k : Fin 256, HMul.hMul (α := EReal) (β := EReal) (γ := EReal) ((m ((c : Thread nD τ).loc main_arg0)) (ix2 (row t k) (j 1))) (val_main_v26 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t k) (j 0))) := by
  unfold k0_pay1 k0_pay42
  pointwise
  refine congrArg ((acc j : EReal) + ·) (Fin.sum_fin_congr fun k => ?_)
  rw [merged m c t _ (ix2 (row t k) (j 0)) rfl rfl, mul_comm]
  refine congrArg₂ (fun a b : EReal => a * b) ?_ rfl
  blk_point [iblk, V, idx t, row]

theorem step2 (acc : Vec Ideal S512x1024 .f32) (j : S512x1024.Idx) :
    k0_pay2 (F := Ideal) (k0_pay41 (F := Ideal) (iblk m c 1 t)) (k0_pay56 (F := Ideal) (k0_pay46 (F := Ideal) (iblk m c 3 t) (iblk m c 4 t)) (k0_pay49 (F := Ideal) (iblk m c 0 t) (iblk m c 7 t))) acc j
      = (acc j : EReal) + ∑ k : Fin 256, HMul.hMul (α := EReal) (β := EReal) (γ := EReal) (val_main_v34 (F := Ideal) (m ((c : Thread nD τ).loc main_arg0)) (m ((c : Thread nD τ).loc main_arg3)) (m ((c : Thread nD τ).loc main_arg4)) (m ((c : Thread nD τ).loc main_arg7)) (ix2 (row t k) (j 1))) ((m ((c : Thread nD τ).loc main_arg1)) (ix2 (row t k) (j 0))) := by
  unfold k0_pay2 k0_pay41
  pointwise
  refine congrArg ((acc j : EReal) + ·) (Fin.sum_fin_congr fun k => ?_)
  rw [dyL m c t _ (ix2 (row t k) (j 1)) rfl rfl, mul_comm]
  refine congrArg₂ (fun a b : EReal => a * b) rfl ?_
  blk_point [iblk, V, idx t, row]

theorem step3 (acc : Vec Ideal S512x1024 .f32) (j : S512x1024.Idx) :
    k0_pay3 (F := Ideal) (iblk m c 2 t) (k0_pay57 (F := Ideal) (k0_pay47 (F := Ideal) (iblk m c 3 t) (iblk m c 4 t)) (k0_pay49 (F := Ideal) (iblk m c 0 t) (iblk m c 7 t))) acc j
      = (acc j : EReal) + ∑ k : Fin 256, HMul.hMul (α := EReal) (β := EReal) (γ := EReal) (val_main_v31 (F := Ideal) (m ((c : Thread nD τ).loc main_arg0)) (m ((c : Thread nD τ).loc main_arg3)) (m ((c : Thread nD τ).loc main_arg4)) (m ((c : Thread nD τ).loc main_arg7)) (ix2 (row t k) (j 1))) ((m ((c : Thread nD τ).loc main_arg2)) (ix2 (row t k) (j 0))) := by
  unfold k0_pay3
  pointwise
  refine congrArg ((acc j : EReal) + ·) (Fin.sum_fin_congr fun k => ?_)
  rw [dyR m c t _ (ix2 (row t k) (j 1)) rfl rfl, mul_comm]
  refine congrArg₂ (fun a b : EReal => a * b) rfl ?_
  blk_point [iblk, V, idx t, row]

theorem step11 (acc : Vec Ideal S1x2048 .f32) (j : S1x2048.Idx) :
    dbgStep (k0_pay51 (F := Ideal) (iblk m c 2 t) (iblk m c 0 t) (iblk m c 3 t) (iblk m c 4 t) (side (m ((c : Thread nD τ).loc main_arg6))) (iblk m c 7 t)) (k0_pay50 (F := Ideal) (iblk m c 1 t) (iblk m c 0 t) (iblk m c 3 t) (iblk m c 4 t) (side (m ((c : Thread nD τ).loc main_arg5))) (iblk m c 7 t)) acc j
      = (acc j : EReal) + ∑ k : Fin 256, val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t k) (j 1)) := by
  unfold dbgStep
  canon_tiles x h
  · unfold k0_pay55
    pointwise
    refine congrArg₂ (fun a b : EReal => a + b) ?_ (Fin.sum_fin_congr fun k => dlgR m c t _ _ rfl h1)
    blk_ext
  · unfold k0_pay54
    pointwise
    refine congrArg₂ (fun a b : EReal => a + b) ?_ (Fin.sum_fin_congr fun k => dlgL m c t _ _ rfl h1)
    blk_ext

/-- Two pieces that cover the whole, what was there before them is gone. -/
theorem drop {s : Shape} (a b : View.Piece (Elt Ideal) s .f32) (L : List (View.Piece (Elt Ideal) s .f32))
    (hc : ∀ y : s.Idx, ∃ p ∈ [a, b], y ∈ p.1.set) : View.canon (a :: b :: L) = View.canon [a, b] := by
  funext y
  by_cases ha : y ∈ a.1.set
  · obtain ⟨x, rfl⟩ := LoadRect.exists_idx_of_mem a.1.toLoadRect ha
    exact (View.canon_cons_emb a.1 a.2 (b :: L) x).trans (View.canon_cons_emb a.1 a.2 [b] x).symm
  · rw [View.canon_cons_of_not_mem a _ ha, View.canon_cons_of_not_mem a _ ha]
    by_cases hb : y ∈ b.1.set
    · obtain ⟨x, rfl⟩ := LoadRect.exists_idx_of_mem b.1.toLoadRect hb
      exact (View.canon_cons_emb b.1 b.2 L x).trans (View.canon_cons_emb b.1 b.2 [] x).symm
    · obtain ⟨p, hp, hy⟩ := hc y
      simp only [List.mem_cons, List.not_mem_nil, or_false] at hp
      rcases hp with rfl | rfl
      · exact absurd hy ha
      · exact absurd hy hb

/-- What a first point leaves in the gate bias's gradient. -/
theorem out11_first (h0 : t.val % 16 = 0) (j : S1x2048.Idx) : (outsAt0 m c t.val t.isLt).2.2.2.1 j
    = (0 : EReal) + ∑ k : Fin 256, val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t k) (j 1)) := by
  have hT : t.val < 16 := lt_of_lt_of_eq t.isLt N_0
  rw [outsAt0_A m c t h0 (by omega)]
  frame_out
  simp only [k0_pay8, k0_pay9, k0_pay10, k0_pay11, k0_pay12, k0_pay13, k0_pay14, k0_pay15, k0_pay16, k0_pay17, k0_pay18, k0_pay19, k0_pay20, k0_pay21, k0_pay22, k0_pay23, k0_pay24, iblk5, iblk6]
  repeat rw [read_slabs]
  rw [drop _ _ _ (View.cover_of_tiled _ ![1, 1024] rfl)]
  canon_tiles x h
  · rw [View.readCov_skip (h := by decide), View.readCov_fill (h := by decide)]
    unfold k0_pay55 k0_pay25
    pointwise
    exact (Fin.sum_fin_congr fun k => dlgR m c t (ix2 k (x 1)) (ix2 (row t k) (j 1)) rfl h1)
  · rw [View.readCov_fill (h := by decide)]
    unfold k0_pay54 k0_pay25
    pointwise
    exact (Fin.sum_fin_congr fun k => dlgL m c t (ix2 k (x 1)) (ix2 (row t k) (j 1)) rfl h1)

/-- The gate logits' gradient. -/
theorem final8 (c : Dev nD) : (dats m 0 c).arrAt 8 cfg0.N = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8, out8]
  canon_tiles x h
  · unfold k0_pay53
    pointwise [val_main_v48]
    exact dlgR m c t x _ (by blk_simp [idx t]; omega) (by blk_simp [idx t]; omega)
  · unfold k0_pay52
    pointwise [val_main_v48]
    exact dlgL m c t x _ (by blk_simp [idx t]; omega) (by blk_simp [idx t]; omega)

/-- The self branch's cotangent. -/
theorem final9 (c : Dev nD) : (dats m 0 c).arrAt 9 cfg0.N = val_main_v49 (F := Ideal) (m ((c : Thread nD τ).loc main_arg0)) (m ((c : Thread nD τ).loc main_arg3)) (m ((c : Thread nD τ).loc main_arg4)) (m ((c : Thread nD τ).loc main_arg5)) (m ((c : Thread nD τ).loc main_arg7)) := by
  refine (dats m 0 c).arrAt_eq_of_covers 9 _ (by decide +kernel) fun t hf y => ?_
  blk_simp
  rw [after0_9, out9]
  unfold k0_pay58
  pointwise [val_main_v49, val_main_v44]
  refine Fin.sum_fin_congr fun k => congrArg₂ (fun a b : EReal => a * b) (dyL m c t _ _ ?_ rfl) ?_
  · blk_simp [idx t]
  · unfold side
    blk_ext [idx t]

/-- The cross branch's cotangent. -/
theorem final10 (c : Dev nD) : (dats m 0 c).arrAt 10 cfg0.N = val_main_v50 (F := Ideal) (m ((c : Thread nD τ).loc main_arg0)) (m ((c : Thread nD τ).loc main_arg3)) (m ((c : Thread nD τ).loc main_arg4)) (m ((c : Thread nD τ).loc main_arg6)) (m ((c : Thread nD τ).loc main_arg7)) := by
  refine (dats m 0 c).arrAt_eq_of_covers 10 _ (by decide +kernel) fun t hf y => ?_
  blk_simp
  rw [after0_10, out10]
  unfold k0_pay59
  pointwise [val_main_v50, val_main_v41]
  refine Fin.sum_fin_congr fun k => congrArg₂ (fun a b : EReal => a * b) (dyR m c t _ _ ?_ rfl) ?_
  · blk_simp [idx t]
  · unfold side
    blk_ext [idx t]

theorem zero38 (j : S1024x1024.Idx) : k0_pay38 (F := Ideal) j = (0 : EReal) := by
  unfold k0_pay38
  pointwise

theorem zero25 (j : S1x2048.Idx) : k0_pay25 (F := Ideal) j = (0 : EReal) := by
  unfold k0_pay25
  pointwise

theorem zero39 (j : S512x1024.Idx) : k0_pay39 (F := Ideal) j = (0 : EReal) := by
  unfold k0_pay39
  pointwise

theorem zero40 (j : S512x1024.Idx) : k0_pay40 (F := Ideal) j = (0 : EReal) := by
  unfold k0_pay40
  pointwise

theorem final12 (c : Dev nD) : (dats m 0 c).arrAt 12 cfg0.N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 12 t0_15 (by decide +kernel) _ fun j => ?_
  blk_simp
  rw [after0_12, Pipeline.eq_sum_fin_of_reset_step_apply_last (fun n h => (outsAt0 m c n h).2.2.2.2.1) 16 (fun _ => (0 : EReal)) _
    (fun t h j => by rw [out12_first m c t h, step12 m c t, zero38]) (fun t h j => by rw [out12_next m c t h, step12 m c t]) (le_of_eq N_0) t0_15 rfl _, zero_add]
  pointwise [val_main_v29, val_main_v28]
  refine Fin.sum_mul_add_congr fun t k hl => ?_
  blk_ext [row, idx t0_15]

theorem final11 (c : Dev nD) : (dats m 0 c).arrAt 11 cfg0.N = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 11 t0_15 (by decide +kernel) _ fun j => ?_
  blk_simp
  rw [after0_11, Pipeline.eq_sum_fin_of_reset_step_apply_last (fun n h => (outsAt0 m c n h).2.2.2.1) 16 (fun _ => (0 : EReal)) _
    (fun t h j => by rw [out11_first m c t h]) (fun t h j => by rw [out11_next m c t h, step11 m c t]) (le_of_eq N_0) t0_15 rfl _, zero_add]
  pointwise [val_main_v51, val_main_v47, val_main_v46, val_main_v45, val_main_cst_4, val_main_cst_5]
  simp only [Finset.univ_unique, Finset.sum_singleton, zero_add]
  refine Fin.sum_mul_add_congr fun t k hl => ?_
  blk_ext [row, idx t0_15]

/-- The running sum in scratch after the last point. -/
theorem acc2_last (c : Dev nD) (j : S512x1024.Idx) : (outsAt0 m c t0_15.val t0_15.isLt).2.2.2.2.2.2.2.2.2.1 j = val_main_v43 (F := Ideal) (m ((c : Thread nD τ).loc main_arg0)) (m ((c : Thread nD τ).loc main_arg1)) (m ((c : Thread nD τ).loc main_arg3)) (m ((c : Thread nD τ).loc main_arg4)) (m ((c : Thread nD τ).loc main_arg7)) j := by
  rw [Pipeline.eq_sum_fin_of_reset_step_apply_last (fun n h => (outsAt0 m c n h).2.2.2.2.2.2.2.2.2.1) 16 (fun _ => (0 : EReal)) _
    (fun t h j => by rw [acc2_first m c t h, step2 m c t, zero39]) (fun t h j => by rw [acc2_next m c t h, step2 m c t]) (le_of_eq N_0) t0_15 rfl j, zero_add]
  pointwise [val_main_v43, val_main_v42]
  refine Fin.sum_mul_add_congr fun t k hl => ?_
  blk_ext [row]

/-- The last point writes the sum out, a column shard to each slab. -/
theorem out13_last (c : Dev nD) (i : S8x512x128.Idx) (j : S512x1024.Idx) (hj0 : (j 0 : ℕ) = i 1) (hj1 : (j 1 : ℕ) = i 0 * 128 + i 2) :
    (outsAt0 m c t0_15.val t0_15.isLt).2.2.2.2.2.1 i = (outsAt0 m c t0_15.val t0_15.isLt).2.2.2.2.2.2.2.2.2.1 j := by
  have e := acc2_next m c t0_15 (by decide)
  rw [e, outsAt0_C m c t0_15 (by decide) rfl]
  frame_out
  simp only [read_unread_whole, (kept m c (t0_15.val - 1) (Nat.lt_of_le_of_lt (Nat.sub_le _ _) t0_15.isLt)).1, (kept m c (t0_15.val - 1) (Nat.lt_of_le_of_lt (Nat.sub_le _ _) t0_15.isLt)).2]
  generalize k0_pay2 (F := Ideal) _ _ _ = P
  canon_tiles x h
  all_goals
    rw [View.readCov_fill (h := by decide)]
    open_payloads
    pointwise
    blk_ext

theorem final13 (c : Dev nD) : (dats m 0 c).arrAt 13 cfg0.N = val_main_v53 (F := Ideal) (m ((c : Thread nD τ).loc main_arg0)) (m ((c : Thread nD τ).loc main_arg1)) (m ((c : Thread nD τ).loc main_arg3)) (m ((c : Thread nD τ).loc main_arg4)) (m ((c : Thread nD τ).loc main_arg7)) := by
  refine (dats m 0 c).arrAt_eq_of_after_last 13 t0_15 (by decide +kernel) _ fun y => ?_
  blk_simp
  have hy0 : (y 0).val < 8 := (y 0).isLt
  have hy1 : (y 1).val < 512 := (y 1).isLt
  have hy2 : (y 2).val < 128 := (y 2).isLt
  obtain_idx j : S512x1024 := [(y 1 : ℕ), (y 0 : ℕ) * 128 + (y 2 : ℕ)] with hj
  rw [after0_13, out13_last m c _ j hj0 hj1, acc2_last]
  pointwise [val_main_v53, val_main_v52]
  blk_ext [idx t0_15]

/-- The running sum in scratch after the last point. -/
theorem acc3_last (c : Dev nD) (j : S512x1024.Idx) : (outsAt0 m c t0_15.val t0_15.isLt).2.2.2.2.2.2.2.2.2.2 j = val_main_v40 (F := Ideal) (m ((c : Thread nD τ).loc main_arg0)) (m ((c : Thread nD τ).loc main_arg2)) (m ((c : Thread nD τ).loc main_arg3)) (m ((c : Thread nD τ).loc main_arg4)) (m ((c : Thread nD τ).loc main_arg7)) j := by
  rw [Pipeline.eq_sum_fin_of_reset_step_apply_last (fun n h => (outsAt0 m c n h).2.2.2.2.2.2.2.2.2.2) 16 (fun _ => (0 : EReal)) _
    (fun t h j => by rw [acc3_first m c t h, step3 m c t, zero40]) (fun t h j => by rw [acc3_next m c t h, step3 m c t]) (le_of_eq N_0) t0_15 rfl j, zero_add]
  pointwise [val_main_v40, val_main_v39, val_main_v0]
  refine Fin.sum_mul_add_congr fun t k hl => ?_
  blk_ext [row]

/-- The last point writes the sum out, a column shard to each slab. -/
theorem out14_last (c : Dev nD) (i : S8x512x128.Idx) (j : S512x1024.Idx) (hj0 : (j 0 : ℕ) = i 1) (hj1 : (j 1 : ℕ) = i 0 * 128 + i 2) :
    (outsAt0 m c t0_15.val t0_15.isLt).2.2.2.2.2.2.1 i = (outsAt0 m c t0_15.val t0_15.isLt).2.2.2.2.2.2.2.2.2.2 j := by
  have e := acc3_next m c t0_15 (by decide)
  rw [e, outsAt0_C m c t0_15 (by decide) rfl]
  frame_out
  simp only [read_unread_whole, (kept m c (t0_15.val - 1) (Nat.lt_of_le_of_lt (Nat.sub_le _ _) t0_15.isLt)).1, (kept m c (t0_15.val - 1) (Nat.lt_of_le_of_lt (Nat.sub_le _ _) t0_15.isLt)).2]
  generalize k0_pay3 (F := Ideal) _ _ _ = P
  canon_tiles x h
  all_goals
    rw [View.readCov_fill (h := by decide)]
    open_payloads
    pointwise
    blk_ext

theorem final14 (c : Dev nD) : (dats m 0 c).arrAt 14 cfg0.N = val_main_v55 (F := Ideal) (m ((c : Thread nD τ).loc main_arg0)) (m ((c : Thread nD τ).loc main_arg2)) (m ((c : Thread nD τ).loc main_arg3)) (m ((c : Thread nD τ).loc main_arg4)) (m ((c : Thread nD τ).loc main_arg7)) := by
  refine (dats m 0 c).arrAt_eq_of_after_last 14 t0_15 (by decide +kernel) _ fun y => ?_
  blk_simp
  have hy0 : (y 0).val < 8 := (y 0).isLt
  have hy1 : (y 1).val < 512 := (y 1).isLt
  have hy2 : (y 2).val < 128 := (y 2).isLt
  obtain_idx j : S512x1024 := [(y 1 : ℕ), (y 0 : ℕ) * 128 + (y 2 : ℕ)] with hj
  rw [after0_14, out14_last m c _ j hj0 hj1, acc3_last]
  pointwise [val_main_v55, val_main_v54]
  blk_ext [idx t0_15]
end Cert.MixIdeal.Tiles

end
-- ==== Proof.MixClaim.lean ====
/- Mix: the claim itself, kernel beside reference. -/
module

public import proofs.«01_k».proof.Defs
public import proofs.«01_k».proof.Proof.Mix
public import proofs.«01_k».proof.Proof.Gen.MixRefIdeal.Read
public import Idealize.ShloMosaic.Lib.Claim

@[expose] public section

noncomputable section

namespace Cert.MixRefIdeal.Stages

open Cert.MixRefIdeal Cert.MixRefIdeal.Gen Cert.MixRefIdeal.Read Idealize.ShloMosaic Idealize.ShloMosaic.TcCoe Idealize.SL.Sem

/-- The reference's run, each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v48) = val_main_v48 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v49) = val_main_v49 (m ((c : Thread nD τ).loc main_arg0)) (m ((c : Thread nD τ).loc main_arg3)) (m ((c : Thread nD τ).loc main_arg4)) (m ((c : Thread nD τ).loc main_arg5)) (m ((c : Thread nD τ).loc main_arg7))
      ∧ r.2.mem ((c : Thread nD τ).loc main_v50) = val_main_v50 (m ((c : Thread nD τ).loc main_arg0)) (m ((c : Thread nD τ).loc main_arg3)) (m ((c : Thread nD τ).loc main_arg4)) (m ((c : Thread nD τ).loc main_arg6)) (m ((c : Thread nD τ).loc main_arg7))
      ∧ r.2.mem ((c : Thread nD τ).loc main_v51) = val_main_v51 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v29) = val_main_v29 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v53) = val_main_v53 (m ((c : Thread nD τ).loc main_arg0)) (m ((c : Thread nD τ).loc main_arg1)) (m ((c : Thread nD τ).loc main_arg3)) (m ((c : Thread nD τ).loc main_arg4)) (m ((c : Thread nD τ).loc main_arg7))
      ∧ r.2.mem ((c : Thread nD τ).loc main_v55) = val_main_v55 (m ((c : Thread nD τ).loc main_arg0)) (m ((c : Thread nD τ).loc main_arg2)) (m ((c : Thread nD τ).loc main_arg3)) (m ((c : Thread nD τ).loc main_arg4)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1).trans (val_main_v48_eq _ _ _ _ _ _ _ _),
    ((h c).2.1).trans (val_main_v49_eq _ _ _ _ _),
    ((h c).2.2.1).trans (val_main_v50_eq _ _ _ _ _),
    ((h c).2.2.2.1).trans (val_main_v51_eq _ _ _ _ _ _ _ _),
    ((h c).2.2.2.2.1).trans (val_main_v29_eq _ _ _ _ _ _ _),
    ((h c).2.2.2.2.2.1).trans (val_main_v53_eq _ _ _ _ _),
    ((h c).2.2.2.2.2.2.1).trans (val_main_v55_eq _ _ _ _ _),
    (h c).2.2.2.2.2.2.2.1,
    (h c).2.2.2.2.2.2.2.2.1,
    (h c).2.2.2.2.2.2.2.2.2.1,
    (h c).2.2.2.2.2.2.2.2.2.2.1,
    (h c).2.2.2.2.2.2.2.2.2.2.2.1,
    (h c).2.2.2.2.2.2.2.2.2.2.2.2.1,
    (h c).2.2.2.2.2.2.2.2.2.2.2.2.2.1,
    (h c).2.2.2.2.2.2.2.2.2.2.2.2.2.2⟩) (Cert.MixRefIdeal.Value.run m ρ)

end Cert.MixRefIdeal.Stages

set_option maxHeartbeats 1600000 in
/-- Kernel and reference end with the same results. -/
theorem Cert.MixIdeal.Tiles.algebraic : Cert.algebraic_MixIdeal_MixRefIdeal := by
  pair_intro
  · run_from Cert.MixIdeal.Value.run_blocks m g
  · run_from Cert.MixRefIdeal.Stages.run m' g'
    exacts [(Cert.MixIdeal.Tiles.final8 m c).symm, (Cert.MixIdeal.Tiles.final9 m c).symm, (Cert.MixIdeal.Tiles.final10 m c).symm, (Cert.MixIdeal.Tiles.final11 m c).symm, (Cert.MixIdeal.Tiles.final12 m c).symm, (Cert.MixIdeal.Tiles.final13 m c).symm, (Cert.MixIdeal.Tiles.final14 m c).symm]

end
-- ==== Proof.InProjRuns.lean ====
/- The launch of the input projection: its arguments where the call finds them, its blocks, its memrefs and its own copies' cells. -/
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the call finds in a buffer. -/
abbrev V (c : Dev nD) (b : Ref sig .tc) : Buf (Elt F) ((c : Thread nD τ).loc b) := m ((c : Thread nD τ).loc b)

set_option maxHeartbeats 800000 in
/-- The program up to the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Where the arrays end, the arguments end as they were. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-- The condition under which a point copies the operand in: the first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

abbrev VO0_1 : View sig .tc .vmem S512x3072 .bf16 := (Memref.whole cc0_stg1_0 : Memref sig .tc .vmem S512x3072 .bf16).view
abbrev VO0_2 : View sig .tc .vmem S512x2048 .f32 := (Memref.whole cc0_stg2_0 : Memref sig .tc .vmem S512x2048 .f32).view
abbrev VO0_3 : View sig .tc .vmem S512x1024 .bf16 := (Memref.whole cc0_stg3_0 : Memref sig .tc .vmem S512x1024 .bf16).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev scM0_0 : Memref sig .tc .vmem S4x1024x1280 .bf16 := Memref.whole cc0_scratch0
abbrev VS0_0 : View sig .tc .vmem S4x1024x1280 .bf16 := scM0_0.view
abbrev hbM0_0 : Memref sig .tc .hbm S8x1024x640 .bf16 := Memref.whole main_arg1
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 8 → SemLoc sig := fun j => (![SemLoc.dma 8, SemLoc.dma 9, SemLoc.dma 10, SemLoc.dma 11, SemLoc.dma 12, SemLoc.dma 13, SemLoc.dma 14, SemLoc.dma 15] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) := by
  rw [Pipeline.ownSems0_eq_of_list c osem0 [0, 1, 2, 3, 4, 5, 6, 7] (by decide) (by decide)]; rfl
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_arg1)) := by
  rw [BI.bigSep_eq_bigSepL_of_eq [main_arg1] (by decide) (by decide)]; rfl

/-- The launch's invariant, spelled out. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg1))) := by
  rw [Pipeline.ΦD_eq, scopedRest0_eq, ownSems00_eq, hbmPts0_eq]; simp only [scM0_0, owns_whole]; try rfl

end Cert.InProjIdeal.Gen

end
-- ==== Proof.InProjRunA.lean ====
/- One run of the body of the input projection, in case A of its conditional. -/
module

public import proofs.«01_k».proof.Proof.InProjRuns

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A block of the packed weight with the unit axis put back in front. -/
def unsqueezed (d : Vec F S1024x640 .bf16) : Vec F S1x1024x640 .bf16 :=
  fun x => d ((Shape.reshapeEquiv squeezes_S1x1024x640_S1024x640.numel_eq).symm x)

/-- The eight copies into the packed weight, each through its slice with the unit axis dropped, as pieces of the whole buffer. -/
theorem packed_writes (M : Memref sig .tc .vmem S4x1024x1280 .bf16) (f : M.view.ty.Contents (Elt F))
    (d0 d1 d2 d3 d4 d5 d6 d7 : Vec F S1024x640 .bf16) :
    (View.write (Elt F) ((M.slice (Rect.unit (s := S4x1024x1280) ![3, 0, 640] S1x1024x640.size inb_S4x1024x1280_S1x1024x640_3_0_640) (fun _ => rfl)).squeeze S1024x640 squeezes_S1x1024x640_S1024x640).view (View.write (Elt F) ((M.slice (Rect.unit (s := S4x1024x1280) ![3, 0, 0] S1x1024x640.size inb_S4x1024x1280_S1x1024x640_3_0_0) (fun _ => rfl)).squeeze S1024x640 squeezes_S1x1024x640_S1024x640).view (View.write (Elt F) ((M.slice (Rect.unit (s := S4x1024x1280) ![2, 0, 640] S1x1024x640.size inb_S4x1024x1280_S1x1024x640_2_0_640) (fun _ => rfl)).squeeze S1024x640 squeezes_S1x1024x640_S1024x640).view (View.write (Elt F) ((M.slice (Rect.unit (s := S4x1024x1280) ![2, 0, 0] S1x1024x640.size inb_S4x1024x1280_S1x1024x640_2_0_0) (fun _ => rfl)).squeeze S1024x640 squeezes_S1x1024x640_S1024x640).view (View.write (Elt F) ((M.slice (Rect.unit (s := S4x1024x1280) ![1, 0, 640] S1x1024x640.size inb_S4x1024x1280_S1x1024x640_1_0_640) (fun _ => rfl)).squeeze S1024x640 squeezes_S1x1024x640_S1024x640).view (View.write (Elt F) ((M.slice (Rect.unit (s := S4x1024x1280) ![1, 0, 0] S1x1024x640.size inb_S4x1024x1280_S1x1024x640_1_0_0) (fun _ => rfl)).squeeze S1024x640 squeezes_S1x1024x640_S1024x640).view (View.write (Elt F) ((M.slice (Rect.unit (s := S4x1024x1280) ![0, 0, 640] S1x1024x640.size inb_S4x1024x1280_S1x1024x640_0_0_640) (fun _ => rfl)).squeeze S1024x640 squeezes_S1x1024x640_S1024x640).view (View.write (Elt F) ((M.slice (Rect.unit (s := S4x1024x1280) ![0, 0, 0] S1x1024x640.size inb_S4x1024x1280_S1x1024x640_0_0_0) (fun _ => rfl)).squeeze S1024x640 squeezes_S1x1024x640_S1024x640).view f d0 Finset.univ) d1 Finset.univ) d2 Finset.univ) d3 Finset.univ) d4 Finset.univ) d5 Finset.univ) d6 Finset.univ) d7 Finset.univ)
      = M.view.writes (Elt F) f [⟨Rect.unit (s := S4x1024x1280) ![3, 0, 640] S1x1024x640.size inb_S4x1024x1280_S1x1024x640_3_0_640, unsqueezed d7⟩, ⟨Rect.unit (s := S4x1024x1280) ![3, 0, 0] S1x1024x640.size inb_S4x1024x1280_S1x1024x640_3_0_0, unsqueezed d6⟩, ⟨Rect.unit (s := S4x1024x1280) ![2, 0, 640] S1x1024x640.size inb_S4x1024x1280_S1x1024x640_2_0_640, unsqueezed d5⟩, ⟨Rect.unit (s := S4x1024x1280) ![2, 0, 0] S1x1024x640.size inb_S4x1024x1280_S1x1024x640_2_0_0, unsqueezed d4⟩, ⟨Rect.unit (s := S4x1024x1280) ![1, 0, 640] S1x1024x640.size inb_S4x1024x1280_S1x1024x640_1_0_640, unsqueezed d3⟩, ⟨Rect.unit (s := S4x1024x1280) ![1, 0, 0] S1x1024x640.size inb_S4x1024x1280_S1x1024x640_1_0_0, unsqueezed d2⟩, ⟨Rect.unit (s := S4x1024x1280) ![0, 0, 640] S1x1024x640.size inb_S4x1024x1280_S1x1024x640_0_0_640, unsqueezed d1⟩, ⟨Rect.unit (s := S4x1024x1280) ![0, 0, 0] S1x1024x640.size inb_S4x1024x1280_S1x1024x640_0_0_0, unsqueezed d0⟩] := by
  simp only [View.writes]
  iterate 8
    refine (View.write_reshape_univ _ _ _ _).trans ?_
    refine congrArg (fun g => View.write (Elt F) _ g _ Finset.univ) ?_
  rfl

set_option maxHeartbeats 3200000 in
/-- The whole body in case A: the pieces its stores leave in each buffer, and that it runs to a continuation
    that holds them. -/
noncomputable def kernelRun0_A (c : Dev nD) (i : grid0.Coords) (arg1 : Memref sig .tc .vmem S512x1024 .f32) (harg1 : arg1.IsWhole) (arg3 : Memref sig .tc .vmem S512x3072 .bf16) (harg3 : arg3.IsWhole) (arg4 : Memref sig .tc .vmem S512x2048 .f32) (harg4 : arg4.IsWhole) (arg5 : Memref sig .tc .vmem S512x1024 .bf16) (harg5 : arg5.IsWhole) (arg6 : Memref sig .tc .vmem S4x1024x1280 .bf16) (harg6 : arg6.IsWhole) (hc0 : cond0_0 i)
    (x0 : Vec F S512x1024 .f32) (fh0 : HbBuf0 (F := F) c hbM0_0) :
    Σ' (L1 : List (View.Piece (Elt F) S512x3072 .bf16)), Σ' (L2 : List (View.Piece (Elt F) S512x2048 .f32)), Σ' (L3 : List (View.Piece (Elt F) S512x1024 .bf16)), { LS0 : List (View.Piece (Elt F) S4x1024x1280 .bf16) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ (∃ W', owes (c : Thread nD τ) 0 W')) -∗ K ⟨⟩))
          ⊢ wp frame (wpE (defs₀ (F := F)) Variants.none c none) Set.univ (cc0_in_proj i arg1 harg1 (Memref.whole main_arg1) (Memref.isWhole_whole _) arg3 harg3 arg4 harg4 arg5 harg5 arg6 harg6 cc0_scratch1) K } := by
  refine ⟨?_, ?_, ?_, ?_, fun W K => ?run⟩
  case run =>
    simp only [cc0_in_proj_eq_skeleton]; unfold cc0_in_proj_skel
    simp only [k0_part4_eq_skeleton, k0_part1_eq_skeleton, k0_part2_eq_skeleton, k0_part3_eq_skeleton]
    unfold owns
    iintro ⟨⟨%f0, %hf0, H0⟩, ⟨%d1, %f1, -, H1⟩, ⟨%d2, %f2, -, H2⟩, ⟨%d3, %f3, -, H3⟩, ⟨%ds0, %fs0, -, HS0⟩, Hq0, Hq1, Hq2, Hq3, Hq4, Hq5, Hq6, Hq7, Hh0, HW, Hk⟩
    obtain rfl := harg1.eq_unread hf0
    set_option sl_exec.maxSteps 36 in
    set_option sl_exec.dmaWindow true in
    set_option sl_exec.dmaWindowSet true in
    set_option sl_exec.squeezeSlice true in
    sl_exec (disch := first | sl_exact hc0)
    rw [packed_writes arg6]
    set_option sl_exec.squeezeSlice true in
    sl_exec (disch := first | sl_exact hc0)
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InProjIdeal.Gen

end
-- ==== Proof.InProjRunB.lean ====
/- One run of the body of the input projection, in case B of its conditional. -/
module

public import proofs.«01_k».proof.Proof.InProjRunA

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 3200000 in
/-- The whole body in case B: the pieces its stores leave in each buffer, and that it runs to a continuation
    that holds them. -/
noncomputable def kernelRun0_B (c : Dev nD) (i : grid0.Coords) (arg1 : Memref sig .tc .vmem S512x1024 .f32) (harg1 : arg1.IsWhole) (arg3 : Memref sig .tc .vmem S512x3072 .bf16) (harg3 : arg3.IsWhole) (arg4 : Memref sig .tc .vmem S512x2048 .f32) (harg4 : arg4.IsWhole) (arg5 : Memref sig .tc .vmem S512x1024 .bf16) (harg5 : arg5.IsWhole) (arg6 : Memref sig .tc .vmem S4x1024x1280 .bf16) (harg6 : arg6.IsWhole) (hc0 : ¬cond0_0 i)
    (x0 : Vec F S512x1024 .f32) (xs0 : Vec F S4x1024x1280 .bf16) (fh0 : HbBuf0 (F := F) c hbM0_0) :
    Σ' (L1 : List (View.Piece (Elt F) S512x3072 .bf16)), Σ' (L2 : List (View.Piece (Elt F) S512x2048 .f32)), Σ' (L3 : List (View.Piece (Elt F) S512x1024 .bf16)), { LS0 : List (View.Piece (Elt F) S4x1024x1280 .bf16) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ owes (c : Thread nD τ) 0 W
            ∗ (iprop(owns (c : Thread nD τ) arg1 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ owns (c : Thread nD τ) arg6 fullShare xs0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ (∃ W', owes (c : Thread nD τ) 0 W')) -∗ K ⟨⟩))
          ⊢ wp frame (wpE (defs₀ (F := F)) Variants.none c none) Set.univ (cc0_in_proj i arg1 harg1 (Memref.whole main_arg1) (Memref.isWhole_whole _) arg3 harg3 arg4 harg4 arg5 harg5 arg6 harg6 cc0_scratch1) K } := by
  refine ⟨?_, ?_, ?_, [], fun W K => ?run⟩
  case run =>
    simp only [cc0_in_proj_eq_skeleton]; unfold cc0_in_proj_skel
    simp only [k0_part4_eq_skeleton]
    unfold owns
    iintro ⟨⟨%f0, %hf0, H0⟩, ⟨%d1, %f1, -, H1⟩, ⟨%d2, %f2, -, H2⟩, ⟨%d3, %f3, -, H3⟩, ⟨%fs0, %hfs0, HS0⟩, Hq0, Hq1, Hq2, Hq3, Hq4, Hq5, Hq6, Hq7, Hh0, HW, Hk⟩
    obtain rfl := harg1.eq_unread hf0; obtain rfl := harg6.eq_unread hfs0
    sl_exec (disch := first | sl_exact hc0)
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    isplitl [HS0]
    · iexists _; isplitr; · ipureintro; exact harg6.read_unread _
      iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InProjIdeal.Gen

end
-- ==== Proof.InProjFrame.lean ====
/- The frame of the input projection: what its buffers hold point by point, and that the whole call runs. -/
module

public import proofs.«01_k».proof.Proof.InProjRunB
public import Idealize.ShloMosaic.Lib.Claim

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the outputs' buffers and the carried scratch hold after a point. -/
abbrev Outs (F : FTy → Type) := Vec F S512x3072 .bf16 × Vec F S512x2048 .f32 × Vec F S512x1024 .bf16 × Vec F S4x1024x1280 .bf16

/-- The run of case A at a point. -/
def rA (c : Dev nD) (t : Fin cfg0.N) (h0 : t.val % 8 = 0) := kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (V m c main_arg1)

theorem cover0_A_1 (c : Dev nD) (t : Fin cfg0.N) (h0 : t.val % 8 = 0) (y : S512x3072.Idx) : ∃ pc ∈ (rA m c t h0).1, y ∈ pc.1.set :=
  View.cover_of_tiledBy (rA m c t h0).1 ![512, 256] (by sl_kernel_rfl) y

theorem cover0_A_2 (c : Dev nD) (t : Fin cfg0.N) (h0 : t.val % 8 = 0) (y : S512x2048.Idx) : ∃ pc ∈ (rA m c t h0).2.1, y ∈ pc.1.set :=
  View.cover_of_tiledBy (rA m c t h0).2.1 ![512, 256] (by sl_kernel_rfl) y

theorem cover0_A_3 (c : Dev nD) (t : Fin cfg0.N) (h0 : t.val % 8 = 0) (y : S512x1024.Idx) : ∃ pc ∈ (rA m c t h0).2.2.1, y ∈ pc.1.set :=
  View.cover_of_tiledL (rA m c t h0).2.2.1 S512x1024.size (by sl_kernel_rfl) y

theorem scover0_A_0 (c : Dev nD) (t : Fin cfg0.N) (h0 : t.val % 8 = 0) (y : S4x1024x1280.Idx) : ∃ pc ∈ (rA m c t h0).2.2.2.1, y ∈ pc.1.set :=
  View.cover_of_tiledL (rA m c t h0).2.2.2.1 S1x1024x640.size (by sl_kernel_rfl) y

/-- What case A leaves. -/
def oA (c : Dev nD) (t : Fin cfg0.N) (h0 : t.val % 8 = 0) : Outs F :=
  (VO0_1.read (Elt F) (VO0_1.writes (Elt F) VO0_1.junk (rA m c t h0).1),
   VO0_2.read (Elt F) (VO0_2.writes (Elt F) VO0_2.junk (rA m c t h0).2.1),
   VO0_3.read (Elt F) (VO0_3.writes (Elt F) VO0_3.junk (rA m c t h0).2.2.1),
   VS0_0.read (Elt F) (VS0_0.writes (Elt F) VS0_0.junk (rA m c t h0).2.2.2.1))

/-- The run of case B at a point. -/
def rB (c : Dev nD) (t : Fin cfg0.N) (h0 : ¬t.val % 8 = 0) (p : Outs F) := kernelRun0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) p.2.2.2 (V m c main_arg1)

theorem cover0_B_1 (c : Dev nD) (t : Fin cfg0.N) (h0 : ¬t.val % 8 = 0) (p : Outs F) (y : S512x3072.Idx) : ∃ pc ∈ (rB m c t h0 p).1, y ∈ pc.1.set :=
  View.cover_of_tiledBy (rB m c t h0 p).1 ![512, 256] (by sl_kernel_rfl) y

theorem cover0_B_2 (c : Dev nD) (t : Fin cfg0.N) (h0 : ¬t.val % 8 = 0) (p : Outs F) (y : S512x2048.Idx) : ∃ pc ∈ (rB m c t h0 p).2.1, y ∈ pc.1.set :=
  View.cover_of_tiledBy (rB m c t h0 p).2.1 ![512, 256] (by sl_kernel_rfl) y

theorem cover0_B_3 (c : Dev nD) (t : Fin cfg0.N) (h0 : ¬t.val % 8 = 0) (p : Outs F) (y : S512x1024.Idx) : ∃ pc ∈ (rB m c t h0 p).2.2.1, y ∈ pc.1.set :=
  View.cover_of_tiledL (rB m c t h0 p).2.2.1 S512x1024.size (by sl_kernel_rfl) y

/-- What case B leaves. -/
def oB (c : Dev nD) (t : Fin cfg0.N) (h0 : ¬t.val % 8 = 0) (p : Outs F) : Outs F :=
  (VO0_1.read (Elt F) (VO0_1.writes (Elt F) VO0_1.junk (rB m c t h0 p).1),
   VO0_2.read (Elt F) (VO0_2.writes (Elt F) VO0_2.junk (rB m c t h0 p).2.1),
   VO0_3.read (Elt F) (VO0_3.writes (Elt F) VO0_3.junk (rB m c t h0 p).2.2.1),
   p.2.2.2)

/-- Point by point: the first point is case A, the others case B over what the point before left. -/
def outsAt0 (c : Dev nD) : (n : ℕ) → n < cfg0.N → Outs F
  | 0, hn => oA m c ⟨0, hn⟩ (Nat.zero_mod _)
  | n + 1, hn =>
    if h0 : (n + 1) % 8 = 0 then oA m c ⟨n + 1, hn⟩ h0
    else oB m c ⟨n + 1, hn⟩ h0 (outsAt0 c n (Nat.lt_of_succ_lt hn))

theorem outsAt0_A (c : Dev nD) (t : Fin cfg0.N) (h0 : t.val % 8 = 0) : outsAt0 m c t.val t.isLt = oA m c t h0 := by
  obtain ⟨n, hn⟩ := t
  cases n with
  | zero => exact rfl
  | succ n => exact (dif_pos h0).trans rfl

theorem outsAt0_B (c : Dev nD) (t : Fin cfg0.N) (h0 : ¬t.val % 8 = 0) : outsAt0 m c t.val t.isLt
    = oB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The invariant between points: the carried scratch at what the last point left, all else at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg1)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg1))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg1))) := by
  cases n with
  | zero => exact absurd rfl hz
  | succ n => rfl

/-- The data of the pipeline: each input at its block, each output at what the points leave. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2.1
    | ⟨3, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]
theorem after0_2 (c : Dev nD) (t : Fin cfg0.N) : (dats m 0 c).after 2 t = (outsAt0 m c t.val t.isLt).2.1 := by dsimp only [dats]
theorem after0_3 (c : Dev nD) (t : Fin cfg0.N) : (dats m 0 c).after 3 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = PhiS m c (t.val + 1) t.isLt from rfl, PhiS_succ,
    after0_0, after0_1, after0_2, after0_3]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · by_cases hz : t.val = 0
    · rw [PhiS_castSucc m c t, PhiS_zero m c _ _ hz, PhiD0_eq]
      rw [outsAt0_A m c t h0]
      dsimp only [oA]
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩⟩
      iapply ((rA m c t h0).2.2.2.2 W _)
      isplitl [H0]; · iexact H0
      isplitl [H1]; · iexists _; iexact H1
      isplitl [H2]; · iexists _; iexact H2
      isplitl [H3]; · iexists _; iexact H3
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, ⟨%e1, H1⟩, ⟨%e2, H2⟩, ⟨%e3, H3⟩, ⟨%es0, HS0⟩, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · unfold owns; iexists _; isplitr
          swap; · iexact HS0
          ipureintro; exact View.read_writes_of_cover _ _ _ _ _ (scover0_A_0 m c t h0)
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]
      · unfold owns; iexists _; isplitr
        swap; · iexact H1
        ipureintro; exact View.read_writes_of_cover _ _ _ _ _ (cover0_A_1 m c t h0)
      isplitl [H2]
      · unfold owns; iexists _; isplitr
        swap; · iexact H2
        ipureintro; exact View.read_writes_of_cover _ _ _ _ _ (cover0_A_2 m c t h0)
      unfold owns; iexists _; isplitr
      swap; · iexact H3
      ipureintro; exact View.read_writes_of_cover _ _ _ _ _ (cover0_A_3 m c t h0)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      dsimp only [oB]
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩⟩
      iapply ((rB m c t h0 (outsAt0 m c (t.val - 1) (Nat.lt_of_le_of_lt (Nat.sub_le _ _) t.isLt))).2.2.2.2 W _)
      isplitl [H0]; · iexact H0
      isplitl [H1]; · iexists _; iexact H1
      isplitl [H2]; · iexists _; iexact H2
      isplitl [H3]; · iexists _; iexact H3
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, ⟨%e1, H1⟩, ⟨%e2, H2⟩, ⟨%e3, H3⟩, HS0, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · iexact HS0
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]
      · unfold owns; iexists _; isplitr
        swap; · iexact H1
        ipureintro; exact View.read_writes_of_cover _ _ _ _ _ (cover0_B_1 m c t h0 _)
      isplitl [H2]
      · unfold owns; iexists _; isplitr
        swap; · iexact H2
        ipureintro; exact View.read_writes_of_cover _ _ _ _ _ (cover0_B_2 m c t h0 _)
      unfold owns; iexists _; isplitr
      swap; · iexact H3
      ipureintro; exact View.read_writes_of_cover _ _ _ _ _ (cover0_B_3 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, Hh0⟩
  isplitl [HS0]
  · iexists _; iexact HS0
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  iexact Hh0

theorem hout (c : Dev nD) : (dats m 0 c).Φ (Fin.last cfg0.N) ⊢ Pipeline.ΦD osem0 spec0 H0 (V m) c :=
  Phi_out m c _ (by rw [Fin.val_last]; have : cfg0.N = 8 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The call ends, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.InProjIdeal.Gen

end
-- ==== Proof.InProj.lean ====
/- The input projection: what the kernel's tiles hold, against the reference. -/
module

public import proofs.«01_k».proof.Defs
public import proofs.«01_k».proof.Proof.InProjFrame
public import proofs.«01_k».proof.Proof.Gen.InProjRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Tiles

open Cert.InProjIdeal Cert.InProjIdeal.Gen

variable (m : (ℓ : Loc nD τ sig) → Buf (Elt Ideal) ℓ)

/-- Every window's block index at a grid point. -/
theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

open Cert.InProjRefIdeal.Read

/-- The packed weight: two shards side by side in each of four slots. -/
def packed (X : Vec Ideal S8x1024x640 .bf16) : Vec Ideal S4x1024x1280 .bf16 := fun i =>
  X (ix3 ⟨2 * (i 0).val + (i 2).val / 640, by have h0 : (i 0).val < 4 := (i 0).isLt; have h2 : (i 2).val < 1280 := (i 2).isLt; omega⟩ (i 1) ⟨(i 2).val % 640, Nat.mod_lt _ (by decide)⟩)

/-- One shard as the copy into the scratch carries it. -/
theorem shard (X : Vec Ideal S8x1024x640 .bf16) (off : Fin 3 → ℕ) (inb : ∀ a, off a + (![1, 1024, 640] : Fin 3 → ℕ) a ≤ S8x1024x640.size a) (hr) :
    unsqueezed (ReadAs.same.apply (View.read (Elt Ideal) (((View.whole main_arg1).slice (Rect.unit (s := S8x1024x640) off ![1, 1024, 640] inb)).reshape S1024x640 hr) X))
      = (View.ld X (Rect.unit (s := S8x1024x640) off ![1, 1024, 640] inb) : Vec Ideal S1x1024x640 .bf16) := by
  funext x
  unfold unsqueezed
  show X (_ : S8x1024x640.Idx) = X _
  congr 1
  show (Rect.unit (s := S8x1024x640) off ![1, 1024, 640] inb).emb (Shape.reshapeEquiv _ ((Shape.reshapeEquiv _).symm x)) = _
  rw [Equiv.apply_symm_apply]
  rfl

/-- The eight shards in the scratch are the packed weight. -/
theorem slabs (X : Vec Ideal S8x1024x640 .bf16) : View.canon [
    (⟨Rect.unit ![3, 0, 640] ![1, 1024, 640] (by decide), unsqueezed (ReadAs.same.apply (View.read (Elt Ideal) (((View.whole main_arg1).slice (Rect.unit ![7, 0, 0] ![1, 1024, 640] (by decide))).reshape S1024x640 squeezes_S1x1024x640_S1024x640.numel_eq) X))⟩ : View.Piece (Elt Ideal) S4x1024x1280 .bf16),
    (⟨Rect.unit ![3, 0, 0] ![1, 1024, 640] (by decide), unsqueezed (ReadAs.same.apply (View.read (Elt Ideal) (((View.whole main_arg1).slice (Rect.unit ![6, 0, 0] ![1, 1024, 640] (by decide))).reshape S1024x640 squeezes_S1x1024x640_S1024x640.numel_eq) X))⟩ : View.Piece (Elt Ideal) S4x1024x1280 .bf16),
    (⟨Rect.unit ![2, 0, 640] ![1, 1024, 640] (by decide), unsqueezed (ReadAs.same.apply (View.read (Elt Ideal) (((View.whole main_arg1).slice (Rect.unit ![5, 0, 0] ![1, 1024, 640] (by decide))).reshape S1024x640 squeezes_S1x1024x640_S1024x640.numel_eq) X))⟩ : View.Piece (Elt Ideal) S4x1024x1280 .bf16),
    (⟨Rect.unit ![2, 0, 0] ![1, 1024, 640] (by decide), unsqueezed (ReadAs.same.apply (View.read (Elt Ideal) (((View.whole main_arg1).slice (Rect.unit ![4, 0, 0] ![1, 1024, 640] (by decide))).reshape S1024x640 squeezes_S1x1024x640_S1024x640.numel_eq) X))⟩ : View.Piece (Elt Ideal) S4x1024x1280 .bf16),
    (⟨Rect.unit ![1, 0, 640] ![1, 1024, 640] (by decide), unsqueezed (ReadAs.same.apply (View.read (Elt Ideal) (((View.whole main_arg1).slice (Rect.unit ![3, 0, 0] ![1, 1024, 640] (by decide))).reshape S1024x640 squeezes_S1x1024x640_S1024x640.numel_eq) X))⟩ : View.Piece (Elt Ideal) S4x1024x1280 .bf16),
    (⟨Rect.unit ![1, 0, 0] ![1, 1024, 640] (by decide), unsqueezed (ReadAs.same.apply (View.read (Elt Ideal) (((View.whole main_arg1).slice (Rect.unit ![2, 0, 0] ![1, 1024, 640] (by decide))).reshape S1024x640 squeezes_S1x1024x640_S1024x640.numel_eq) X))⟩ : View.Piece (Elt Ideal) S4x1024x1280 .bf16),
    (⟨Rect.unit ![0, 0, 640] ![1, 1024, 640] (by decide), unsqueezed (ReadAs.same.apply (View.read (Elt Ideal) (((View.whole main_arg1).slice (Rect.unit ![1, 0, 0] ![1, 1024, 640] (by decide))).reshape S1024x640 squeezes_S1x1024x640_S1024x640.numel_eq) X))⟩ : View.Piece (Elt Ideal) S4x1024x1280 .bf16),
    (⟨Rect.unit ![0, 0, 0] ![1, 1024, 640] (by decide), unsqueezed (ReadAs.same.apply (View.read (Elt Ideal) (((View.whole main_arg1).slice (Rect.unit ![0, 0, 0] ![1, 1024, 640] (by decide))).reshape S1024x640 squeezes_S1x1024x640_S1024x640.numel_eq) X))⟩ : View.Piece (Elt Ideal) S4x1024x1280 .bf16)] = packed X := by
  funext i
  canon_tiles x h
  all_goals
    rw [shard]
    pointwise [packed]
    blk_ext

/-- A covered read of the packed weight. -/
theorem read_slabs (v : View sig .tc .vmem S4x1024x1280 .bf16) (X : Vec Ideal S8x1024x640 .bf16) (k : ℕ) (inb) : v.readCov [
    (⟨Rect.unit ![3, 0, 640] ![1, 1024, 640] (by decide), unsqueezed (ReadAs.same.apply (View.read (Elt Ideal) (((View.whole main_arg1).slice (Rect.unit ![7, 0, 0] ![1, 1024, 640] (by decide))).reshape S1024x640 squeezes_S1x1024x640_S1024x640.numel_eq) X))⟩ : View.Piece (Elt Ideal) S4x1024x1280 .bf16),
    (⟨Rect.unit ![3, 0, 0] ![1, 1024, 640] (by decide), unsqueezed (ReadAs.same.apply (View.read (Elt Ideal) (((View.whole main_arg1).slice (Rect.unit ![6, 0, 0] ![1, 1024, 640] (by decide))).reshape S1024x640 squeezes_S1x1024x640_S1024x640.numel_eq) X))⟩ : View.Piece (Elt Ideal) S4x1024x1280 .bf16),
    (⟨Rect.unit ![2, 0, 640] ![1, 1024, 640] (by decide), unsqueezed (ReadAs.same.apply (View.read (Elt Ideal) (((View.whole main_arg1).slice (Rect.unit ![5, 0, 0] ![1, 1024, 640] (by decide))).reshape S1024x640 squeezes_S1x1024x640_S1024x640.numel_eq) X))⟩ : View.Piece (Elt Ideal) S4x1024x1280 .bf16),
    (⟨Rect.unit ![2, 0, 0] ![1, 1024, 640] (by decide), unsqueezed (ReadAs.same.apply (View.read (Elt Ideal) (((View.whole main_arg1).slice (Rect.unit ![4, 0, 0] ![1, 1024, 640] (by decide))).reshape S1024x640 squeezes_S1x1024x640_S1024x640.numel_eq) X))⟩ : View.Piece (Elt Ideal) S4x1024x1280 .bf16),
    (⟨Rect.unit ![1, 0, 640] ![1, 1024, 640] (by decide), unsqueezed (ReadAs.same.apply (View.read (Elt Ideal) (((View.whole main_arg1).slice (Rect.unit ![3, 0, 0] ![1, 1024, 640] (by decide))).reshape S1024x640 squeezes_S1x1024x640_S1024x640.numel_eq) X))⟩ : View.Piece (Elt Ideal) S4x1024x1280 .bf16),
    (⟨Rect.unit ![1, 0, 0] ![1, 1024, 640] (by decide), unsqueezed (ReadAs.same.apply (View.read (Elt Ideal) (((View.whole main_arg1).slice (Rect.unit ![2, 0, 0] ![1, 1024, 640] (by decide))).reshape S1024x640 squeezes_S1x1024x640_S1024x640.numel_eq) X))⟩ : View.Piece (Elt Ideal) S4x1024x1280 .bf16),
    (⟨Rect.unit ![0, 0, 640] ![1, 1024, 640] (by decide), unsqueezed (ReadAs.same.apply (View.read (Elt Ideal) (((View.whole main_arg1).slice (Rect.unit ![1, 0, 0] ![1, 1024, 640] (by decide))).reshape S1024x640 squeezes_S1x1024x640_S1024x640.numel_eq) X))⟩ : View.Piece (Elt Ideal) S4x1024x1280 .bf16),
    (⟨Rect.unit ![0, 0, 0] ![1, 1024, 640] (by decide), unsqueezed (ReadAs.same.apply (View.read (Elt Ideal) (((View.whole main_arg1).slice (Rect.unit ![0, 0, 0] ![1, 1024, 640] (by decide))).reshape S1024x640 squeezes_S1x1024x640_S1024x640.numel_eq) X))⟩ : View.Piece (Elt Ideal) S4x1024x1280 .bf16)] (Rect.unit ![k, 0, 0] ![1, 1024, 1280] inb).toLoadRect = View.ld (packed X) (Rect.unit ![k, 0, 0] ![1, 1024, 1280] inb) := by
  rw [View.readCov_eq_canon', slabs]

theorem scratch_A (c : Dev nD) (t : Fin cfg0.N) (h0 : t.val % 8 = 0) :
    (outsAt0 m c t.val t.isLt).2.2.2 = packed (m ((c : Thread nD τ).loc main_arg1)) := by
  rw [outsAt0_A m c t h0]
  dsimp only [oA, rA]
  frame_out
  refine (slabs (V m c main_arg1)).trans ?_
  rfl

/-- The packed weight stays in its scratch. -/
theorem kept (c : Dev nD) : ∀ (n : ℕ) (hn : n < cfg0.N), (outsAt0 m c n hn).2.2.2 = packed (m ((c : Thread nD τ).loc main_arg1)) := by
  intro n
  induction n with
  | zero =>
    intro hn
    have h := scratch_A m c ⟨0, hn⟩ (Nat.zero_mod 8)
    dsimp only at h
    exact h
  | succ n ih =>
    intro hn
    have hN : n + 1 < 8 := lt_of_lt_of_eq hn N_0
    have h := ih (Nat.lt_of_succ_lt hn)
    rw [outsAt0_B m c ⟨n + 1, hn⟩ (by show ¬ (n + 1) % 8 = 0; omega)]
    dsimp only [oB]
    exact h

variable (c : Dev nD) (t : Fin cfg0.N)

/-- Columns `1280 k` on of the weight, from the packed scratch. -/
abbrev part (k : ℕ) (inb : ∀ a, (![k, 0, 0] : Fin 3 → ℕ) a + (![1, 1024, 1280] : Fin 3 → ℕ) a ≤ S4x1024x1280.size a) : Vec Ideal S1x1024x1280 .bf16 :=
  View.ld (packed (m ((c : Thread nD τ).loc main_arg1))) (Rect.unit ![k, 0, 0] ![1, 1024, 1280] inb)

/-- What a point writes to output 1. -/
theorem out1 : (outsAt0 m c t.val t.isLt).1 = View.canon [
    (⟨Rect.unit ![0, 2560] ![512, 512] inb_S512x3072_S512x512_0_2560, k0_pay6 (F := Ideal) (iblk m c 0 t) (part m c 2 inb_S4x1024x1280_S1x1024x1280_2_0_0)⟩ : View.Piece (Elt Ideal) S512x3072 .bf16),
    ⟨Rect.unit ![0, 1280] ![512, 1280] inb_S512x3072_S512x1280_0_1280, k0_pay4 (F := Ideal) (iblk m c 0 t) (part m c 1 inb_S4x1024x1280_S1x1024x1280_1_0_0)⟩,
    ⟨Rect.unit ![0, 0] ![512, 1280] inb_S512x3072_S512x1280_0_0, k0_pay3 (F := Ideal) (iblk m c 0 t) (part m c 0 inb_S4x1024x1280_S1x1024x1280_0_0_0)⟩] := by
  have hT : t.val < 8 := lt_of_lt_of_eq t.isLt N_0
  by_cases h0 : t.val % 8 = 0
  · rw [outsAt0_A m c t h0]
    dsimp only [oA, rA]
    frame_out
    repeat rw [read_slabs]
  · rw [outsAt0_B m c t h0]
    dsimp only [oB, rB]
    frame_out
    simp only [read_unread_whole, kept m c (t.val - 1) (by omega)]

/-- What a point writes to output 2. -/
theorem out2 : (outsAt0 m c t.val t.isLt).2.1 = View.canon [
    (⟨Rect.unit ![0, 768] ![512, 1280] inb_S512x2048_S512x1280_0_768, k0_pay1 (F := Ideal) (k0_pay2 (F := Ideal) (iblk m c 0 t)) (part m c 3 inb_S4x1024x1280_S1x1024x1280_3_0_0)⟩ : View.Piece (Elt Ideal) S512x2048 .f32),
    ⟨Rect.unit ![0, 0] ![512, 768] inb_S512x2048_S512x768_0_0, k0_pay7 (F := Ideal) (iblk m c 0 t) (part m c 2 inb_S4x1024x1280_S1x1024x1280_2_0_0)⟩] := by
  have hT : t.val < 8 := lt_of_lt_of_eq t.isLt N_0
  by_cases h0 : t.val % 8 = 0
  · rw [outsAt0_A m c t h0]
    dsimp only [oA, rA]
    frame_out
    repeat rw [read_slabs]
  · rw [outsAt0_B m c t h0]
    dsimp only [oB, rB]
    frame_out
    simp only [read_unread_whole, kept m c (t.val - 1) (by omega)]

/-- What a point writes to output 3. -/
theorem out3 : (outsAt0 m c t.val t.isLt).2.2.1 = k0_pay2 (F := Ideal) (iblk m c 0 t) := by
  have hT : t.val < 8 := lt_of_lt_of_eq t.isLt N_0
  by_cases h0 : t.val % 8 = 0
  · rw [outsAt0_A m c t h0]
    dsimp only [oA, rA]
    frame_out
  · rw [outsAt0_B m c t h0]
    dsimp only [oB, rB]
    frame_out

theorem core3 (x : S512x1280.Idx) (j : Cert.InProjRefIdeal.S4096x5120.Idx) (hj0 : (j 0 : ℕ) = t.val * 512 + x 0) (hj1 : (j 1 : ℕ) = 0 + x 1) :
    k0_pay3 (F := Ideal) (iblk m c 0 t) (part m c 0 inb_S4x1024x1280_S1x1024x1280_0_0_0) x = val_main_v3 (F := Ideal) (m ((c : Thread nD τ).loc main_arg0)) (m ((c : Thread nD τ).loc main_arg1)) j := by
  open_payloads
  pointwise [val_main_v3, val_main_v2, val_main_v1, val_main_v0, part]
  blk_point [iblk, V, idx t, packed]

theorem core4 (x : S512x1280.Idx) (j : Cert.InProjRefIdeal.S4096x5120.Idx) (hj0 : (j 0 : ℕ) = t.val * 512 + x 0) (hj1 : (j 1 : ℕ) = 1280 + x 1) :
    k0_pay4 (F := Ideal) (iblk m c 0 t) (part m c 1 inb_S4x1024x1280_S1x1024x1280_1_0_0) x = val_main_v3 (F := Ideal) (m ((c : Thread nD τ).loc main_arg0)) (m ((c : Thread nD τ).loc main_arg1)) j := by
  open_payloads
  pointwise [val_main_v3, val_main_v2, val_main_v1, val_main_v0, part]
  blk_point [iblk, V, idx t, packed]

theorem core6 (x : S512x512.Idx) (j : Cert.InProjRefIdeal.S4096x5120.Idx) (hj0 : (j 0 : ℕ) = t.val * 512 + x 0) (hj1 : (j 1 : ℕ) = 2560 + x 1) :
    k0_pay6 (F := Ideal) (iblk m c 0 t) (part m c 2 inb_S4x1024x1280_S1x1024x1280_2_0_0) x = val_main_v3 (F := Ideal) (m ((c : Thread nD τ).loc main_arg0)) (m ((c : Thread nD τ).loc main_arg1)) j := by
  open_payloads
  pointwise [val_main_v3, val_main_v2, val_main_v1, val_main_v0, part]
  blk_point [iblk, V, idx t, packed]

theorem core7 (x : S512x768.Idx) (j : Cert.InProjRefIdeal.S4096x5120.Idx) (hj0 : (j 0 : ℕ) = t.val * 512 + x 0) (hj1 : (j 1 : ℕ) = 3072 + x 1) :
    k0_pay7 (F := Ideal) (iblk m c 0 t) (part m c 2 inb_S4x1024x1280_S1x1024x1280_2_0_0) x = val_main_v3 (F := Ideal) (m ((c : Thread nD τ).loc main_arg0)) (m ((c : Thread nD τ).loc main_arg1)) j := by
  open_payloads
  pointwise [val_main_v3, val_main_v2, val_main_v1, val_main_v0, part]
  blk_point [iblk, V, idx t, packed]

theorem core1 (x : S512x1280.Idx) (j : Cert.InProjRefIdeal.S4096x5120.Idx) (hj0 : (j 0 : ℕ) = t.val * 512 + x 0) (hj1 : (j 1 : ℕ) = 3840 + x 1) :
    k0_pay1 (F := Ideal) (k0_pay2 (F := Ideal) (iblk m c 0 t)) (part m c 3 inb_S4x1024x1280_S1x1024x1280_3_0_0) x = val_main_v3 (F := Ideal) (m ((c : Thread nD τ).loc main_arg0)) (m ((c : Thread nD τ).loc main_arg1)) j := by
  open_payloads
  pointwise [val_main_v3, val_main_v2, val_main_v1, val_main_v0, part]
  blk_point [iblk, V, idx t, packed]

theorem final1 : (dats m 0 c).arrAt 1 cfg0.N = val_main_v5 (F := Ideal) (m ((c : Thread nD τ).loc main_arg0)) (m ((c : Thread nD τ).loc main_arg1)) := by
  refine (dats m 0 c).arrAt_eq_of_covers 1 _ (by decide +kernel) fun t hf y => ?_
  blk_simp
  rw [after0_1, out1]
  canon_tiles x h using (View.cover_of_tiledBy _ ![512, 256] (by sl_kernel_rfl) _)
  · refine (core6 m c t x (ix2 ⟨t.val * 512 + (x 0 : ℕ), by have := lt_of_lt_of_eq t.isLt N_0; have : (x 0 : ℕ) < 512 := (x 0).isLt; omega⟩ ⟨2560 + (x 1 : ℕ), by have : (x 1 : ℕ) < 512 := (x 1).isLt; omega⟩) rfl rfl).trans ?_
    pointwise [val_main_v5, val_main_v4]
    blk_ext [idx t]
  · refine (core4 m c t x (ix2 ⟨t.val * 512 + (x 0 : ℕ), by have := lt_of_lt_of_eq t.isLt N_0; have : (x 0 : ℕ) < 512 := (x 0).isLt; omega⟩ ⟨1280 + (x 1 : ℕ), by have : (x 1 : ℕ) < 1280 := (x 1).isLt; omega⟩) rfl rfl).trans ?_
    pointwise [val_main_v5, val_main_v4]
    blk_ext [idx t]
  · refine (core3 m c t x (ix2 ⟨t.val * 512 + (x 0 : ℕ), by have := lt_of_lt_of_eq t.isLt N_0; have : (x 0 : ℕ) < 512 := (x 0).isLt; omega⟩ ⟨0 + (x 1 : ℕ), by have : (x 1 : ℕ) < 1280 := (x 1).isLt; omega⟩) rfl rfl).trans ?_
    pointwise [val_main_v5, val_main_v4]
    blk_ext [idx t]

theorem final2 : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2, out2]
  canon_tiles x h using (View.cover_of_tiledBy _ ![512, 256] (by sl_kernel_rfl) _)
  · refine (core1 m c t x (ix2 ⟨t.val * 512 + (x 0 : ℕ), by have := lt_of_lt_of_eq t.isLt N_0; have : (x 0 : ℕ) < 512 := (x 0).isLt; omega⟩ ⟨3840 + (x 1 : ℕ), by have : (x 1 : ℕ) < 1280 := (x 1).isLt; omega⟩) rfl rfl).trans ?_
    pointwise [val_main_v6]
    blk_ext [idx t]
  · refine (core7 m c t x (ix2 ⟨t.val * 512 + (x 0 : ℕ), by have := lt_of_lt_of_eq t.isLt N_0; have : (x 0 : ℕ) < 512 := (x 0).isLt; omega⟩ ⟨3072 + (x 1 : ℕ), by have : (x 1 : ℕ) < 768 := (x 1).isLt; omega⟩) rfl rfl).trans ?_
    pointwise [val_main_v6]
    blk_ext [idx t]

theorem final3 : (dats m 0 c).arrAt 3 cfg0.N = val_main_v7 (F := Ideal) (m ((c : Thread nD τ).loc main_arg0)) := by
  refine (dats m 0 c).arrAt_eq_of_covers 3 _ (by decide +kernel) fun t hf y => ?_
  blk_simp
  rw [after0_3, out3]
  open_payloads
  pointwise [val_main_v7]
  blk_point [iblk, V, idx t]

end Cert.InProjIdeal.Tiles

end
-- ==== Proof.InProjClaim.lean ====
/- InProj: the claim itself, kernel beside reference. -/
module

public import proofs.«01_k».proof.Defs
public import proofs.«01_k».proof.Proof.InProj
public import proofs.«01_k».proof.Proof.Gen.InProjRefIdeal.Read
public import Idealize.ShloMosaic.Lib.Claim

@[expose] public section

noncomputable section

namespace Cert.InProjRefIdeal.Stages

open Cert.InProjRefIdeal Cert.InProjRefIdeal.Gen Cert.InProjRefIdeal.Read Idealize.ShloMosaic Idealize.ShloMosaic.TcCoe Idealize.SL.Sem

/-- The reference's run, each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = val_main_v5 (m ((c : Thread nD τ).loc main_arg0)) (m ((c : Thread nD τ).loc main_arg1))
      ∧ r.2.mem ((c : Thread nD τ).loc main_v6) = val_main_v6 (m ((c : Thread nD τ).loc main_arg0)) (m ((c : Thread nD τ).loc main_arg1))
      ∧ r.2.mem ((c : Thread nD τ).loc main_v7) = val_main_v7 (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1).trans (val_main_v5_eq _ _),
    ((h c).2.1).trans (val_main_v6_eq _ _),
    ((h c).2.2.1).trans (val_main_v7_eq _),
    (h c).2.2.2.1,
    (h c).2.2.2.2⟩) (Cert.InProjRefIdeal.Value.run m ρ)

end Cert.InProjRefIdeal.Stages

set_option maxHeartbeats 1600000 in
/-- Kernel and reference end with the same results. -/
theorem Cert.InProjIdeal.Tiles.algebraic : Cert.algebraic_InProjIdeal_InProjRefIdeal := by
  pair_intro
  · run_from Cert.InProjIdeal.Gen.run_main m g
  · run_from Cert.InProjRefIdeal.Stages.run m' g'
    exacts [(Cert.InProjIdeal.Tiles.final1 m c).symm, (Cert.InProjIdeal.Tiles.final2 m c).symm, (Cert.InProjIdeal.Tiles.final3 m c).symm]

end
-- ==== Proof.InGradRuns.lean ====
/- The launch of the backward input projection: its arguments where the call finds them, its blocks, its memrefs and its own copies' cells. -/
module

public import proofs.«01_k».proof.Proof.Gen.InGradIdeal.Launch
public import proofs.«01_k».proof.Proof.Gen.InGradIdeal.Skeleton
public import proofs.«01_k».proof.Proof.Gen.InGradIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InGradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the call finds in a buffer. -/
abbrev V (c : Dev nD) (b : Ref sig .tc) : Buf (Elt F) ((c : Thread nD τ).loc b) := m ((c : Thread nD τ).loc b)

set_option maxHeartbeats 800000 in
/-- The program up to the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Where the arrays end, the arguments end as they were. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c)⟩) h

/-- The condition under which a point copies the operand in: the first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

abbrev VO0_2 : View sig .tc .vmem S512x1024 .f32 := (Memref.whole cc0_stg2_0 : Memref sig .tc .vmem S512x1024 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x5120 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev scM0_0 : Memref sig .tc .vmem S4x1024x1280 .bf16 := Memref.whole cc0_scratch0
abbrev VS0_0 : View sig .tc .vmem S4x1024x1280 .bf16 := scM0_0.view
abbrev hbM0_0 : Memref sig .tc .hbm S8x1024x640 .bf16 := Memref.whole main_arg2
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 8 → SemLoc sig := fun j => (![SemLoc.dma 6, SemLoc.dma 7, SemLoc.dma 8, SemLoc.dma 9, SemLoc.dma 10, SemLoc.dma 11, SemLoc.dma 12, SemLoc.dma 13] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3, 4, 5, 6, 7] (by decide) (by decide)]; rfl
def H0 : Finset (Ref sig .tc) := {main_arg2}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- The launch's invariant, spelled out. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_arg2))) := by
  rw [Pipeline.ΦD_eq, scopedRest0_eq, ownSems00_eq, hbmPts0_eq]; simp only [scM0_0, owns_whole]; try rfl

end Cert.InGradIdeal.Gen

end
-- ==== Proof.InGradRunA.lean ====
/- One run of the body of the backward input projection, in case A of its conditional. -/
module

public import proofs.«01_k».proof.Proof.InGradRuns

@[expose] public section

set_option maxRecDepth 16384

noncomputable section

namespace Cert.InGradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A block of the packed weight with the unit axis put back in front. -/
def unsqueezed (d : Vec F S1024x640 .bf16) : Vec F S1x1024x640 .bf16 :=
  fun x => d ((Shape.reshapeEquiv squeezes_S1x1024x640_S1024x640.numel_eq).symm x)

/-- The eight copies into the packed weight, each through its slice with the unit axis dropped, as pieces of the whole buffer. -/
theorem packed_writes (M : Memref sig .tc .vmem S4x1024x1280 .bf16) (f : M.view.ty.Contents (Elt F))
    (d0 d1 d2 d3 d4 d5 d6 d7 : Vec F S1024x640 .bf16) :
    (View.write (Elt F) ((M.slice (Rect.unit (s := S4x1024x1280) ![3, 0, 640] S1x1024x640.size inb_S4x1024x1280_S1x1024x640_3_0_640) (fun _ => rfl)).squeeze S1024x640 squeezes_S1x1024x640_S1024x640).view (View.write (Elt F) ((M.slice (Rect.unit (s := S4x1024x1280) ![3, 0, 0] S1x1024x640.size inb_S4x1024x1280_S1x1024x640_3_0_0) (fun _ => rfl)).squeeze S1024x640 squeezes_S1x1024x640_S1024x640).view (View.write (Elt F) ((M.slice (Rect.unit (s := S4x1024x1280) ![2, 0, 640] S1x1024x640.size inb_S4x1024x1280_S1x1024x640_2_0_640) (fun _ => rfl)).squeeze S1024x640 squeezes_S1x1024x640_S1024x640).view (View.write (Elt F) ((M.slice (Rect.unit (s := S4x1024x1280) ![2, 0, 0] S1x1024x640.size inb_S4x1024x1280_S1x1024x640_2_0_0) (fun _ => rfl)).squeeze S1024x640 squeezes_S1x1024x640_S1024x640).view (View.write (Elt F) ((M.slice (Rect.unit (s := S4x1024x1280) ![1, 0, 640] S1x1024x640.size inb_S4x1024x1280_S1x1024x640_1_0_640) (fun _ => rfl)).squeeze S1024x640 squeezes_S1x1024x640_S1024x640).view (View.write (Elt F) ((M.slice (Rect.unit (s := S4x1024x1280) ![1, 0, 0] S1x1024x640.size inb_S4x1024x1280_S1x1024x640_1_0_0) (fun _ => rfl)).squeeze S1024x640 squeezes_S1x1024x640_S1024x640).view (View.write (Elt F) ((M.slice (Rect.unit (s := S4x1024x1280) ![0, 0, 640] S1x1024x640.size inb_S4x1024x1280_S1x1024x640_0_0_640) (fun _ => rfl)).squeeze S1024x640 squeezes_S1x1024x640_S1024x640).view (View.write (Elt F) ((M.slice (Rect.unit (s := S4x1024x1280) ![0, 0, 0] S1x1024x640.size inb_S4x1024x1280_S1x1024x640_0_0_0) (fun _ => rfl)).squeeze S1024x640 squeezes_S1x1024x640_S1024x640).view f d0 Finset.univ) d1 Finset.univ) d2 Finset.univ) d3 Finset.univ) d4 Finset.univ) d5 Finset.univ) d6 Finset.univ) d7 Finset.univ)
      = M.view.writes (Elt F) f [⟨Rect.unit (s := S4x1024x1280) ![3, 0, 640] S1x1024x640.size inb_S4x1024x1280_S1x1024x640_3_0_640, unsqueezed d7⟩, ⟨Rect.unit (s := S4x1024x1280) ![3, 0, 0] S1x1024x640.size inb_S4x1024x1280_S1x1024x640_3_0_0, unsqueezed d6⟩, ⟨Rect.unit (s := S4x1024x1280) ![2, 0, 640] S1x1024x640.size inb_S4x1024x1280_S1x1024x640_2_0_640, unsqueezed d5⟩, ⟨Rect.unit (s := S4x1024x1280) ![2, 0, 0] S1x1024x640.size inb_S4x1024x1280_S1x1024x640_2_0_0, unsqueezed d4⟩, ⟨Rect.unit (s := S4x1024x1280) ![1, 0, 640] S1x1024x640.size inb_S4x1024x1280_S1x1024x640_1_0_640, unsqueezed d3⟩, ⟨Rect.unit (s := S4x1024x1280) ![1, 0, 0] S1x1024x640.size inb_S4x1024x1280_S1x1024x640_1_0_0, unsqueezed d2⟩, ⟨Rect.unit (s := S4x1024x1280) ![0, 0, 640] S1x1024x640.size inb_S4x1024x1280_S1x1024x640_0_0_640, unsqueezed d1⟩, ⟨Rect.unit (s := S4x1024x1280) ![0, 0, 0] S1x1024x640.size inb_S4x1024x1280_S1x1024x640_0_0_0, unsqueezed d0⟩] := by
  simp only [View.writes]
  iterate 8
    refine (View.write_reshape_univ _ _ _ _).trans ?_
    refine congrArg (fun g => View.write (Elt F) _ g _ Finset.univ) ?_
  rfl

set_option maxHeartbeats 3200000 in
/-- The whole body in case A: the pieces its stores leave in each buffer, and that it runs to a continuation
    that holds them. -/
noncomputable def kernelRun0_A (c : Dev nD) (i : grid0.Coords) (arg1 : Memref sig .tc .vmem S512x1024 .f32) (harg1 : arg1.IsWhole) (arg2 : Memref sig .tc .vmem S512x5120 .bf16) (harg2 : arg2.IsWhole) (arg4 : Memref sig .tc .vmem S512x1024 .f32) (harg4 : arg4.IsWhole) (arg5 : Memref sig .tc .vmem S4x1024x1280 .bf16) (harg5 : arg5.IsWhole) (hc0 : cond0_0 i)
    (x0 : Vec F S512x1024 .f32) (x1 : Vec F S512x5120 .bf16) (fh0 : HbBuf0 (F := F) c hbM0_0) :
    Σ' (L2 : List (View.Piece (Elt F) S512x1024 .f32)), { LS0 : List (View.Piece (Elt F) S4x1024x1280 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ (∃ W', owes (c : Thread nD τ) 0 W')) -∗ K ⟨⟩))
          ⊢ wp frame (wpE (defs₀ (F := F)) Variants.none c none) Set.univ (cc0_in_bwd i arg1 harg1 arg2 harg2 (Memref.whole main_arg2) (Memref.isWhole_whole _) arg4 harg4 arg5 harg5 cc0_scratch1) K } := by
  refine ⟨?_, ?_, fun W K => ?run⟩
  case run =>
    simp only [cc0_in_bwd_eq_skeleton]; unfold cc0_in_bwd_skel
    simp only [k0_part4_eq_skeleton, k0_part1_eq_skeleton, k0_part2_eq_skeleton, k0_part3_eq_skeleton]
    unfold owns
    iintro ⟨⟨%f0, %hf0, H0⟩, ⟨%f1, %hf1, H1⟩, ⟨%d2, %f2, -, H2⟩, ⟨%ds0, %fs0, -, HS0⟩, Hq0, Hq1, Hq2, Hq3, Hq4, Hq5, Hq6, Hq7, Hh0, HW, Hk⟩
    obtain rfl := harg1.eq_unread hf0; obtain rfl := harg2.eq_unread hf1
    set_option sl_exec.maxSteps 36 in
    set_option sl_exec.dmaWindow true in
    set_option sl_exec.dmaWindowSet true in
    set_option sl_exec.squeezeSlice true in
    sl_exec (disch := first | sl_exact hc0)
    rw [packed_writes arg5]
    set_option sl_exec.squeezeSlice true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InGradIdeal.Gen

end
-- ==== Proof.InGradRunB.lean ====
/- One run of the body of the backward input projection, in case B of its conditional. -/
module

public import proofs.«01_k».proof.Proof.InGradRunA

@[expose] public section

set_option maxRecDepth 16384

noncomputable section

namespace Cert.InGradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 3200000 in
/-- The whole body in case B: the pieces its stores leave in each buffer, and that it runs to a continuation
    that holds them. -/
noncomputable def kernelRun0_B (c : Dev nD) (i : grid0.Coords) (arg1 : Memref sig .tc .vmem S512x1024 .f32) (harg1 : arg1.IsWhole) (arg2 : Memref sig .tc .vmem S512x5120 .bf16) (harg2 : arg2.IsWhole) (arg4 : Memref sig .tc .vmem S512x1024 .f32) (harg4 : arg4.IsWhole) (arg5 : Memref sig .tc .vmem S4x1024x1280 .bf16) (harg5 : arg5.IsWhole) (hc0 : ¬cond0_0 i)
    (x0 : Vec F S512x1024 .f32) (x1 : Vec F S512x5120 .bf16) (xs0 : Vec F S4x1024x1280 .bf16) (fh0 : HbBuf0 (F := F) c hbM0_0) :
    Σ' (L2 : List (View.Piece (Elt F) S512x1024 .f32)), { LS0 : List (View.Piece (Elt F) S4x1024x1280 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ owns (c : Thread nD τ) arg5 fullShare xs0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ owns (c : Thread nD τ) arg5 fullShare xs0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ (∃ W', owes (c : Thread nD τ) 0 W')) -∗ K ⟨⟩))
          ⊢ wp frame (wpE (defs₀ (F := F)) Variants.none c none) Set.univ (cc0_in_bwd i arg1 harg1 arg2 harg2 (Memref.whole main_arg2) (Memref.isWhole_whole _) arg4 harg4 arg5 harg5 cc0_scratch1) K } := by
  refine ⟨?_, [], fun W K => ?run⟩
  case run =>
    simp only [cc0_in_bwd_eq_skeleton]; unfold cc0_in_bwd_skel
    simp only [k0_part4_eq_skeleton]
    unfold owns
    iintro ⟨⟨%f0, %hf0, H0⟩, ⟨%f1, %hf1, H1⟩, ⟨%d2, %f2, -, H2⟩, ⟨%fs0, %hfs0, HS0⟩, Hq0, Hq1, Hq2, Hq3, Hq4, Hq5, Hq6, Hq7, Hh0, HW, Hk⟩
    obtain rfl := harg1.eq_unread hf0; obtain rfl := harg2.eq_unread hf1; obtain rfl := harg5.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]
    · iexists _; isplitr; · ipureintro; exact harg5.read_unread _
      iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.InGradIdeal.Gen

end
-- ==== Proof.InGradFrame.lean ====
/- The frame of the backward input projection: what its buffers hold point by point, and that the whole call runs. -/
module

public import proofs.«01_k».proof.Proof.InGradRunB
public import Idealize.ShloMosaic.Lib.Claim

@[expose] public section

set_option maxRecDepth 16384

noncomputable section

namespace Cert.InGradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the outputs' buffers and the carried scratch hold after a point. -/
abbrev Outs (F : FTy → Type) := Vec F S512x1024 .f32 × Vec F S4x1024x1280 .bf16

/-- The run of case A at a point. -/
def rA (c : Dev nD) (t : Fin cfg0.N) (h0 : t.val % 8 = 0) := kernelRun0_A c (grid0.coords t) (ms0_0 t) (hs0_0 t) (ms0_1 t) (hs0_1 t) (ms0_2 t) (hs0_2 t) scM0_0 (Memref.isWhole_whole _) ((hcond0_0 t).mpr h0) (iblk m c 0 t) (iblk m c 1 t) (V m c main_arg2)

theorem cover0_A_2 (c : Dev nD) (t : Fin cfg0.N) (h0 : t.val % 8 = 0) (y : S512x1024.Idx) : ∃ pc ∈ (rA m c t h0).1, y ∈ pc.1.set :=
  View.cover_of_tiledL (rA m c t h0).1 S512x1024.size (by sl_kernel_rfl) y

theorem scover0_A_0 (c : Dev nD) (t : Fin cfg0.N) (h0 : t.val % 8 = 0) (y : S4x1024x1280.Idx) : ∃ pc ∈ (rA m c t h0).2.1, y ∈ pc.1.set :=
  View.cover_of_tiledL (rA m c t h0).2.1 S1x1024x640.size (by sl_kernel_rfl) y

/-- What case A leaves. -/
def oA (c : Dev nD) (t : Fin cfg0.N) (h0 : t.val % 8 = 0) : Outs F :=
  (VO0_2.read (Elt F) (VO0_2.writes (Elt F) VO0_2.junk (rA m c t h0).1),
   VS0_0.read (Elt F) (VS0_0.writes (Elt F) VS0_0.junk (rA m c t h0).2.1))

/-- The run of case B at a point. -/
def rB (c : Dev nD) (t : Fin cfg0.N) (h0 : ¬t.val % 8 = 0) (p : Outs F) := kernelRun0_B c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) p.2 (V m c main_arg2)

theorem cover0_B_2 (c : Dev nD) (t : Fin cfg0.N) (h0 : ¬t.val % 8 = 0) (p : Outs F) (y : S512x1024.Idx) : ∃ pc ∈ (rB m c t h0 p).1, y ∈ pc.1.set :=
  View.cover_of_tiledL (rB m c t h0 p).1 S512x1024.size (by sl_kernel_rfl) y

/-- What case B leaves. -/
def oB (c : Dev nD) (t : Fin cfg0.N) (h0 : ¬t.val % 8 = 0) (p : Outs F) : Outs F :=
  (VO0_2.read (Elt F) (VO0_2.writes (Elt F) VO0_2.junk (rB m c t h0 p).1),
   p.2)

/-- Point by point: the first point is case A, the others case B over what the point before left. -/
def outsAt0 (c : Dev nD) : (n : ℕ) → n < cfg0.N → Outs F
  | 0, hn => oA m c ⟨0, hn⟩ (Nat.zero_mod _)
  | n + 1, hn =>
    if h0 : (n + 1) % 8 = 0 then oA m c ⟨n + 1, hn⟩ h0
    else oB m c ⟨n + 1, hn⟩ h0 (outsAt0 c n (Nat.lt_of_succ_lt hn))

theorem outsAt0_A (c : Dev nD) (t : Fin cfg0.N) (h0 : t.val % 8 = 0) : outsAt0 m c t.val t.isLt = oA m c t h0 := by
  obtain ⟨n, hn⟩ := t
  cases n with
  | zero => exact rfl
  | succ n => exact (dif_pos h0).trans rfl

theorem outsAt0_B (c : Dev nD) (t : Fin cfg0.N) (h0 : ¬t.val % 8 = 0) : outsAt0 m c t.val t.isLt
    = oB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The invariant between points: the carried scratch at what the last point left, all else at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_arg2)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_arg2))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_arg2))) := by
  cases n with
  | zero => exact absurd rfl hz
  | succ n => rfl

/-- The data of the pipeline: each input at its block, each output at what the points leave. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ,
    after0_0, after0_1, after0_2]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · by_cases hz : t.val = 0
    · rw [PhiS_castSucc m c t, PhiS_zero m c _ _ hz, PhiD0_eq]
      rw [outsAt0_A m c t h0]
      dsimp only [oA]
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩⟩
      iapply ((rA m c t h0).2.2 W _)
      isplitl [H0]; · iexact H0
      isplitl [H1]; · iexact H1
      isplitl [H2]; · iexists _; iexact H2
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, ⟨%e2, H2⟩, ⟨%es0, HS0⟩, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · unfold owns; iexists _; isplitr
          swap; · iexact HS0
          ipureintro; exact View.read_writes_of_cover _ _ _ _ _ (scover0_A_0 m c t h0)
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      unfold owns; iexists _; isplitr
      swap; · iexact H2
      ipureintro; exact View.read_writes_of_cover _ _ _ _ _ (cover0_A_2 m c t h0)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      dsimp only [oB]
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩⟩
      iapply ((rB m c t h0 (outsAt0 m c (t.val - 1) (Nat.lt_of_le_of_lt (Nat.sub_le _ _) t.isLt))).2.2 W _)
      isplitl [H0]; · iexact H0
      isplitl [H1]; · iexact H1
      isplitl [H2]; · iexists _; iexact H2
      isplitl [HS0]; · iexact HS0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hh0]; · iexact Hh0
      isplitl [HW]; · iexact HW
      iintro ⟨H0, H1, ⟨%e2, H2⟩, HS0, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · iexact HS0
        isplitl [Hg]
        · iexact Hg
        isplitl [Hq0 Hq1 Hq2 Hq3 Hq4 Hq5 Hq6 Hq7]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hq7
        iexact Hh0
      isplitl [HW']
      · iexists W'; isplitr; · ipureintro; exact fun _ _ => Or.inl trivial
        iexact HW'
      isplitl [H0]; · iexact H0
      isplitl [H1]; · iexact H1
      unfold owns; iexists _; isplitr
      swap; · iexact H2
      ipureintro; exact View.read_writes_of_cover _ _ _ _ _ (cover0_B_2 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, Hh0⟩
  isplitl [HS0]
  · iexists _; iexact HS0
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  iexact Hh0

theorem hout (c : Dev nD) : (dats m 0 c).Φ (Fin.last cfg0.N) ⊢ Pipeline.ΦD osem0 spec0 H0 (V m) c :=
  Phi_out m c _ (by rw [Fin.val_last]; have : cfg0.N = 8 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The call ends, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InGradIdeal.Gen

end
-- ==== Proof.InGrad.lean ====
/- The backward input projection: what the kernel's tiles hold, against the reference. -/
module

public import proofs.«01_k».proof.Defs
public import proofs.«01_k».proof.Proof.InGradFrame
public import proofs.«01_k».proof.Proof.Gen.InGradRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InGradIdeal.Tiles

open Cert.InGradIdeal Cert.InGradIdeal.Gen

variable (m : (ℓ : Loc nD τ sig) → Buf (Elt Ideal) ℓ)

/-- Every window's block index at a grid point. -/
theorem idx : ∀ t : Fin cfg0.N, win0_0.index t = ![t.val, 0] ∧ win0_1.index t = ![t.val, 0] ∧ win0_2.index t = ![t.val, 0] :=
  (by decide +kernel : ∀ t : Fin grid0.N, _)

open Cert.InGradRefIdeal.Read

/-- The packed weight: two shards side by side in each of four slots. -/
def packed (X : Vec Ideal S8x1024x640 .bf16) : Vec Ideal S4x1024x1280 .bf16 := fun i =>
  X (ix3 ⟨2 * (i 0).val + (i 2).val / 640, by have h0 : (i 0).val < 4 := (i 0).isLt; have h2 : (i 2).val < 1280 := (i 2).isLt; omega⟩ (i 1) ⟨(i 2).val % 640, Nat.mod_lt _ (by decide)⟩)

/-- One shard as the copy into the scratch carries it. -/
theorem shard (X : Vec Ideal S8x1024x640 .bf16) (off : Fin 3 → ℕ) (inb : ∀ a, off a + (![1, 1024, 640] : Fin 3 → ℕ) a ≤ S8x1024x640.size a) (hr) :
    unsqueezed (ReadAs.same.apply (View.read (Elt Ideal) (((View.whole main_arg2).slice (Rect.unit (s := S8x1024x640) off ![1, 1024, 640] inb)).reshape S1024x640 hr) X))
      = (View.ld X (Rect.unit (s := S8x1024x640) off ![1, 1024, 640] inb) : Vec Ideal S1x1024x640 .bf16) := by
  funext x
  unfold unsqueezed
  show X (_ : S8x1024x640.Idx) = X _
  congr 1
  show (Rect.unit (s := S8x1024x640) off ![1, 1024, 640] inb).emb (Shape.reshapeEquiv _ ((Shape.reshapeEquiv _).symm x)) = _
  rw [Equiv.apply_symm_apply]
  rfl

/-- The eight shards in the scratch are the packed weight. -/
theorem slabs (X : Vec Ideal S8x1024x640 .bf16) : View.canon [
    (⟨Rect.unit ![3, 0, 640] ![1, 1024, 640] (by decide), unsqueezed (ReadAs.same.apply (View.read (Elt Ideal) (((View.whole main_arg2).slice (Rect.unit ![7, 0, 0] ![1, 1024, 640] (by decide))).reshape S1024x640 squeezes_S1x1024x640_S1024x640.numel_eq) X))⟩ : View.Piece (Elt Ideal) S4x1024x1280 .bf16),
    (⟨Rect.unit ![3, 0, 0] ![1, 1024, 640] (by decide), unsqueezed (ReadAs.same.apply (View.read (Elt Ideal) (((View.whole main_arg2).slice (Rect.unit ![6, 0, 0] ![1, 1024, 640] (by decide))).reshape S1024x640 squeezes_S1x1024x640_S1024x640.numel_eq) X))⟩ : View.Piece (Elt Ideal) S4x1024x1280 .bf16),
    (⟨Rect.unit ![2, 0, 640] ![1, 1024, 640] (by decide), unsqueezed (ReadAs.same.apply (View.read (Elt Ideal) (((View.whole main_arg2).slice (Rect.unit ![5, 0, 0] ![1, 1024, 640] (by decide))).reshape S1024x640 squeezes_S1x1024x640_S1024x640.numel_eq) X))⟩ : View.Piece (Elt Ideal) S4x1024x1280 .bf16),
    (⟨Rect.unit ![2, 0, 0] ![1, 1024, 640] (by decide), unsqueezed (ReadAs.same.apply (View.read (Elt Ideal) (((View.whole main_arg2).slice (Rect.unit ![4, 0, 0] ![1, 1024, 640] (by decide))).reshape S1024x640 squeezes_S1x1024x640_S1024x640.numel_eq) X))⟩ : View.Piece (Elt Ideal) S4x1024x1280 .bf16),
    (⟨Rect.unit ![1, 0, 640] ![1, 1024, 640] (by decide), unsqueezed (ReadAs.same.apply (View.read (Elt Ideal) (((View.whole main_arg2).slice (Rect.unit ![3, 0, 0] ![1, 1024, 640] (by decide))).reshape S1024x640 squeezes_S1x1024x640_S1024x640.numel_eq) X))⟩ : View.Piece (Elt Ideal) S4x1024x1280 .bf16),
    (⟨Rect.unit ![1, 0, 0] ![1, 1024, 640] (by decide), unsqueezed (ReadAs.same.apply (View.read (Elt Ideal) (((View.whole main_arg2).slice (Rect.unit ![2, 0, 0] ![1, 1024, 640] (by decide))).reshape S1024x640 squeezes_S1x1024x640_S1024x640.numel_eq) X))⟩ : View.Piece (Elt Ideal) S4x1024x1280 .bf16),
    (⟨Rect.unit ![0, 0, 640] ![1, 1024, 640] (by decide), unsqueezed (ReadAs.same.apply (View.read (Elt Ideal) (((View.whole main_arg2).slice (Rect.unit ![1, 0, 0] ![1, 1024, 640] (by decide))).reshape S1024x640 squeezes_S1x1024x640_S1024x640.numel_eq) X))⟩ : View.Piece (Elt Ideal) S4x1024x1280 .bf16),
    (⟨Rect.unit ![0, 0, 0] ![1, 1024, 640] (by decide), unsqueezed (ReadAs.same.apply (View.read (Elt Ideal) (((View.whole main_arg2).slice (Rect.unit ![0, 0, 0] ![1, 1024, 640] (by decide))).reshape S1024x640 squeezes_S1x1024x640_S1024x640.numel_eq) X))⟩ : View.Piece (Elt Ideal) S4x1024x1280 .bf16)] = packed X := by
  funext i
  canon_tiles x h
  all_goals
    rw [shard]
    pointwise [packed]
    blk_ext

/-- A covered read of the packed weight. -/
theorem read_slabs (v : View sig .tc .vmem S4x1024x1280 .bf16) (X : Vec Ideal S8x1024x640 .bf16) (k : ℕ) (inb) : v.readCov [
    (⟨Rect.unit ![3, 0, 640] ![1, 1024, 640] (by decide), unsqueezed (ReadAs.same.apply (View.read (Elt Ideal) (((View.whole main_arg2).slice (Rect.unit ![7, 0, 0] ![1, 1024, 640] (by decide))).reshape S1024x640 squeezes_S1x1024x640_S1024x640.numel_eq) X))⟩ : View.Piece (Elt Ideal) S4x1024x1280 .bf16),
    (⟨Rect.unit ![3, 0, 0] ![1, 1024, 640] (by decide), unsqueezed (ReadAs.same.apply (View.read (Elt Ideal) (((View.whole main_arg2).slice (Rect.unit ![6, 0, 0] ![1, 1024, 640] (by decide))).reshape S1024x640 squeezes_S1x1024x640_S1024x640.numel_eq) X))⟩ : View.Piece (Elt Ideal) S4x1024x1280 .bf16),
    (⟨Rect.unit ![2, 0, 640] ![1, 1024, 640] (by decide), unsqueezed (ReadAs.same.apply (View.read (Elt Ideal) (((View.whole main_arg2).slice (Rect.unit ![5, 0, 0] ![1, 1024, 640] (by decide))).reshape S1024x640 squeezes_S1x1024x640_S1024x640.numel_eq) X))⟩ : View.Piece (Elt Ideal) S4x1024x1280 .bf16),
    (⟨Rect.unit ![2, 0, 0] ![1, 1024, 640] (by decide), unsqueezed (ReadAs.same.apply (View.read (Elt Ideal) (((View.whole main_arg2).slice (Rect.unit ![4, 0, 0] ![1, 1024, 640] (by decide))).reshape S1024x640 squeezes_S1x1024x640_S1024x640.numel_eq) X))⟩ : View.Piece (Elt Ideal) S4x1024x1280 .bf16),
    (⟨Rect.unit ![1, 0, 640] ![1, 1024, 640] (by decide), unsqueezed (ReadAs.same.apply (View.read (Elt Ideal) (((View.whole main_arg2).slice (Rect.unit ![3, 0, 0] ![1, 1024, 640] (by decide))).reshape S1024x640 squeezes_S1x1024x640_S1024x640.numel_eq) X))⟩ : View.Piece (Elt Ideal) S4x1024x1280 .bf16),
    (⟨Rect.unit ![1, 0, 0] ![1, 1024, 640] (by decide), unsqueezed (ReadAs.same.apply (View.read (Elt Ideal) (((View.whole main_arg2).slice (Rect.unit ![2, 0, 0] ![1, 1024, 640] (by decide))).reshape S1024x640 squeezes_S1x1024x640_S1024x640.numel_eq) X))⟩ : View.Piece (Elt Ideal) S4x1024x1280 .bf16),
    (⟨Rect.unit ![0, 0, 640] ![1, 1024, 640] (by decide), unsqueezed (ReadAs.same.apply (View.read (Elt Ideal) (((View.whole main_arg2).slice (Rect.unit ![1, 0, 0] ![1, 1024, 640] (by decide))).reshape S1024x640 squeezes_S1x1024x640_S1024x640.numel_eq) X))⟩ : View.Piece (Elt Ideal) S4x1024x1280 .bf16),
    (⟨Rect.unit ![0, 0, 0] ![1, 1024, 640] (by decide), unsqueezed (ReadAs.same.apply (View.read (Elt Ideal) (((View.whole main_arg2).slice (Rect.unit ![0, 0, 0] ![1, 1024, 640] (by decide))).reshape S1024x640 squeezes_S1x1024x640_S1024x640.numel_eq) X))⟩ : View.Piece (Elt Ideal) S4x1024x1280 .bf16)] (Rect.unit ![k, 0, 0] ![1, 1024, 1280] inb).toLoadRect = View.ld (packed X) (Rect.unit ![k, 0, 0] ![1, 1024, 1280] inb) := by
  rw [View.readCov_eq_canon', slabs]

theorem scratch_A (c : Dev nD) (t : Fin cfg0.N) (h0 : t.val % 8 = 0) :
    (outsAt0 m c t.val t.isLt).2 = packed (m ((c : Thread nD τ).loc main_arg2)) := by
  rw [outsAt0_A m c t h0]
  dsimp only [oA, rA]
  frame_out
  refine (slabs (V m c main_arg2)).trans ?_
  rfl

/-- The packed weight stays in its scratch. -/
theorem kept (c : Dev nD) : ∀ (n : ℕ) (hn : n < cfg0.N), (outsAt0 m c n hn).2 = packed (m ((c : Thread nD τ).loc main_arg2)) := by
  intro n
  induction n with
  | zero =>
    intro hn
    have h := scratch_A m c ⟨0, hn⟩ (Nat.zero_mod 8)
    dsimp only at h
    exact h
  | succ n ih =>
    intro hn
    have hN : n + 1 < 8 := lt_of_lt_of_eq hn N_0
    have h := ih (Nat.lt_of_succ_lt hn)
    rw [outsAt0_B m c ⟨n + 1, hn⟩ (by show ¬ (n + 1) % 8 = 0; omega)]
    dsimp only [oB]
    exact h

variable (c : Dev nD) (t : Fin cfg0.N)

/-- Columns `1280 k` on of the weight, from the packed scratch. -/
abbrev part (k : ℕ) (inb : ∀ a, (![k, 0, 0] : Fin 3 → ℕ) a + (![1, 1024, 1280] : Fin 3 → ℕ) a ≤ S4x1024x1280.size a) : Vec Ideal S1x1024x1280 .bf16 :=
  View.ld (packed (m ((c : Thread nD τ).loc main_arg2))) (Rect.unit ![k, 0, 0] ![1, 1024, 1280] inb)

/-- What a point writes. -/
theorem out : (outsAt0 m c t.val t.isLt).1 = k0_pay1 (F := Ideal) (iblk m c 0 t) (View.ld (iblk m c 1 t) (Rect.unit ![0, 0] ![512, 1280] inb_S512x5120_S512x1280_0_0)) (part m c 0 inb_S4x1024x1280_S1x1024x1280_0_0_0) (View.ld (iblk m c 1 t) (Rect.unit ![0, 1280] ![512, 1280] inb_S512x5120_S512x1280_0_1280)) (part m c 1 inb_S4x1024x1280_S1x1024x1280_1_0_0) (View.ld (iblk m c 1 t) (Rect.unit ![0, 2560] ![512, 1280] inb_S512x5120_S512x1280_0_2560)) (part m c 2 inb_S4x1024x1280_S1x1024x1280_2_0_0) (View.ld (iblk m c 1 t) (Rect.unit ![0, 3840] ![512, 1280] inb_S512x5120_S512x1280_0_3840)) (part m c 3 inb_S4x1024x1280_S1x1024x1280_3_0_0) := by
  have hT : t.val < 8 := lt_of_lt_of_eq t.isLt N_0
  by_cases h0 : t.val % 8 = 0
  · rw [outsAt0_A m c t h0]
    dsimp only [oA, rA]
    frame_out
    repeat rw [read_slabs]
    rfl
  · rw [outsAt0_B m c t h0]
    dsimp only [oB, rB]
    frame_out
    simp only [read_unread_whole, kept m c (t.val - 1) (by omega)]
    rfl

/-- A sum over all columns is the sum over the four parts. -/
theorem quarters (f : Fin 5120 → EReal) : ∑ l, f l = ∑ k : Fin 1280, f ⟨k.val, by omega⟩ + ∑ k : Fin 1280, f ⟨1280 + k.val, by omega⟩
    + ∑ k : Fin 1280, f ⟨2560 + k.val, by omega⟩ + ∑ k : Fin 1280, f ⟨3840 + k.val, by omega⟩ := by
  rw [Fin.sum_univ_add (a := 3840) (b := 1280) f, Fin.sum_univ_add (a := 2560) (b := 1280), Fin.sum_univ_add (a := 1280) (b := 1280)]
  rfl

theorem reorder (a p q r s : EReal) : a + p + q + r + s = p + q + r + s + a := by
  abel

/-- Entry `x` of a point's block is entry `j` of the reference. -/
theorem core (x : S512x1024.Idx) (j : S4096x1024.Idx) (hj0 : (j 0 : ℕ) = t.val * 512 + x 0) (hj1 : (j 1 : ℕ) = x 1) :
    k0_pay1 (F := Ideal) (iblk m c 0 t) (View.ld (iblk m c 1 t) (Rect.unit ![0, 0] ![512, 1280] inb_S512x5120_S512x1280_0_0)) (part m c 0 inb_S4x1024x1280_S1x1024x1280_0_0_0) (View.ld (iblk m c 1 t) (Rect.unit ![0, 1280] ![512, 1280] inb_S512x5120_S512x1280_0_1280)) (part m c 1 inb_S4x1024x1280_S1x1024x1280_1_0_0) (View.ld (iblk m c 1 t) (Rect.unit ![0, 2560] ![512, 1280] inb_S512x5120_S512x1280_0_2560)) (part m c 2 inb_S4x1024x1280_S1x1024x1280_2_0_0) (View.ld (iblk m c 1 t) (Rect.unit ![0, 3840] ![512, 1280] inb_S512x5120_S512x1280_0_3840)) (part m c 3 inb_S4x1024x1280_S1x1024x1280_3_0_0) x = val_main_v11 (F := Ideal) (m ((c : Thread nD τ).loc main_arg0)) (m ((c : Thread nD τ).loc main_arg1)) (m ((c : Thread nD τ).loc main_arg2)) j := by
  unfold k0_pay1
  pointwise [val_main_v11, val_main_v8, val_main_v10, val_main_v9, val_main_v7, val_main_v2, val_main_v1, val_main_v0, val_main_cst_1, part]
  rw [quarters, reorder]
  blk_point [iblk, V, idx t, packed]

/-- The result: the gradient of the block's input. -/
theorem final2 : (dats m 0 c).arrAt 2 cfg0.N = val_main_v11 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2, out]
  exact core m c t y _ (by blk_simp [idx t]) (by blk_simp [idx t])

end Cert.InGradIdeal.Tiles

end
-- ==== Proof.InGradClaim.lean ====
/- InGrad: the claim itself, kernel beside reference. -/
module

public import proofs.«01_k».proof.Defs
public import proofs.«01_k».proof.Proof.InGrad
public import proofs.«01_k».proof.Proof.Gen.InGradRefIdeal.Read
public import Idealize.ShloMosaic.Lib.Claim

@[expose] public section

noncomputable section

namespace Cert.InGradRefIdeal.Stages

open Cert.InGradRefIdeal Cert.InGradRefIdeal.Gen Cert.InGradRefIdeal.Read Idealize.ShloMosaic Idealize.ShloMosaic.TcCoe Idealize.SL.Sem

/-- The reference's run, each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v11) = val_main_v11 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1).trans (val_main_v11_eq _ _ _),
    (h c).2.1,
    (h c).2.2.1,
    (h c).2.2.2⟩) (Cert.InGradRefIdeal.Value.run m ρ)

end Cert.InGradRefIdeal.Stages

namespace Cert.InGradIdeal.Tiles

open Cert.InGradIdeal Cert.InGradIdeal.Gen Idealize.ShloMosaic Idealize.ShloMosaic.TcCoe Idealize.SL.Sem

/-- The kernel's run: what its results hold at the end, and its arguments kept. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 2,
    (h.2 c).1,
    (h.2 c).2.1,
    (h.2 c).2.2⟩) (θ_run_and (run_main m ρ) (unchanged m ρ))

end Cert.InGradIdeal.Tiles

set_option maxRecDepth 32768 in
set_option maxHeartbeats 1600000 in
/-- Kernel and reference end with the same results. -/
theorem Cert.InGradIdeal.Tiles.algebraic : Cert.algebraic_InGradIdeal_InGradRefIdeal := by
  pair_intro
  · run_from Cert.InGradIdeal.Tiles.run_blocks m g
  · run_from Cert.InGradRefIdeal.Stages.run m' g'
    exacts [(Cert.InGradIdeal.Tiles.final2 m c).symm]

end
-- ==== Proof.MlpTile.lean ====
/- The dense layer with its backward pass: what one block of 256 rows computes, against those rows of the reference. -/
module

public import proofs.«01_k».proof.Defs
public import proofs.«01_k».proof.Proof.Gen.MlpIdeal.Frame.Runs
public import proofs.«01_k».proof.Proof.Gen.MlpRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MlpIdeal.Tiles

open Cert.MlpIdeal Cert.MlpIdeal.Gen Cert.MlpRefIdeal.Read

variable (x0 : (⟨S4096x1024, .f32⟩ : BufTy).Contents (Elt Ideal)) (x1 : (⟨S4096x512, .f32⟩ : BufTy).Contents (Elt Ideal)) (x2 : (⟨S4096x512, .bf16⟩ : BufTy).Contents (Elt Ideal)) (x3 : (⟨S4096x2048, .f32⟩ : BufTy).Contents (Elt Ideal)) (x4 : (⟨S2048, .f32⟩ : BufTy).Contents (Elt Ideal)) (x5 x6 : (⟨S8x512x128, .bf16⟩ : BufTy).Contents (Elt Ideal)) (x7 : (⟨S1024x1024, .bf16⟩ : BufTy).Contents (Elt Ideal)) (x8 : (⟨S4096x1024, .f32⟩ : BufTy).Contents (Elt Ideal)) (x9 : (⟨S8x1024x512, .bf16⟩ : BufTy).Contents (Elt Ideal)) (x10 : (⟨S4096x1024, .bf16⟩ : BufTy).Contents (Elt Ideal)) (x11 x12 x13 x14 : (⟨S1024, .f32⟩ : BufTy).Contents (Elt Ideal))

/-- Row `r` of block `t`. -/
def row (t : Fin cfg0.N) (r : Fin 256) : Fin 4096 := ⟨t.val * 256 + r.val, by have h := lt_of_lt_of_eq t.isLt N_0; have := r.isLt; omega⟩

theorem row_val (t : Fin cfg0.N) (r : Fin 256) : (row t r : ℕ) = t.val * 256 + r.val := rfl

/-- The rows of block `t`. -/
abbrev tl512 (t : Fin cfg0.N) (X : S4096x512.Idx → EReal) : S256x512.Idx → EReal := fun x => X (ix2 (row t (x 0)) (x 1))
@[inherit_doc tl512] abbrev tl1024 (t : Fin cfg0.N) (X : S4096x1024.Idx → EReal) : S256x1024.Idx → EReal := fun x => X (ix2 (row t (x 0)) (x 1))
@[inherit_doc tl512] abbrev tl2048 (t : Fin cfg0.N) (X : S4096x2048.Idx → EReal) : S256x2048.Idx → EReal := fun x => X (ix2 (row t (x 0)) (x 1))
@[inherit_doc tl512] abbrev tl4096 (t : Fin cfg0.N) (X : S4096x4096.Idx → EReal) : S256x4096.Idx → EReal := fun x => X (ix2 (row t (x 0)) (x 1))
@[inherit_doc tl512] abbrev tl1 (t : Fin cfg0.N) (X : Cert.MlpRefIdeal.S4096x1.Idx → EReal) : S256x1.Idx → EReal := fun x => X (ix2 (row t (x 0)) (x 1))

/-- A bias as the one row it is passed as. -/
abbrev rw2048 (b : S2048.Idx → EReal) : S1x2048.Idx → EReal := fun i => b (ix1 (i 1))
@[inherit_doc rw2048] abbrev rw1024 (b : S1024.Idx → EReal) : S1x1024.Idx → EReal := fun i => b (ix1 (i 1))

variable (t : Fin cfg0.N)

/-- The centred residual sum of the attention half. -/
theorem cen1 : k0_pay8 (F := Ideal) (tl512 t x1) (tl512 t x2) (tl2048 t x3) (rw2048 x4) (val_main_v9 (F := Ideal) x5) (val_main_v14 (F := Ideal) x6) (tl1024 t x0) x7 = tl1024 t (val_main_v37 (F := Ideal) x0 x1 x2 x3 x4 x5 x6 x7) := by
  funext x
  unfold k0_pay8
  pointwise [val_main_v37, val_main_v31, val_main_v28, val_main_v27, val_main_cst_1, val_main_v30, val_main_v26, val_main_v23, val_main_v22, val_main_v21, val_main_v20, val_main_cst_0, val_main_v19, val_main_v18, val_main_cst, val_main_v17, val_main_v16, val_main_v6, val_main_v5, val_main_v4, val_main_v10, val_main_v25, val_main_v24, val_main_v15, val_main_v11, val_main_v29, val_main_v36, val_main_v35, val_main_v33, val_main_v32, val_main_cst_2, val_main_v34, val_main_cst_3]
  all_goals rfl

/-- Its reciprocal deviation. -/
theorem rstd1 : k0_pay9 (F := Ideal) (tl1024 t (val_main_v37 (F := Ideal) x0 x1 x2 x3 x4 x5 x6 x7)) = tl1 t (val_main_v49 (F := Ideal) x0 x1 x2 x3 x4 x5 x6 x7) := by
  funext x
  unfold k0_pay9
  pointwise [val_main_v49, val_main_v48, val_main_v44, val_main_v42, val_main_v41, val_main_v38, val_main_cst_5, val_main_v43, val_main_cst_6, val_main_v47, val_main_cst_7]
  all_goals rfl

/-- The normalised sum. -/
theorem xhat1 : k0_pay10 (F := Ideal) (tl1024 t (val_main_v37 (F := Ideal) x0 x1 x2 x3 x4 x5 x6 x7)) = tl1024 t (val_main_v54 (F := Ideal) x0 x1 x2 x3 x4 x5 x6 x7) := by
  funext x
  unfold k0_pay10
  rw [rstd1]
  pointwise [val_main_v54, val_main_v53, val_main_v46, val_main_v45, val_main_v37, val_main_v36]
  all_goals rfl

/-- The attention half's output. -/
theorem out1 : k0_pay11 (F := Ideal) (tl1024 t (val_main_v37 (F := Ideal) x0 x1 x2 x3 x4 x5 x6 x7)) (rw1024 x11) (rw1024 x12) = tl1024 t (val_main_v60 (F := Ideal) x0 x1 x2 x3 x4 x5 x6 x7 x11 x12) := by
  funext x
  unfold k0_pay11
  rw [xhat1]
  pointwise [val_main_v60, val_main_v59, val_main_v58, val_main_v57, val_main_v56, val_main_v55]
  all_goals rfl

/-- The same in the narrow format. -/
theorem out1b : k0_pay12 (F := Ideal) (tl1024 t (val_main_v37 (F := Ideal) x0 x1 x2 x3 x4 x5 x6 x7)) (rw1024 x11) (rw1024 x12) = tl1024 t (val_main_v192 (F := Ideal) x0 x1 x2 x3 x4 x5 x6 x7 x11 x12) := by
  funext x
  unfold k0_pay12
  rw [out1]
  pointwise [val_main_v192]
  all_goals rfl

/-- The centred residual sum of the dense half. -/
theorem cen2 : k0_pay37 (F := Ideal) (tl1024 t (val_main_v60 (F := Ideal) x0 x1 x2 x3 x4 x5 x6 x7 x11 x12)) (tl4096 t (val_main_v66 (F := Ideal) x0 x1 x2 x3 x4 x5 x6 x7 x9 x11 x12)) x10 = tl1024 t (val_main_v78 (F := Ideal) x0 x1 x2 x3 x4 x5 x6 x7 x9 x10 x11 x12) := by
  funext x
  unfold k0_pay37
  pointwise [val_main_v78, val_main_v77, val_main_v76, val_main_v75, val_main_v74, val_main_v73, val_main_v72, val_main_v71, val_main_v70, val_main_v69, val_main_v3, val_main_cst_12, val_main_cst_13, val_main_cst_14]
  all_goals rfl

/-- Its reciprocal deviation. -/
theorem rstd2 : k0_pay38 (F := Ideal) (tl1024 t (val_main_v60 (F := Ideal) x0 x1 x2 x3 x4 x5 x6 x7 x11 x12)) (tl4096 t (val_main_v66 (F := Ideal) x0 x1 x2 x3 x4 x5 x6 x7 x9 x11 x12)) x10 = tl1 t (val_main_v90 (F := Ideal) x0 x1 x2 x3 x4 x5 x6 x7 x9 x10 x11 x12) := by
  funext x
  unfold k0_pay38
  rw [cen2]
  pointwise [val_main_v90, val_main_v89, val_main_v85, val_main_v83, val_main_v82, val_main_v79, val_main_cst_16, val_main_v84, val_main_cst_17, val_main_v88, val_main_cst_18]
  all_goals rfl

/-- The normalised sum. -/
theorem xhat2 : k0_pay39 (F := Ideal) (tl1024 t (val_main_v60 (F := Ideal) x0 x1 x2 x3 x4 x5 x6 x7 x11 x12)) (tl4096 t (val_main_v66 (F := Ideal) x0 x1 x2 x3 x4 x5 x6 x7 x9 x11 x12)) x10 = tl1024 t (val_main_v95 (F := Ideal) x0 x1 x2 x3 x4 x5 x6 x7 x9 x10 x11 x12) := by
  funext x
  unfold k0_pay39
  rw [rstd2, cen2]
  pointwise [val_main_v95, val_main_v94, val_main_v87, val_main_v86, val_main_v78, val_main_v77]
  all_goals rfl

/-- The output minus the target. -/
theorem diff : k0_pay40 (F := Ideal) (tl1024 t (val_main_v60 (F := Ideal) x0 x1 x2 x3 x4 x5 x6 x7 x11 x12)) (tl4096 t (val_main_v66 (F := Ideal) x0 x1 x2 x3 x4 x5 x6 x7 x9 x11 x12)) x10 (rw1024 x13) (rw1024 x14) (tl1024 t x8) = tl1024 t (val_main_v102 (F := Ideal) x0 x1 x2 x3 x4 x5 x6 x7 x8 x9 x10 x11 x12 x13 x14) := by
  funext x
  unfold k0_pay40
  rw [xhat2]
  pointwise [val_main_v102, val_main_v101, val_main_v98, val_main_v97, val_main_v96, val_main_v100, val_main_v99]
  all_goals rfl

end Cert.MlpIdeal.Tiles
end
-- ==== Proof.MlpReal.lean ====
/- Arithmetic on values that are real numbers, and the backward pass of a layer normalisation over them. -/
module

public import Idealize.ShloMosaic.Lib.Pipeline.ValueKit
public import Idealize.ShloMosaic.Lib.Pointwise
public import Idealize.ShloMosaic.Lib.Claim

@[expose] public section

noncomputable section

namespace Cert.Reals

open Idealize.ShloMosaic

/-- A value that is a real number. -/
def Rl (x : EReal) : Prop := ∃ r : ℝ, x = (r : EReal)

theorem Rl.coe (r : ℝ) : Rl (r : EReal) := ⟨r, rfl⟩
theorem Rl.add {x y : EReal} : Rl x → Rl y → Rl (x + y) := by
  rintro ⟨a, rfl⟩ ⟨b, rfl⟩; exact ⟨a + b, by push_cast; rfl⟩
theorem Rl.sub {x y : EReal} : Rl x → Rl y → Rl (x - y) := by
  rintro ⟨a, rfl⟩ ⟨b, rfl⟩; exact ⟨a - b, by push_cast; rfl⟩
theorem Rl.mul {x y : EReal} : Rl x → Rl y → Rl (x * y) := by
  rintro ⟨a, rfl⟩ ⟨b, rfl⟩; exact ⟨a * b, by push_cast; rfl⟩
theorem Rl.neg {x : EReal} : Rl x → Rl (-x) := by
  rintro ⟨a, rfl⟩; exact ⟨-a, by push_cast; rfl⟩
theorem Rl.max {x y : EReal} : Rl x → Rl y → Rl (max x y) := by
  intro hx hy; rcases max_choice x y with h | h <;> rw [h] <;> assumption
theorem Rl.zero : Rl 0 := ⟨0, by simp⟩

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih]; push_cast; rfl

theorem Rl.sum {ι : Type*} {s : Finset ι} {f : ι → EReal} (h : ∀ i, Rl (f i)) : Rl (∑ i ∈ s, f i) := by
  choose g hg using h
  exact ⟨∑ i ∈ s, g i, by rw [← coe_sum]; exact Finset.sum_congr rfl fun i _ => hg i⟩

theorem div_real (x : ℝ) {y : ℝ} (h : y ≠ 0) : Ideal.div (x : EReal) (y : EReal) = ((x / y : ℝ) : EReal) := by
  rw [Ideal.div_coe h]; rw [← EReal.coe_mul]; congr 1; ring

theorem Rl.div {x y : EReal} : Rl x → Rl y → y ≠ 0 → Rl (Ideal.div x y) := by
  rintro ⟨a, rfl⟩ ⟨b, rfl⟩ h
  exact ⟨a / b, div_real a (by intro hb; apply h; simp [hb])⟩

theorem rsqrt_real {v : ℝ} (h : 0 < v) : Ideal.rsqrt (v : EReal) = (((Real.sqrt v)⁻¹ : ℝ) : EReal) := by
  rw [Ideal.rsqrt_coe, if_neg (not_lt.mpr h.le), if_neg h.ne']

theorem Rl.rsqrt {x : EReal} (h : Rl x) (hp : 0 < x) : Rl (Ideal.rsqrt x) := by
  obtain ⟨v, rfl⟩ := h
  exact ⟨_, rsqrt_real (by exact_mod_cast hp)⟩

theorem Rl.exp {x : EReal} : Rl x → Rl (Ideal.exp x) := by
  rintro ⟨a, rfl⟩; exact ⟨Real.exp a, Ideal.exp_coe a⟩

theorem one_add_exp_ne {x : EReal} (h : Rl x) : (1 : EReal) + Ideal.exp x ≠ 0 := by
  obtain ⟨a, rfl⟩ := h
  rw [Ideal.exp_coe, ← EReal.coe_one, ← EReal.coe_add]
  have := Real.exp_pos a
  intro h0; have : (1 + Real.exp a : ℝ) = 0 := by exact_mod_cast h0
  linarith

/-- A squared sum's average plus a positive number is positive. -/
theorem var_pos {c : Fin 1024 → EReal} (h : ∀ k, Rl (c k)) {n e : EReal} (hn : n = ((1024 : ℝ) : EReal)) {e' : ℝ} (he : e = (e' : EReal)) (hp : 0 < e') :
    0 < Ideal.div (∑ k, c k * c k) n + e := by
  choose g hg using h
  subst hn; subst he
  simp only [hg, ← EReal.coe_mul, coe_sum]
  rw [div_real _ (by norm_num), ← EReal.coe_add]
  have : 0 ≤ ∑ k, g k * g k := Finset.sum_nonneg fun k _ => mul_self_nonneg _
  have : 0 < (∑ k, g k * g k) / 1024 + e' := by positivity
  exact_mod_cast this

/-- The real identity under the backward pass of a layer normalisation. -/
theorem ln_real (u d : Fin 1024 → ℝ) (e : ℝ) (he : 0 < e) (cen : Fin 1024 → ℝ)
    (hc : ∀ k, cen k = u k - (∑ l, u l) / 1024) (v r s T : ℝ) (hv : v = (∑ l, cen l * cen l) / 1024 + e)
    (hr : r = (Real.sqrt v)⁻¹) (hs : s = (-(1/2)) * (r / v)) (hT : T = ∑ l, cen l * d l) (k : Fin 1024) :
    r * ((d k - (∑ l, d l) / 1024) - (cen k * r) * ((∑ l, d l * (cen l * r)) / 1024))
      = (d k * r + (T * s) / 1024 * (2 * cen k)) + ((∑ l, -(d l * r)) + (∑ l, -((T * s) / 1024 * (2 * cen l)))) / 1024 := by
  have hvp : 0 < v := by
    have : 0 ≤ ∑ k, cen k * cen k := Finset.sum_nonneg fun k _ => mul_self_nonneg _
    rw [hv]; positivity
  have hrr : r * r = 1 / v := by
    rw [hr, ← mul_inv, Real.mul_self_sqrt hvp.le, one_div]
  have hsum0 : ∑ l, cen l = 0 := by
    simp only [hc, Finset.sum_sub_distrib, Finset.sum_const, Finset.card_univ, Fintype.card_fin, nsmul_eq_mul]
    push_cast; ring
  have h1 : ∑ l, d l * (cen l * r) = T * r := by
    rw [hT, Finset.sum_mul]; exact Finset.sum_congr rfl fun l _ => by ring
  have h2 : ∑ l, -(d l * r) = -((∑ l, d l) * r) := by
    rw [Finset.sum_neg_distrib, Finset.sum_mul]
  have h3 : ∑ l, -((T * s) / 1024 * (2 * cen l)) = 0 := by
    have : ∀ l, -((T * s) / 1024 * (2 * cen l)) = (-((T * s) / 1024 * 2)) * cen l := fun l => by ring
    simp only [this, ← Finset.mul_sum, hsum0, mul_zero]
  rw [h1, h2, h3, hs]
  have h4 : r / v = r * (r * r) := by rw [hrr]; ring
  rw [h4]; ring

/-- The backward pass of a layer normalisation over reals: the centred form against the chain rule's own. -/
theorem ln_bwd (u d : Fin 1024 → EReal) (hu : ∀ k, Rl (u k)) (hd : ∀ k, Rl (d k)) {n e two half : EReal}
    (hn : n = ((1024 : ℝ) : EReal)) {e' : ℝ} (he : e = (e' : EReal)) (hp : 0 < e') (h2 : two = ((2 : ℝ) : EReal)) (hh : half = ((-(1/2) : ℝ) : EReal))
    (cen : Fin 1024 → EReal) (hc : ∀ k, cen k = u k - Ideal.div (∑ l, u l) n) (v r s T : EReal)
    (hv : v = Ideal.div (∑ l, cen l * cen l) n + e) (hr : r = Ideal.rsqrt v) (hs : s = half * Ideal.div r v)
    (hT : T = ∑ l, cen l * d l) (k : Fin 1024) :
    r * ((d k - Ideal.div (∑ l, d l) n) - (cen k * r) * Ideal.div (∑ l, d l * (cen l * r)) n)
      = (d k * r + Ideal.div (T * s) n * (two * cen k))
        + Ideal.div ((∑ l, -(d l * r)) + (∑ l, -(Ideal.div (T * s) n * (two * cen l)))) n := by
  choose u' hu' using hu
  choose d' hd' using hd
  have h10 : (1024 : ℝ) ≠ 0 := by norm_num
  subst hn he h2 hh
  obtain rfl : u = fun k => (u' k : EReal) := funext hu'
  obtain rfl : d = fun k => (d' k : EReal) := funext hd'
  have hc' : cen = fun k => ((u' k - (∑ l, u' l) / 1024 : ℝ) : EReal) := funext fun k => by
    rw [hc k, coe_sum, div_real _ h10, ← EReal.coe_sub]
  generalize hcr : (fun k => u' k - (∑ l, u' l) / 1024) = c' at *
  have hcr' : ∀ k, c' k = u' k - (∑ l, u' l) / 1024 := fun k => by rw [← hcr]
  obtain rfl : cen = fun k => (c' k : EReal) := by rw [hc', ← hcr]
  have hv' : v = (((∑ l, c' l * c' l) / 1024 + e' : ℝ) : EReal) := by
    rw [hv]; simp only [← EReal.coe_mul, coe_sum]; rw [div_real _ h10, ← EReal.coe_add]
  have hvp : 0 < (∑ l, c' l * c' l) / 1024 + e' := by
    have : 0 ≤ ∑ k, c' k * c' k := Finset.sum_nonneg fun k _ => mul_self_nonneg _
    positivity
  generalize hvr : (∑ l, c' l * c' l) / 1024 + e' = v' at *
  subst hv'
  rw [rsqrt_real hvp] at hr
  generalize hrr : (Real.sqrt v')⁻¹ = r' at *
  subst hr
  rw [div_real _ hvp.ne', ← EReal.coe_mul] at hs
  generalize hsr : (-(1/2) : ℝ) * (r' / v') = s' at *
  subst hs
  simp only [← EReal.coe_mul, coe_sum] at hT
  generalize hTr : (∑ l, c' l * d' l) = T' at *
  subst hT
  simp only [← EReal.coe_mul, ← EReal.coe_neg, coe_sum, div_real _ h10, ← EReal.coe_add, ← EReal.coe_sub]
  rw [ln_real u' d' e' hp c' hcr' v' r' s' T' hvr.symm hrr.symm hsr.symm hTr.symm k]

end Cert.Reals
end
-- ==== Proof.MlpGrad.lean ====
/- The dense layer with its backward pass: the gradients one block of 256 rows computes, against those rows of the reference. -/
module

public import proofs.«01_k».proof.Defs
public import proofs.«01_k».proof.Proof.MlpTile
public import proofs.«01_k».proof.Proof.MlpReal
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MlpIdeal.Tiles

open Cert.MlpIdeal Cert.MlpIdeal.Gen Cert.MlpRefIdeal.Read Cert.Reals

variable (x0 : (⟨S4096x1024, .f32⟩ : BufTy).Contents (Elt Ideal)) (x1 : (⟨S4096x512, .f32⟩ : BufTy).Contents (Elt Ideal)) (x2 : (⟨S4096x512, .bf16⟩ : BufTy).Contents (Elt Ideal)) (x3 : (⟨S4096x2048, .f32⟩ : BufTy).Contents (Elt Ideal)) (x4 : (⟨S2048, .f32⟩ : BufTy).Contents (Elt Ideal)) (x5 x6 : (⟨S8x512x128, .bf16⟩ : BufTy).Contents (Elt Ideal)) (x7 : (⟨S1024x1024, .bf16⟩ : BufTy).Contents (Elt Ideal)) (x8 : (⟨S4096x1024, .f32⟩ : BufTy).Contents (Elt Ideal)) (x9 : (⟨S8x1024x512, .bf16⟩ : BufTy).Contents (Elt Ideal)) (x10 : (⟨S4096x1024, .bf16⟩ : BufTy).Contents (Elt Ideal)) (x11 x12 x13 x14 : (⟨S1024, .f32⟩ : BufTy).Contents (Elt Ideal))
variable (t : Fin cfg0.N)

theorem c1024 : Ideal.ofBits .f32 0x44800000#32 = ((1024 : ℝ) : EReal) := by
  simp [Ideal.ofBits, Ideal.ieee, -EReal.coe_mul]; norm_num

theorem cinv : Ideal.ofBits .f32 0x3A800000#32 = ((1 / 1024 : ℝ) : EReal) := by
  simp [Ideal.ofBits, Ideal.ieee, -EReal.coe_mul]; norm_num

theorem chalf : Ideal.ofBits .f32 0x3F000000#32 = ((1 / 2 : ℝ) : EReal) := by
  simp [Ideal.ofBits, Ideal.ieee, -EReal.coe_mul]; norm_num

theorem cnhalf : Ideal.ofBits .f32 0xBF000000#32 = ((-(1 / 2) : ℝ) : EReal) := by
  simp [Ideal.ofBits, Ideal.ieee, -EReal.coe_mul, -EReal.coe_neg]; norm_num

theorem ctwo : Ideal.ofBits .f32 0x40000000#32 = ((2 : ℝ) : EReal) := by
  simp [Ideal.ofBits, Ideal.ieee, -EReal.coe_mul]; norm_num

/-- The small constant under the root is a positive real number. -/
theorem ceps : ∃ e : ℝ, 0 < e ∧ Ideal.ofBits .f32 0x3727C5AC#32 = (e : EReal) := by
  refine ⟨_, ?_, by simp [Ideal.ofBits, Ideal.ieee, -EReal.coe_mul]; rfl⟩
  positivity

/-- The residual's factor is a real number. -/
theorem calpha : Rl (Ideal.ofBits .f32 0x3F9837F0#32) :=
  ⟨_, by simp [Ideal.ofBits, Ideal.ieee, -EReal.coe_mul]; rfl⟩

/-- The mean's derivative against the factor the kernel multiplies by. -/
theorem mean_factor (d : EReal) : d * Ideal.ofBits .f32 0x3A800000#32
    = Ideal.div (Ideal.ofBits .f32 0x3F000000#32) (Ideal.ofBits .f32 0x44800000#32) * (Ideal.ofBits .f32 0x40000000#32 * d) := by
  rw [c1024, cinv, chalf, ctwo, Ideal.div_coe (by norm_num), ← mul_assoc, ← EReal.coe_mul, ← EReal.coe_mul, mul_comm]
  congr 2
  norm_num

/-- The rectifier's derivative times a sum, as a choice between them. -/
theorem relu_grad (h s : EReal) : Ideal.ofBits .f32 0x40000000#32 * max h 0 * s = if 0 < h then s * (Ideal.ofBits .f32 0x40000000#32 * max h 0) else 0 := by
  split_ifs with hh
  · exact mul_comm _ _
  · rw [max_eq_right (not_lt.mp hh), mul_zero, zero_mul]

/-- The loss gradient at the output. -/
theorem dout : k0_pay42 (F := Ideal) (tl1024 t (val_main_v102 (F := Ideal) x0 x1 x2 x3 x4 x5 x6 x7 x8 x9 x10 x11 x12 x13 x14)) = tl1024 t (val_main_v116 (F := Ideal) x0 x1 x2 x3 x4 x5 x6 x7 x8 x9 x10 x11 x12 x13 x14) := by
  funext x
  unfold k0_pay42
  pointwise [val_main_v116, val_main_v115, val_main_v114, val_main_v112, val_main_v111, val_main_cst_25, val_main_cst_26, val_main_v113, val_main_cst_27, val_main_v105, val_main_v104, val_main_cst_20]
  exact mean_factor _

/-- The same before the scale. -/
theorem dnorm2 : k0_pay45 (F := Ideal) (tl1024 t (val_main_v102 (F := Ideal) x0 x1 x2 x3 x4 x5 x6 x7 x8 x9 x10 x11 x12 x13 x14)) (rw1024 x13) = tl1024 t (val_main_v124 (F := Ideal) x0 x1 x2 x3 x4 x5 x6 x7 x8 x9 x10 x11 x12 x13 x14) := by
  funext x
  unfold k0_pay45
  rw [dout]
  pointwise [val_main_v124, val_main_v123, val_main_v96]
  all_goals rfl

/-- The gradient through the second normalisation. -/
theorem du2 (hu : ∀ i, Rl ((val_main_v72 (F := Ideal) x0 x1 x2 x3 x4 x5 x6 x7 x9 x10 x11 x12) i)) (hd : ∀ i, Rl ((val_main_v124 (F := Ideal) x0 x1 x2 x3 x4 x5 x6 x7 x8 x9 x10 x11 x12 x13 x14) i)) :
    k0_pay47 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32) = tl1024 t (val_main_v149 (F := Ideal) x0 x1 x2 x3 x4 x5 x6 x7 x8 x9 x10 x11 x12 x13 x14) := by
  funext x
  unfold k0_pay47 k0_pay46
  rw [dnorm2]
  pointwise [val_main_v149, val_main_v143, val_main_v130, val_main_v129, val_main_v139, val_main_v138, val_main_v137, val_main_v136, val_main_v131, val_main_v128, val_main_v127, val_main_v126, val_main_cst_32, val_main_v93, val_main_v92, val_main_cst_19, val_main_v135, val_main_cst_34, val_main_cst_35, val_main_v81, val_main_v80, val_main_cst_15, val_main_v148, val_main_v147, val_main_v146, val_main_v144, val_main_v134, val_main_v133, val_main_v132, val_main_cst_33, val_main_v142, val_main_v141, val_main_v140, val_main_cst_36, val_main_v145, val_main_cst_37, val_main_cst_38, val_main_v95, val_main_v94]
  simp only [Fin.sum_univ_one]
  obtain ⟨e, he, hq⟩ := ceps
  have hm : ∀ k : Fin 1024, (val_main_v87 (F := Ideal) x0 x1 x2 x3 x4 x5 x6 x7 x9 x10 x11 x12) (ix2 (row t (x 0)) k) = (val_main_v72 (F := Ideal) x0 x1 x2 x3 x4 x5 x6 x7 x9 x10 x11 x12) (ix2 (row t (x 0)) k) - Ideal.div (∑ l : Fin 1024, (val_main_v72 (F := Ideal) x0 x1 x2 x3 x4 x5 x6 x7 x9 x10 x11 x12) (ix2 (row t (x 0)) l)) (Ideal.ofBits .f32 0x44800000#32) := by
    intro k
    pointwise [val_main_v87, val_main_v86, val_main_v76, val_main_v74, val_main_v73, val_main_cst_13, val_main_v75, val_main_cst_14]
  have hv : (val_main_v89 (F := Ideal) x0 x1 x2 x3 x4 x5 x6 x7 x9 x10 x11 x12) (ix2 (row t (x 0)) 0) = Ideal.div (∑ l : Fin 1024, (val_main_v87 (F := Ideal) x0 x1 x2 x3 x4 x5 x6 x7 x9 x10 x11 x12) (ix2 (row t (x 0)) l) * (val_main_v87 (F := Ideal) x0 x1 x2 x3 x4 x5 x6 x7 x9 x10 x11 x12) (ix2 (row t (x 0)) l)) (Ideal.ofBits .f32 0x44800000#32) + Ideal.ofBits .f32 0x3727C5AC#32 := by
    pointwise [val_main_v89, val_main_v85, val_main_v83, val_main_v82, val_main_v79, val_main_cst_16, val_main_v84, val_main_cst_17, val_main_v88, val_main_cst_18]
    rfl
  exact ln_bwd (fun k => (val_main_v72 (F := Ideal) x0 x1 x2 x3 x4 x5 x6 x7 x9 x10 x11 x12) (ix2 (row t (x 0)) k)) (fun k => (val_main_v124 (F := Ideal) x0 x1 x2 x3 x4 x5 x6 x7 x8 x9 x10 x11 x12 x13 x14) (ix2 (row t (x 0)) k)) (fun k => hu _) (fun k => hd _) c1024 hq he ctwo cnhalf
    (fun k => (val_main_v87 (F := Ideal) x0 x1 x2 x3 x4 x5 x6 x7 x9 x10 x11 x12) (ix2 (row t (x 0)) k)) hm ((val_main_v89 (F := Ideal) x0 x1 x2 x3 x4 x5 x6 x7 x9 x10 x11 x12) (ix2 (row t (x 0)) 0)) ((val_main_v90 (F := Ideal) x0 x1 x2 x3 x4 x5 x6 x7 x9 x10 x11 x12) (ix2 (row t (x 0)) 0)) _ _ hv rfl rfl rfl (x 1)

/-- The same in the narrow format. -/
theorem du2b (hu : ∀ i, Rl ((val_main_v72 (F := Ideal) x0 x1 x2 x3 x4 x5 x6 x7 x9 x10 x11 x12) i)) (hd : ∀ i, Rl ((val_main_v124 (F := Ideal) x0 x1 x2 x3 x4 x5 x6 x7 x8 x9 x10 x11 x12 x13 x14) i)) : k0_pay48 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32) = tl1024 t (val_main_v194 (F := Ideal) x0 x1 x2 x3 x4 x5 x6 x7 x8 x9 x10 x11 x12 x13 x14) := by
  funext x
  unfold k0_pay48
  rw [du2 _ _ _ _ _ _ _ _ _ _ _ _ _ _ _ _ hu hd]
  pointwise [val_main_v194]
  all_goals rfl

/-- The gradient at the dense half's input. -/
theorem dx1 : k0_pay58 (F := Ideal) (tl1024 t (val_main_v149 (F := Ideal) x0 x1 x2 x3 x4 x5 x6 x7 x8 x9 x10 x11 x12 x13 x14)) (tl4096 t (val_main_v155 (F := Ideal) x0 x1 x2 x3 x4 x5 x6 x7 x8 x9 x10 x11 x12 x13 x14)) (val_main_v2 (F := Ideal) x9) = tl1024 t (val_main_v157 (F := Ideal) x0 x1 x2 x3 x4 x5 x6 x7 x8 x9 x10 x11 x12 x13 x14) := by
  funext x
  unfold k0_pay58
  pointwise [val_main_v157, val_main_v156, val_main_v152, val_main_v151, val_main_cst_39]
  all_goals rfl

/-- The gradient through the first normalisation. -/
theorem du1 (hu : ∀ i, Rl ((val_main_v31 (F := Ideal) x0 x1 x2 x3 x4 x5 x6 x7) i)) (hd : ∀ i, Rl ((val_main_v165 (F := Ideal) x0 x1 x2 x3 x4 x5 x6 x7 x8 x9 x10 x11 x12 x13 x14) i)) :
    k0_pay2 (F := Ideal) (tl1 t (val_main_v49 (F := Ideal) x0 x1 x2 x3 x4 x5 x6 x7)) (tl1024 t (val_main_v54 (F := Ideal) x0 x1 x2 x3 x4 x5 x6 x7)) (tl1024 t (val_main_v157 (F := Ideal) x0 x1 x2 x3 x4 x5 x6 x7 x8 x9 x10 x11 x12 x13 x14)) (rw1024 x11) = tl1024 t (val_main_v190 (F := Ideal) x0 x1 x2 x3 x4 x5 x6 x7 x8 x9 x10 x11 x12 x13 x14) := by
  funext x
  unfold k0_pay2
  pointwise [val_main_v190, val_main_v184, val_main_v171, val_main_v165, val_main_v164, val_main_v55, val_main_v170, val_main_v180, val_main_v179, val_main_v178, val_main_v177, val_main_v172, val_main_v169, val_main_v168, val_main_v167, val_main_cst_45, val_main_v52, val_main_v51, val_main_cst_8, val_main_v176, val_main_cst_47, val_main_cst_48, val_main_v40, val_main_v39, val_main_cst_4, val_main_v189, val_main_v188, val_main_v187, val_main_v185, val_main_v175, val_main_v174, val_main_v173, val_main_cst_46, val_main_v183, val_main_v182, val_main_v181, val_main_cst_49, val_main_v186, val_main_cst_50, val_main_cst_51, val_main_v54, val_main_v53]
  simp only [Fin.sum_univ_one]
  obtain ⟨e, he, hq⟩ := ceps
  have hm : ∀ k : Fin 1024, (val_main_v46 (F := Ideal) x0 x1 x2 x3 x4 x5 x6 x7) (ix2 (row t (x 0)) k) = (val_main_v31 (F := Ideal) x0 x1 x2 x3 x4 x5 x6 x7) (ix2 (row t (x 0)) k) - Ideal.div (∑ l : Fin 1024, (val_main_v31 (F := Ideal) x0 x1 x2 x3 x4 x5 x6 x7) (ix2 (row t (x 0)) l)) (Ideal.ofBits .f32 0x44800000#32) := by
    intro k
    pointwise [val_main_v46, val_main_v45, val_main_v35, val_main_v33, val_main_v32, val_main_cst_2, val_main_v34, val_main_cst_3]
  have hv : (val_main_v48 (F := Ideal) x0 x1 x2 x3 x4 x5 x6 x7) (ix2 (row t (x 0)) 0) = Ideal.div (∑ l : Fin 1024, (val_main_v46 (F := Ideal) x0 x1 x2 x3 x4 x5 x6 x7) (ix2 (row t (x 0)) l) * (val_main_v46 (F := Ideal) x0 x1 x2 x3 x4 x5 x6 x7) (ix2 (row t (x 0)) l)) (Ideal.ofBits .f32 0x44800000#32) + Ideal.ofBits .f32 0x3727C5AC#32 := by
    pointwise [val_main_v48, val_main_v44, val_main_v42, val_main_v41, val_main_v38, val_main_cst_5, val_main_v43, val_main_cst_6, val_main_v47, val_main_cst_7]
    rfl
  have hd1 : ∀ k : Fin 1024, Rl ((val_main_v157 (F := Ideal) x0 x1 x2 x3 x4 x5 x6 x7 x8 x9 x10 x11 x12 x13 x14) (ix2 (row t (x 0)) k) * x11 (ix1 k)) := by
    intro k
    have h : (val_main_v165 (F := Ideal) x0 x1 x2 x3 x4 x5 x6 x7 x8 x9 x10 x11 x12 x13 x14) (ix2 (row t (x 0)) k) = (val_main_v157 (F := Ideal) x0 x1 x2 x3 x4 x5 x6 x7 x8 x9 x10 x11 x12 x13 x14) (ix2 (row t (x 0)) k) * x11 (ix1 k) := by
      pointwise [val_main_v165, val_main_v164, val_main_v55]
    exact h ▸ hd _
  exact ln_bwd (fun k => (val_main_v31 (F := Ideal) x0 x1 x2 x3 x4 x5 x6 x7) (ix2 (row t (x 0)) k)) (fun k => (val_main_v157 (F := Ideal) x0 x1 x2 x3 x4 x5 x6 x7 x8 x9 x10 x11 x12 x13 x14) (ix2 (row t (x 0)) k) * x11 (ix1 k)) (fun k => hu _) hd1 c1024 hq he ctwo cnhalf
    (fun k => (val_main_v46 (F := Ideal) x0 x1 x2 x3 x4 x5 x6 x7) (ix2 (row t (x 0)) k)) hm ((val_main_v48 (F := Ideal) x0 x1 x2 x3 x4 x5 x6 x7) (ix2 (row t (x 0)) 0)) ((val_main_v49 (F := Ideal) x0 x1 x2 x3 x4 x5 x6 x7) (ix2 (row t (x 0)) 0)) _ _ hv rfl rfl rfl (x 1)

/-- The loss of one block. -/
theorem addLoss (acc : S1x1.Idx → EReal) : k0_pay41 (F := Ideal) (tl1024 t (val_main_v102 (F := Ideal) x0 x1 x2 x3 x4 x5 x6 x7 x8 x9 x10 x11 x12 x13 x14)) acc = fun i => acc i + Ideal.ofBits .f32 0x3F000000#32 * ∑ r : Fin 256, (val_main_v108 (F := Ideal) x0 x1 x2 x3 x4 x5 x6 x7 x8 x9 x10 x11 x12 x13 x14) (ix1 (row t r)) := by
  funext i
  unfold k0_pay41
  pointwise [val_main_v108, val_main_v106, val_main_v103, val_main_cst_21, val_main_v107, val_main_cst_22]
  all_goals rfl

/-- The second scale's gradient, one block. -/
theorem addG2 (acc : S1x1024.Idx → EReal) : k0_pay43 (F := Ideal) (tl1024 t (val_main_v95 (F := Ideal) x0 x1 x2 x3 x4 x5 x6 x7 x9 x10 x11 x12)) (tl1024 t (val_main_v102 (F := Ideal) x0 x1 x2 x3 x4 x5 x6 x7 x8 x9 x10 x11 x12 x13 x14)) acc = fun i => acc i + ∑ r : Fin 256, (val_main_v120 (F := Ideal) x0 x1 x2 x3 x4 x5 x6 x7 x8 x9 x10 x11 x12 x13 x14) (ix2 (row t r) (i 1)) := by
  funext i
  unfold k0_pay43
  rw [dout]
  pointwise [val_main_v120]
  exact congrArg (fun s : EReal => acc i + s) (Finset.sum_congr rfl fun r _ => mul_comm _ _)

/-- The second shift's gradient, one block. -/
theorem addB2 (acc : S1x1024.Idx → EReal) : k0_pay44 (F := Ideal) (tl1024 t (val_main_v102 (F := Ideal) x0 x1 x2 x3 x4 x5 x6 x7 x8 x9 x10 x11 x12 x13 x14)) acc = fun i => acc i + ∑ r : Fin 256, (val_main_v116 (F := Ideal) x0 x1 x2 x3 x4 x5 x6 x7 x8 x9 x10 x11 x12 x13 x14) (ix2 (row t r) (i 1)) := by
  funext i
  unfold k0_pay44
  rw [dout]
  pointwise []
  all_goals rfl

/-- The first scale's gradient, one block. -/
theorem addG1 (acc : S1x1024.Idx → EReal) : k0_pay59 (F := Ideal) (tl1024 t (val_main_v54 (F := Ideal) x0 x1 x2 x3 x4 x5 x6 x7)) (tl1024 t (val_main_v149 (F := Ideal) x0 x1 x2 x3 x4 x5 x6 x7 x8 x9 x10 x11 x12 x13 x14)) (tl4096 t (val_main_v155 (F := Ideal) x0 x1 x2 x3 x4 x5 x6 x7 x8 x9 x10 x11 x12 x13 x14)) (val_main_v2 (F := Ideal) x9) acc = fun i => acc i + ∑ r : Fin 256, (val_main_v161 (F := Ideal) x0 x1 x2 x3 x4 x5 x6 x7 x8 x9 x10 x11 x12 x13 x14) (ix2 (row t r) (i 1)) := by
  funext i
  unfold k0_pay59
  rw [dx1 x0 x1 x2 x3 x4 x5 x6 x7 x8 x9 x10 x11 x12 x13 x14]
  pointwise [val_main_v161]
  exact congrArg (fun s : EReal => acc i + s) (Finset.sum_congr rfl fun r _ => mul_comm _ _)

/-- The first shift's gradient, one block. -/
theorem addB1 (acc : S1x1024.Idx → EReal) : k0_pay1 (F := Ideal) (tl1024 t (val_main_v157 (F := Ideal) x0 x1 x2 x3 x4 x5 x6 x7 x8 x9 x10 x11 x12 x13 x14)) acc = fun i => acc i + ∑ r : Fin 256, (val_main_v157 (F := Ideal) x0 x1 x2 x3 x4 x5 x6 x7 x8 x9 x10 x11 x12 x13 x14) (ix2 (row t r) (i 1)) := by
  funext i
  unfold k0_pay1
  pointwise []
  all_goals rfl

end Cert.MlpIdeal.Tiles
end
-- ==== Proof.MlpWide.lean ====
/- The dense layer with its backward pass: the wide hidden rows, stored in eight pieces. -/
module

public import proofs.«01_k».proof.Defs
public import proofs.«01_k».proof.Proof.MlpGrad
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MlpIdeal.Tiles

open Cert.MlpIdeal Cert.MlpIdeal.Gen Cert.MlpRefIdeal.Read Cert.Reals

variable (x0 : (⟨S4096x1024, .f32⟩ : BufTy).Contents (Elt Ideal)) (x1 : (⟨S4096x512, .f32⟩ : BufTy).Contents (Elt Ideal)) (x2 : (⟨S4096x512, .bf16⟩ : BufTy).Contents (Elt Ideal)) (x3 : (⟨S4096x2048, .f32⟩ : BufTy).Contents (Elt Ideal)) (x4 : (⟨S2048, .f32⟩ : BufTy).Contents (Elt Ideal)) (x5 x6 : (⟨S8x512x128, .bf16⟩ : BufTy).Contents (Elt Ideal)) (x7 : (⟨S1024x1024, .bf16⟩ : BufTy).Contents (Elt Ideal)) (x8 : (⟨S4096x1024, .f32⟩ : BufTy).Contents (Elt Ideal)) (x9 : (⟨S8x1024x512, .bf16⟩ : BufTy).Contents (Elt Ideal)) (x10 : (⟨S4096x1024, .bf16⟩ : BufTy).Contents (Elt Ideal)) (x11 x12 x13 x14 : (⟨S1024, .f32⟩ : BufTy).Contents (Elt Ideal))
variable (t : Fin cfg0.N)

theorem relu0 : k0_pay13 (F := Ideal) (tl1024 t (val_main_v37 (F := Ideal) x0 x1 x2 x3 x4 x5 x6 x7)) (rw1024 x11) (rw1024 x12) (View.ld (val_main_v2 (F := Ideal) x9) (Rect.unit ![0, 0] ![1024, 512] (by decide))) = fun y => (val_main_v62 (F := Ideal) x0 x1 x2 x3 x4 x5 x6 x7 x9 x11 x12) (ix2 (row t (y 0)) ⟨0 + (y 1).val, by have h : (y 1).val < 512 := (y 1).isLt; omega⟩) := by
  funext y
  unfold k0_pay13
  rw [out1b]
  pointwise [val_main_v62, val_main_v61, val_main_v192, val_main_call0_v0, val_main_call0_cst]
  all_goals rfl

theorem relu1 : k0_pay16 (F := Ideal) (tl1024 t (val_main_v37 (F := Ideal) x0 x1 x2 x3 x4 x5 x6 x7)) (rw1024 x11) (rw1024 x12) (View.ld (val_main_v2 (F := Ideal) x9) (Rect.unit ![0, 512] ![1024, 512] (by decide))) = fun y => (val_main_v62 (F := Ideal) x0 x1 x2 x3 x4 x5 x6 x7 x9 x11 x12) (ix2 (row t (y 0)) ⟨512 + (y 1).val, by have h : (y 1).val < 512 := (y 1).isLt; omega⟩) := by
  funext y
  unfold k0_pay16
  rw [out1b]
  pointwise [val_main_v62, val_main_v61, val_main_v192, val_main_call0_v0, val_main_call0_cst]
  all_goals rfl

theorem relu2 : k0_pay19 (F := Ideal) (tl1024 t (val_main_v192 (F := Ideal) x0 x1 x2 x3 x4 x5 x6 x7 x11 x12)) (View.ld (val_main_v2 (F := Ideal) x9) (Rect.unit ![0, 1024] ![1024, 512] (by decide))) = fun y => (val_main_v62 (F := Ideal) x0 x1 x2 x3 x4 x5 x6 x7 x9 x11 x12) (ix2 (row t (y 0)) ⟨1024 + (y 1).val, by have h : (y 1).val < 512 := (y 1).isLt; omega⟩) := by
  funext y
  unfold k0_pay19
  pointwise [val_main_v62, val_main_v61, val_main_v192, val_main_call0_v0, val_main_call0_cst]
  all_goals rfl

theorem relu3 : k0_pay22 (F := Ideal) (tl1024 t (val_main_v192 (F := Ideal) x0 x1 x2 x3 x4 x5 x6 x7 x11 x12)) (View.ld (val_main_v2 (F := Ideal) x9) (Rect.unit ![0, 1536] ![1024, 512] (by decide))) = fun y => (val_main_v62 (F := Ideal) x0 x1 x2 x3 x4 x5 x6 x7 x9 x11 x12) (ix2 (row t (y 0)) ⟨1536 + (y 1).val, by have h : (y 1).val < 512 := (y 1).isLt; omega⟩) := by
  funext y
  unfold k0_pay22
  pointwise [val_main_v62, val_main_v61, val_main_v192, val_main_call0_v0, val_main_call0_cst]
  all_goals rfl

theorem relu4 : k0_pay25 (F := Ideal) (tl1024 t (val_main_v192 (F := Ideal) x0 x1 x2 x3 x4 x5 x6 x7 x11 x12)) (View.ld (val_main_v2 (F := Ideal) x9) (Rect.unit ![0, 2048] ![1024, 512] (by decide))) = fun y => (val_main_v62 (F := Ideal) x0 x1 x2 x3 x4 x5 x6 x7 x9 x11 x12) (ix2 (row t (y 0)) ⟨2048 + (y 1).val, by have h : (y 1).val < 512 := (y 1).isLt; omega⟩) := by
  funext y
  unfold k0_pay25
  pointwise [val_main_v62, val_main_v61, val_main_v192, val_main_call0_v0, val_main_call0_cst]
  all_goals rfl

theorem relu5 : k0_pay28 (F := Ideal) (tl1024 t (val_main_v192 (F := Ideal) x0 x1 x2 x3 x4 x5 x6 x7 x11 x12)) (View.ld (val_main_v2 (F := Ideal) x9) (Rect.unit ![0, 2560] ![1024, 512] (by decide))) = fun y => (val_main_v62 (F := Ideal) x0 x1 x2 x3 x4 x5 x6 x7 x9 x11 x12) (ix2 (row t (y 0)) ⟨2560 + (y 1).val, by have h : (y 1).val < 512 := (y 1).isLt; omega⟩) := by
  funext y
  unfold k0_pay28
  pointwise [val_main_v62, val_main_v61, val_main_v192, val_main_call0_v0, val_main_call0_cst]
  all_goals rfl

theorem relu6 : k0_pay31 (F := Ideal) (tl1024 t (val_main_v192 (F := Ideal) x0 x1 x2 x3 x4 x5 x6 x7 x11 x12)) (View.ld (val_main_v2 (F := Ideal) x9) (Rect.unit ![0, 3072] ![1024, 512] (by decide))) = fun y => (val_main_v62 (F := Ideal) x0 x1 x2 x3 x4 x5 x6 x7 x9 x11 x12) (ix2 (row t (y 0)) ⟨3072 + (y 1).val, by have h : (y 1).val < 512 := (y 1).isLt; omega⟩) := by
  funext y
  unfold k0_pay31
  pointwise [val_main_v62, val_main_v61, val_main_v192, val_main_call0_v0, val_main_call0_cst]
  all_goals rfl

theorem relu7 : k0_pay34 (F := Ideal) (tl1024 t (val_main_v192 (F := Ideal) x0 x1 x2 x3 x4 x5 x6 x7 x11 x12)) (View.ld (val_main_v2 (F := Ideal) x9) (Rect.unit ![0, 3584] ![1024, 512] (by decide))) = fun y => (val_main_v62 (F := Ideal) x0 x1 x2 x3 x4 x5 x6 x7 x9 x11 x12) (ix2 (row t (y 0)) ⟨3584 + (y 1).val, by have h : (y 1).val < 512 := (y 1).isLt; omega⟩) := by
  funext y
  unfold k0_pay34
  pointwise [val_main_v62, val_main_v61, val_main_v192, val_main_call0_v0, val_main_call0_cst]
  all_goals rfl

/-- The squared hidden rows. -/
theorem squares : View.canon [(⟨Rect.unit ![0, 3584] ![256, 512] (by decide), k0_pay36 (F := Ideal) (k0_pay34 (F := Ideal) (tl1024 t (val_main_v192 (F := Ideal) x0 x1 x2 x3 x4 x5 x6 x7 x11 x12)) (View.ld (val_main_v2 (F := Ideal) x9) (Rect.unit ![0, 3584] ![1024, 512] (by decide))))⟩ : View.Piece (Elt Ideal) S256x4096 .bf16),
    (⟨Rect.unit ![0, 3072] ![256, 512] (by decide), k0_pay33 (F := Ideal) (tl1024 t (val_main_v192 (F := Ideal) x0 x1 x2 x3 x4 x5 x6 x7 x11 x12)) (View.ld (val_main_v2 (F := Ideal) x9) (Rect.unit ![0, 3072] ![1024, 512] (by decide)))⟩ : View.Piece (Elt Ideal) S256x4096 .bf16),
    (⟨Rect.unit ![0, 2560] ![256, 512] (by decide), k0_pay30 (F := Ideal) (tl1024 t (val_main_v192 (F := Ideal) x0 x1 x2 x3 x4 x5 x6 x7 x11 x12)) (View.ld (val_main_v2 (F := Ideal) x9) (Rect.unit ![0, 2560] ![1024, 512] (by decide)))⟩ : View.Piece (Elt Ideal) S256x4096 .bf16),
    (⟨Rect.unit ![0, 2048] ![256, 512] (by decide), k0_pay27 (F := Ideal) (k0_pay25 (F := Ideal) (tl1024 t (val_main_v192 (F := Ideal) x0 x1 x2 x3 x4 x5 x6 x7 x11 x12)) (View.ld (val_main_v2 (F := Ideal) x9) (Rect.unit ![0, 2048] ![1024, 512] (by decide))))⟩ : View.Piece (Elt Ideal) S256x4096 .bf16),
    (⟨Rect.unit ![0, 1536] ![256, 512] (by decide), k0_pay24 (F := Ideal) (tl1024 t (val_main_v192 (F := Ideal) x0 x1 x2 x3 x4 x5 x6 x7 x11 x12)) (View.ld (val_main_v2 (F := Ideal) x9) (Rect.unit ![0, 1536] ![1024, 512] (by decide)))⟩ : View.Piece (Elt Ideal) S256x4096 .bf16),
    (⟨Rect.unit ![0, 1024] ![256, 512] (by decide), k0_pay21 (F := Ideal) (tl1024 t (val_main_v192 (F := Ideal) x0 x1 x2 x3 x4 x5 x6 x7 x11 x12)) (View.ld (val_main_v2 (F := Ideal) x9) (Rect.unit ![0, 1024] ![1024, 512] (by decide)))⟩ : View.Piece (Elt Ideal) S256x4096 .bf16),
    (⟨Rect.unit ![0, 512] ![256, 512] (by decide), k0_pay18 (F := Ideal) (k0_pay16 (F := Ideal) (tl1024 t (val_main_v37 (F := Ideal) x0 x1 x2 x3 x4 x5 x6 x7)) (rw1024 x11) (rw1024 x12) (View.ld (val_main_v2 (F := Ideal) x9) (Rect.unit ![0, 512] ![1024, 512] (by decide))))⟩ : View.Piece (Elt Ideal) S256x4096 .bf16),
    (⟨Rect.unit ![0, 0] ![256, 512] (by decide), k0_pay15 (F := Ideal) (tl1024 t (val_main_v37 (F := Ideal) x0 x1 x2 x3 x4 x5 x6 x7)) (rw1024 x11) (rw1024 x12) (View.ld (val_main_v2 (F := Ideal) x9) (Rect.unit ![0, 0] ![1024, 512] (by decide)))⟩ : View.Piece (Elt Ideal) S256x4096 .bf16)] = tl4096 t (val_main_v66 (F := Ideal) x0 x1 x2 x3 x4 x5 x6 x7 x9 x11 x12) := by
  funext i
  canon_tiles x h
  case piece0 =>
    unfold k0_pay36
    rw [relu7]
    have e : (val_main_v62 (F := Ideal) x0 x1 x2 x3 x4 x5 x6 x7 x9 x11 x12) (ix2 (row t (x 0)) ⟨3584 + (x 1).val, by omega⟩) = (val_main_v62 (F := Ideal) x0 x1 x2 x3 x4 x5 x6 x7 x9 x11 x12) (ix2 (row t (i 0)) (i 1)) := by blk_ext [row]
    pointwise [val_main_v66]
    exact congrArg₂ (fun a b : EReal => a * b) e e
  case piece1 =>
    unfold k0_pay33
    rw [relu6]
    have e : (val_main_v62 (F := Ideal) x0 x1 x2 x3 x4 x5 x6 x7 x9 x11 x12) (ix2 (row t (x 0)) ⟨3072 + (x 1).val, by omega⟩) = (val_main_v62 (F := Ideal) x0 x1 x2 x3 x4 x5 x6 x7 x9 x11 x12) (ix2 (row t (i 0)) (i 1)) := by blk_ext [row]
    pointwise [val_main_v66]
    exact congrArg₂ (fun a b : EReal => a * b) e e
  case piece2 =>
    unfold k0_pay30
    rw [relu5]
    have e : (val_main_v62 (F := Ideal) x0 x1 x2 x3 x4 x5 x6 x7 x9 x11 x12) (ix2 (row t (x 0)) ⟨2560 + (x 1).val, by omega⟩) = (val_main_v62 (F := Ideal) x0 x1 x2 x3 x4 x5 x6 x7 x9 x11 x12) (ix2 (row t (i 0)) (i 1)) := by blk_ext [row]
    pointwise [val_main_v66]
    exact congrArg₂ (fun a b : EReal => a * b) e e
  case piece3 =>
    unfold k0_pay27
    rw [relu4]
    have e : (val_main_v62 (F := Ideal) x0 x1 x2 x3 x4 x5 x6 x7 x9 x11 x12) (ix2 (row t (x 0)) ⟨2048 + (x 1).val, by omega⟩) = (val_main_v62 (F := Ideal) x0 x1 x2 x3 x4 x5 x6 x7 x9 x11 x12) (ix2 (row t (i 0)) (i 1)) := by blk_ext [row]
    pointwise [val_main_v66]
    exact congrArg₂ (fun a b : EReal => a * b) e e
  case piece4 =>
    unfold k0_pay24
    rw [relu3]
    have e : (val_main_v62 (F := Ideal) x0 x1 x2 x3 x4 x5 x6 x7 x9 x11 x12) (ix2 (row t (x 0)) ⟨1536 + (x 1).val, by omega⟩) = (val_main_v62 (F := Ideal) x0 x1 x2 x3 x4 x5 x6 x7 x9 x11 x12) (ix2 (row t (i 0)) (i 1)) := by blk_ext [row]
    pointwise [val_main_v66]
    exact congrArg₂ (fun a b : EReal => a * b) e e
  case piece5 =>
    unfold k0_pay21
    rw [relu2]
    have e : (val_main_v62 (F := Ideal) x0 x1 x2 x3 x4 x5 x6 x7 x9 x11 x12) (ix2 (row t (x 0)) ⟨1024 + (x 1).val, by omega⟩) = (val_main_v62 (F := Ideal) x0 x1 x2 x3 x4 x5 x6 x7 x9 x11 x12) (ix2 (row t (i 0)) (i 1)) := by blk_ext [row]
    pointwise [val_main_v66]
    exact congrArg₂ (fun a b : EReal => a * b) e e
  case piece6 =>
    unfold k0_pay18
    rw [relu1]
    have e : (val_main_v62 (F := Ideal) x0 x1 x2 x3 x4 x5 x6 x7 x9 x11 x12) (ix2 (row t (x 0)) ⟨512 + (x 1).val, by omega⟩) = (val_main_v62 (F := Ideal) x0 x1 x2 x3 x4 x5 x6 x7 x9 x11 x12) (ix2 (row t (i 0)) (i 1)) := by blk_ext [row]
    pointwise [val_main_v66]
    exact congrArg₂ (fun a b : EReal => a * b) e e
  case piece7 =>
    unfold k0_pay15
    rw [relu0]
    have e : (val_main_v62 (F := Ideal) x0 x1 x2 x3 x4 x5 x6 x7 x9 x11 x12) (ix2 (row t (x 0)) ⟨(x 1).val, by omega⟩) = (val_main_v62 (F := Ideal) x0 x1 x2 x3 x4 x5 x6 x7 x9 x11 x12) (ix2 (row t (i 0)) (i 1)) := by blk_ext [row]
    pointwise [val_main_v66]
    exact congrArg₂ (fun a b : EReal => a * b) e e

/-- They are read back whole. -/
theorem read_squares (w : View sig .tc .vmem S256x4096 .bf16) (inb) : w.readCov [(⟨Rect.unit ![0, 3584] ![256, 512] (by decide), k0_pay36 (F := Ideal) (k0_pay34 (F := Ideal) (tl1024 t (val_main_v192 (F := Ideal) x0 x1 x2 x3 x4 x5 x6 x7 x11 x12)) (View.ld (val_main_v2 (F := Ideal) x9) (Rect.unit ![0, 3584] ![1024, 512] (by decide))))⟩ : View.Piece (Elt Ideal) S256x4096 .bf16),
    (⟨Rect.unit ![0, 3072] ![256, 512] (by decide), k0_pay33 (F := Ideal) (tl1024 t (val_main_v192 (F := Ideal) x0 x1 x2 x3 x4 x5 x6 x7 x11 x12)) (View.ld (val_main_v2 (F := Ideal) x9) (Rect.unit ![0, 3072] ![1024, 512] (by decide)))⟩ : View.Piece (Elt Ideal) S256x4096 .bf16),
    (⟨Rect.unit ![0, 2560] ![256, 512] (by decide), k0_pay30 (F := Ideal) (tl1024 t (val_main_v192 (F := Ideal) x0 x1 x2 x3 x4 x5 x6 x7 x11 x12)) (View.ld (val_main_v2 (F := Ideal) x9) (Rect.unit ![0, 2560] ![1024, 512] (by decide)))⟩ : View.Piece (Elt Ideal) S256x4096 .bf16),
    (⟨Rect.unit ![0, 2048] ![256, 512] (by decide), k0_pay27 (F := Ideal) (k0_pay25 (F := Ideal) (tl1024 t (val_main_v192 (F := Ideal) x0 x1 x2 x3 x4 x5 x6 x7 x11 x12)) (View.ld (val_main_v2 (F := Ideal) x9) (Rect.unit ![0, 2048] ![1024, 512] (by decide))))⟩ : View.Piece (Elt Ideal) S256x4096 .bf16),
    (⟨Rect.unit ![0, 1536] ![256, 512] (by decide), k0_pay24 (F := Ideal) (tl1024 t (val_main_v192 (F := Ideal) x0 x1 x2 x3 x4 x5 x6 x7 x11 x12)) (View.ld (val_main_v2 (F := Ideal) x9) (Rect.unit ![0, 1536] ![1024, 512] (by decide)))⟩ : View.Piece (Elt Ideal) S256x4096 .bf16),
    (⟨Rect.unit ![0, 1024] ![256, 512] (by decide), k0_pay21 (F := Ideal) (tl1024 t (val_main_v192 (F := Ideal) x0 x1 x2 x3 x4 x5 x6 x7 x11 x12)) (View.ld (val_main_v2 (F := Ideal) x9) (Rect.unit ![0, 1024] ![1024, 512] (by decide)))⟩ : View.Piece (Elt Ideal) S256x4096 .bf16),
    (⟨Rect.unit ![0, 512] ![256, 512] (by decide), k0_pay18 (F := Ideal) (k0_pay16 (F := Ideal) (tl1024 t (val_main_v37 (F := Ideal) x0 x1 x2 x3 x4 x5 x6 x7)) (rw1024 x11) (rw1024 x12) (View.ld (val_main_v2 (F := Ideal) x9) (Rect.unit ![0, 512] ![1024, 512] (by decide))))⟩ : View.Piece (Elt Ideal) S256x4096 .bf16),
    (⟨Rect.unit ![0, 0] ![256, 512] (by decide), k0_pay15 (F := Ideal) (tl1024 t (val_main_v37 (F := Ideal) x0 x1 x2 x3 x4 x5 x6 x7)) (rw1024 x11) (rw1024 x12) (View.ld (val_main_v2 (F := Ideal) x9) (Rect.unit ![0, 0] ![1024, 512] (by decide)))⟩ : View.Piece (Elt Ideal) S256x4096 .bf16)] (Rect.unit ![0, 0] ![256, 4096] inb).toLoadRect = tl4096 t (val_main_v66 (F := Ideal) x0 x1 x2 x3 x4 x5 x6 x7 x9 x11 x12) := by
  rw [View.readCov_eq_canon', squares]
  funext j
  exact congrFun (View.ld_unit_lit' (Val := Elt Ideal) (e := .bf16) (S := S256x4096) inb (tl4096 t (val_main_v66 (F := Ideal) x0 x1 x2 x3 x4 x5 x6 x7 x9 x11 x12)) (by decide)) j

/-- The rectified hidden rows. -/
theorem rects : View.canon [(⟨Rect.unit ![0, 3584] ![256, 512] (by decide), k0_pay35 (F := Ideal) (k0_pay34 (F := Ideal) (tl1024 t (val_main_v192 (F := Ideal) x0 x1 x2 x3 x4 x5 x6 x7 x11 x12)) (View.ld (val_main_v2 (F := Ideal) x9) (Rect.unit ![0, 3584] ![1024, 512] (by decide))))⟩ : View.Piece (Elt Ideal) S256x4096 .f32),
    (⟨Rect.unit ![0, 3072] ![256, 512] (by decide), k0_pay32 (F := Ideal) (tl1024 t (val_main_v192 (F := Ideal) x0 x1 x2 x3 x4 x5 x6 x7 x11 x12)) (View.ld (val_main_v2 (F := Ideal) x9) (Rect.unit ![0, 3072] ![1024, 512] (by decide)))⟩ : View.Piece (Elt Ideal) S256x4096 .f32),
    (⟨Rect.unit ![0, 2560] ![256, 512] (by decide), k0_pay29 (F := Ideal) (tl1024 t (val_main_v192 (F := Ideal) x0 x1 x2 x3 x4 x5 x6 x7 x11 x12)) (View.ld (val_main_v2 (F := Ideal) x9) (Rect.unit ![0, 2560] ![1024, 512] (by decide)))⟩ : View.Piece (Elt Ideal) S256x4096 .f32),
    (⟨Rect.unit ![0, 2048] ![256, 512] (by decide), k0_pay26 (F := Ideal) (k0_pay25 (F := Ideal) (tl1024 t (val_main_v192 (F := Ideal) x0 x1 x2 x3 x4 x5 x6 x7 x11 x12)) (View.ld (val_main_v2 (F := Ideal) x9) (Rect.unit ![0, 2048] ![1024, 512] (by decide))))⟩ : View.Piece (Elt Ideal) S256x4096 .f32),
    (⟨Rect.unit ![0, 1536] ![256, 512] (by decide), k0_pay23 (F := Ideal) (tl1024 t (val_main_v192 (F := Ideal) x0 x1 x2 x3 x4 x5 x6 x7 x11 x12)) (View.ld (val_main_v2 (F := Ideal) x9) (Rect.unit ![0, 1536] ![1024, 512] (by decide)))⟩ : View.Piece (Elt Ideal) S256x4096 .f32),
    (⟨Rect.unit ![0, 1024] ![256, 512] (by decide), k0_pay20 (F := Ideal) (tl1024 t (val_main_v192 (F := Ideal) x0 x1 x2 x3 x4 x5 x6 x7 x11 x12)) (View.ld (val_main_v2 (F := Ideal) x9) (Rect.unit ![0, 1024] ![1024, 512] (by decide)))⟩ : View.Piece (Elt Ideal) S256x4096 .f32),
    (⟨Rect.unit ![0, 512] ![256, 512] (by decide), k0_pay17 (F := Ideal) (k0_pay16 (F := Ideal) (tl1024 t (val_main_v37 (F := Ideal) x0 x1 x2 x3 x4 x5 x6 x7)) (rw1024 x11) (rw1024 x12) (View.ld (val_main_v2 (F := Ideal) x9) (Rect.unit ![0, 512] ![1024, 512] (by decide))))⟩ : View.Piece (Elt Ideal) S256x4096 .f32),
    (⟨Rect.unit ![0, 0] ![256, 512] (by decide), k0_pay14 (F := Ideal) (tl1024 t (val_main_v37 (F := Ideal) x0 x1 x2 x3 x4 x5 x6 x7)) (rw1024 x11) (rw1024 x12) (View.ld (val_main_v2 (F := Ideal) x9) (Rect.unit ![0, 0] ![1024, 512] (by decide)))⟩ : View.Piece (Elt Ideal) S256x4096 .f32)] = tl4096 t (val_main_v62 (F := Ideal) x0 x1 x2 x3 x4 x5 x6 x7 x9 x11 x12) := by
  funext i
  canon_tiles x h
  case piece0 =>
    unfold k0_pay35
    rw [relu7]
    have e : (val_main_v62 (F := Ideal) x0 x1 x2 x3 x4 x5 x6 x7 x9 x11 x12) (ix2 (row t (x 0)) ⟨3584 + (x 1).val, by omega⟩) = (val_main_v62 (F := Ideal) x0 x1 x2 x3 x4 x5 x6 x7 x9 x11 x12) (ix2 (row t (i 0)) (i 1)) := by blk_ext [row]
    pointwise []
    exact e
  case piece1 =>
    unfold k0_pay32
    rw [relu6]
    have e : (val_main_v62 (F := Ideal) x0 x1 x2 x3 x4 x5 x6 x7 x9 x11 x12) (ix2 (row t (x 0)) ⟨3072 + (x 1).val, by omega⟩) = (val_main_v62 (F := Ideal) x0 x1 x2 x3 x4 x5 x6 x7 x9 x11 x12) (ix2 (row t (i 0)) (i 1)) := by blk_ext [row]
    pointwise []
    exact e
  case piece2 =>
    unfold k0_pay29
    rw [relu5]
    have e : (val_main_v62 (F := Ideal) x0 x1 x2 x3 x4 x5 x6 x7 x9 x11 x12) (ix2 (row t (x 0)) ⟨2560 + (x 1).val, by omega⟩) = (val_main_v62 (F := Ideal) x0 x1 x2 x3 x4 x5 x6 x7 x9 x11 x12) (ix2 (row t (i 0)) (i 1)) := by blk_ext [row]
    pointwise []
    exact e
  case piece3 =>
    unfold k0_pay26
    rw [relu4]
    have e : (val_main_v62 (F := Ideal) x0 x1 x2 x3 x4 x5 x6 x7 x9 x11 x12) (ix2 (row t (x 0)) ⟨2048 + (x 1).val, by omega⟩) = (val_main_v62 (F := Ideal) x0 x1 x2 x3 x4 x5 x6 x7 x9 x11 x12) (ix2 (row t (i 0)) (i 1)) := by blk_ext [row]
    pointwise []
    exact e
  case piece4 =>
    unfold k0_pay23
    rw [relu3]
    have e : (val_main_v62 (F := Ideal) x0 x1 x2 x3 x4 x5 x6 x7 x9 x11 x12) (ix2 (row t (x 0)) ⟨1536 + (x 1).val, by omega⟩) = (val_main_v62 (F := Ideal) x0 x1 x2 x3 x4 x5 x6 x7 x9 x11 x12) (ix2 (row t (i 0)) (i 1)) := by blk_ext [row]
    pointwise []
    exact e
  case piece5 =>
    unfold k0_pay20
    rw [relu2]
    have e : (val_main_v62 (F := Ideal) x0 x1 x2 x3 x4 x5 x6 x7 x9 x11 x12) (ix2 (row t (x 0)) ⟨1024 + (x 1).val, by omega⟩) = (val_main_v62 (F := Ideal) x0 x1 x2 x3 x4 x5 x6 x7 x9 x11 x12) (ix2 (row t (i 0)) (i 1)) := by blk_ext [row]
    pointwise []
    exact e
  case piece6 =>
    unfold k0_pay17
    rw [relu1]
    have e : (val_main_v62 (F := Ideal) x0 x1 x2 x3 x4 x5 x6 x7 x9 x11 x12) (ix2 (row t (x 0)) ⟨512 + (x 1).val, by omega⟩) = (val_main_v62 (F := Ideal) x0 x1 x2 x3 x4 x5 x6 x7 x9 x11 x12) (ix2 (row t (i 0)) (i 1)) := by blk_ext [row]
    pointwise []
    exact e
  case piece7 =>
    unfold k0_pay14
    rw [relu0]
    have e : (val_main_v62 (F := Ideal) x0 x1 x2 x3 x4 x5 x6 x7 x9 x11 x12) (ix2 (row t (x 0)) ⟨(x 1).val, by omega⟩) = (val_main_v62 (F := Ideal) x0 x1 x2 x3 x4 x5 x6 x7 x9 x11 x12) (ix2 (row t (i 0)) (i 1)) := by blk_ext [row]
    pointwise []
    exact e

/-- Some columns of them are read back. -/
theorem read_rects (w : View sig .tc .vmem S256x4096 .f32) (k : ℕ) (inb) : w.readCov [(⟨Rect.unit ![0, 3584] ![256, 512] (by decide), k0_pay35 (F := Ideal) (k0_pay34 (F := Ideal) (tl1024 t (val_main_v192 (F := Ideal) x0 x1 x2 x3 x4 x5 x6 x7 x11 x12)) (View.ld (val_main_v2 (F := Ideal) x9) (Rect.unit ![0, 3584] ![1024, 512] (by decide))))⟩ : View.Piece (Elt Ideal) S256x4096 .f32),
    (⟨Rect.unit ![0, 3072] ![256, 512] (by decide), k0_pay32 (F := Ideal) (tl1024 t (val_main_v192 (F := Ideal) x0 x1 x2 x3 x4 x5 x6 x7 x11 x12)) (View.ld (val_main_v2 (F := Ideal) x9) (Rect.unit ![0, 3072] ![1024, 512] (by decide)))⟩ : View.Piece (Elt Ideal) S256x4096 .f32),
    (⟨Rect.unit ![0, 2560] ![256, 512] (by decide), k0_pay29 (F := Ideal) (tl1024 t (val_main_v192 (F := Ideal) x0 x1 x2 x3 x4 x5 x6 x7 x11 x12)) (View.ld (val_main_v2 (F := Ideal) x9) (Rect.unit ![0, 2560] ![1024, 512] (by decide)))⟩ : View.Piece (Elt Ideal) S256x4096 .f32),
    (⟨Rect.unit ![0, 2048] ![256, 512] (by decide), k0_pay26 (F := Ideal) (k0_pay25 (F := Ideal) (tl1024 t (val_main_v192 (F := Ideal) x0 x1 x2 x3 x4 x5 x6 x7 x11 x12)) (View.ld (val_main_v2 (F := Ideal) x9) (Rect.unit ![0, 2048] ![1024, 512] (by decide))))⟩ : View.Piece (Elt Ideal) S256x4096 .f32),
    (⟨Rect.unit ![0, 1536] ![256, 512] (by decide), k0_pay23 (F := Ideal) (tl1024 t (val_main_v192 (F := Ideal) x0 x1 x2 x3 x4 x5 x6 x7 x11 x12)) (View.ld (val_main_v2 (F := Ideal) x9) (Rect.unit ![0, 1536] ![1024, 512] (by decide)))⟩ : View.Piece (Elt Ideal) S256x4096 .f32),
    (⟨Rect.unit ![0, 1024] ![256, 512] (by decide), k0_pay20 (F := Ideal) (tl1024 t (val_main_v192 (F := Ideal) x0 x1 x2 x3 x4 x5 x6 x7 x11 x12)) (View.ld (val_main_v2 (F := Ideal) x9) (Rect.unit ![0, 1024] ![1024, 512] (by decide)))⟩ : View.Piece (Elt Ideal) S256x4096 .f32),
    (⟨Rect.unit ![0, 512] ![256, 512] (by decide), k0_pay17 (F := Ideal) (k0_pay16 (F := Ideal) (tl1024 t (val_main_v37 (F := Ideal) x0 x1 x2 x3 x4 x5 x6 x7)) (rw1024 x11) (rw1024 x12) (View.ld (val_main_v2 (F := Ideal) x9) (Rect.unit ![0, 512] ![1024, 512] (by decide))))⟩ : View.Piece (Elt Ideal) S256x4096 .f32),
    (⟨Rect.unit ![0, 0] ![256, 512] (by decide), k0_pay14 (F := Ideal) (tl1024 t (val_main_v37 (F := Ideal) x0 x1 x2 x3 x4 x5 x6 x7)) (rw1024 x11) (rw1024 x12) (View.ld (val_main_v2 (F := Ideal) x9) (Rect.unit ![0, 0] ![1024, 512] (by decide)))⟩ : View.Piece (Elt Ideal) S256x4096 .f32)] (Rect.unit ![0, k] ![256, 512] inb).toLoadRect = View.ld (Val := Elt Ideal) (e' := .f32) (S := S256x4096) (tl4096 t (val_main_v62 (F := Ideal) x0 x1 x2 x3 x4 x5 x6 x7 x9 x11 x12)) (Rect.unit ![0, k] ![256, 512] inb) := by
  rw [View.readCov_eq_canon', rects]

/-- The gradient at the hidden rows. -/
theorem grads (hu : ∀ i, Rl ((val_main_v72 (F := Ideal) x0 x1 x2 x3 x4 x5 x6 x7 x9 x10 x11 x12) i)) (hd : ∀ i, Rl ((val_main_v124 (F := Ideal) x0 x1 x2 x3 x4 x5 x6 x7 x8 x9 x10 x11 x12 x13 x14) i)) : View.canon [(⟨Rect.unit ![0, 3584] ![256, 512] (by decide), k0_pay57 (F := Ideal) (k0_pay48 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32)) (View.ld x10 (Rect.unit ![3584, 0] ![512, 1024] (by decide))) (View.ld (Val := Elt Ideal) (e' := .f32) (S := S256x4096) (tl4096 t (val_main_v62 (F := Ideal) x0 x1 x2 x3 x4 x5 x6 x7 x9 x11 x12)) (Rect.unit ![0, 3584] ![256, 512] (by decide)))⟩ : View.Piece (Elt Ideal) S256x4096 .bf16),
    (⟨Rect.unit ![0, 3072] ![256, 512] (by decide), k0_pay56 (F := Ideal) (k0_pay48 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32)) (View.ld x10 (Rect.unit ![3072, 0] ![512, 1024] (by decide))) (View.ld (Val := Elt Ideal) (e' := .f32) (S := S256x4096) (tl4096 t (val_main_v62 (F := Ideal) x0 x1 x2 x3 x4 x5 x6 x7 x9 x11 x12)) (Rect.unit ![0, 3072] ![256, 512] (by decide)))⟩ : View.Piece (Elt Ideal) S256x4096 .bf16),
    (⟨Rect.unit ![0, 2560] ![256, 512] (by decide), k0_pay55 (F := Ideal) (k0_pay48 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32)) (View.ld x10 (Rect.unit ![2560, 0] ![512, 1024] (by decide))) (View.ld (Val := Elt Ideal) (e' := .f32) (S := S256x4096) (tl4096 t (val_main_v62 (F := Ideal) x0 x1 x2 x3 x4 x5 x6 x7 x9 x11 x12)) (Rect.unit ![0, 2560] ![256, 512] (by decide)))⟩ : View.Piece (Elt Ideal) S256x4096 .bf16),
    (⟨Rect.unit ![0, 2048] ![256, 512] (by decide), k0_pay54 (F := Ideal) (k0_pay48 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32)) (View.ld x10 (Rect.unit ![2048, 0] ![512, 1024] (by decide))) (View.ld (Val := Elt Ideal) (e' := .f32) (S := S256x4096) (tl4096 t (val_main_v62 (F := Ideal) x0 x1 x2 x3 x4 x5 x6 x7 x9 x11 x12)) (Rect.unit ![0, 2048] ![256, 512] (by decide)))⟩ : View.Piece (Elt Ideal) S256x4096 .bf16),
    (⟨Rect.unit ![0, 1536] ![256, 512] (by decide), k0_pay53 (F := Ideal) (k0_pay48 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32)) (View.ld x10 (Rect.unit ![1536, 0] ![512, 1024] (by decide))) (View.ld (Val := Elt Ideal) (e' := .f32) (S := S256x4096) (tl4096 t (val_main_v62 (F := Ideal) x0 x1 x2 x3 x4 x5 x6 x7 x9 x11 x12)) (Rect.unit ![0, 1536] ![256, 512] (by decide)))⟩ : View.Piece (Elt Ideal) S256x4096 .bf16),
    (⟨Rect.unit ![0, 1024] ![256, 512] (by decide), k0_pay52 (F := Ideal) (k0_pay51 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32) (View.ld x10 (Rect.unit ![1024, 0] ![512, 1024] (by decide)))) (View.ld (Val := Elt Ideal) (e' := .f32) (S := S256x4096) (tl4096 t (val_main_v62 (F := Ideal) x0 x1 x2 x3 x4 x5 x6 x7 x9 x11 x12)) (Rect.unit ![0, 1024] ![256, 512] (by decide)))⟩ : View.Piece (Elt Ideal) S256x4096 .bf16),
    (⟨Rect.unit ![0, 512] ![256, 512] (by decide), k0_pay50 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32) (View.ld x10 (Rect.unit ![512, 0] ![512, 1024] (by decide))) (View.ld (Val := Elt Ideal) (e' := .f32) (S := S256x4096) (tl4096 t (val_main_v62 (F := Ideal) x0 x1 x2 x3 x4 x5 x6 x7 x9 x11 x12)) (Rect.unit ![0, 512] ![256, 512] (by decide)))⟩ : View.Piece (Elt Ideal) S256x4096 .bf16),
    (⟨Rect.unit ![0, 0] ![256, 512] (by decide), k0_pay49 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32) (View.ld x10 (Rect.unit ![0, 0] ![512, 1024] (by decide))) (View.ld (Val := Elt Ideal) (e' := .f32) (S := S256x4096) (tl4096 t (val_main_v62 (F := Ideal) x0 x1 x2 x3 x4 x5 x6 x7 x9 x11 x12)) (Rect.unit ![0, 0] ![256, 512] (by decide)))⟩ : View.Piece (Elt Ideal) S256x4096 .bf16)] = tl4096 t (val_main_v155 (F := Ideal) x0 x1 x2 x3 x4 x5 x6 x7 x8 x9 x10 x11 x12 x13 x14) := by
  funext i
  canon_tiles x h
  case piece0 =>
    unfold k0_pay57
    rw [du2b x0 x1 x2 x3 x4 x5 x6 x7 x8 x9 x10 x11 x12 x13 x14 t hu hd]
    pointwise [val_main_v155, val_main_v154, val_main_cst_40, val_main_v153, val_main_v150, val_main_v68, val_main_v67, val_main_cst_11, val_main_v64, val_main_v63, val_main_cst_9, val_main_v62, val_main_call0_v0, val_main_call0_cst, val_main_v3, val_main_v194]
    have e1 : (val_main_v61 (F := Ideal) x0 x1 x2 x3 x4 x5 x6 x7 x9 x11 x12) (ix2 (row t (x 0)) ⟨3584 + (x 1).val, by omega⟩) = (val_main_v61 (F := Ideal) x0 x1 x2 x3 x4 x5 x6 x7 x9 x11 x12) (ix2 (row t (i 0)) (i 1)) := by blk_ext [row]
    have e2 : ∀ q, x10 (ix2 ⟨3584 + (x 1).val, by omega⟩ q) = x10 (ix2 (i 1) q) := fun q => by blk_ext []
    have e3 : ∀ q, (val_main_v149 (F := Ideal) x0 x1 x2 x3 x4 x5 x6 x7 x8 x9 x10 x11 x12 x13 x14) (ix2 (row t (x 0)) q) = (val_main_v149 (F := Ideal) x0 x1 x2 x3 x4 x5 x6 x7 x8 x9 x10 x11 x12 x13 x14) (ix2 (row t (i 0)) q) := fun q => by blk_ext [row]
    simp only [e1, e2, e3]
    exact relu_grad _ _
  case piece1 =>
    unfold k0_pay56
    rw [du2b x0 x1 x2 x3 x4 x5 x6 x7 x8 x9 x10 x11 x12 x13 x14 t hu hd]
    pointwise [val_main_v155, val_main_v154, val_main_cst_40, val_main_v153, val_main_v150, val_main_v68, val_main_v67, val_main_cst_11, val_main_v64, val_main_v63, val_main_cst_9, val_main_v62, val_main_call0_v0, val_main_call0_cst, val_main_v3, val_main_v194]
    have e1 : (val_main_v61 (F := Ideal) x0 x1 x2 x3 x4 x5 x6 x7 x9 x11 x12) (ix2 (row t (x 0)) ⟨3072 + (x 1).val, by omega⟩) = (val_main_v61 (F := Ideal) x0 x1 x2 x3 x4 x5 x6 x7 x9 x11 x12) (ix2 (row t (i 0)) (i 1)) := by blk_ext [row]
    have e2 : ∀ q, x10 (ix2 ⟨3072 + (x 1).val, by omega⟩ q) = x10 (ix2 (i 1) q) := fun q => by blk_ext []
    have e3 : ∀ q, (val_main_v149 (F := Ideal) x0 x1 x2 x3 x4 x5 x6 x7 x8 x9 x10 x11 x12 x13 x14) (ix2 (row t (x 0)) q) = (val_main_v149 (F := Ideal) x0 x1 x2 x3 x4 x5 x6 x7 x8 x9 x10 x11 x12 x13 x14) (ix2 (row t (i 0)) q) := fun q => by blk_ext [row]
    simp only [e1, e2, e3]
    exact relu_grad _ _
  case piece2 =>
    unfold k0_pay55
    rw [du2b x0 x1 x2 x3 x4 x5 x6 x7 x8 x9 x10 x11 x12 x13 x14 t hu hd]
    pointwise [val_main_v155, val_main_v154, val_main_cst_40, val_main_v153, val_main_v150, val_main_v68, val_main_v67, val_main_cst_11, val_main_v64, val_main_v63, val_main_cst_9, val_main_v62, val_main_call0_v0, val_main_call0_cst, val_main_v3, val_main_v194]
    have e1 : (val_main_v61 (F := Ideal) x0 x1 x2 x3 x4 x5 x6 x7 x9 x11 x12) (ix2 (row t (x 0)) ⟨2560 + (x 1).val, by omega⟩) = (val_main_v61 (F := Ideal) x0 x1 x2 x3 x4 x5 x6 x7 x9 x11 x12) (ix2 (row t (i 0)) (i 1)) := by blk_ext [row]
    have e2 : ∀ q, x10 (ix2 ⟨2560 + (x 1).val, by omega⟩ q) = x10 (ix2 (i 1) q) := fun q => by blk_ext []
    have e3 : ∀ q, (val_main_v149 (F := Ideal) x0 x1 x2 x3 x4 x5 x6 x7 x8 x9 x10 x11 x12 x13 x14) (ix2 (row t (x 0)) q) = (val_main_v149 (F := Ideal) x0 x1 x2 x3 x4 x5 x6 x7 x8 x9 x10 x11 x12 x13 x14) (ix2 (row t (i 0)) q) := fun q => by blk_ext [row]
    simp only [e1, e2, e3]
    exact relu_grad _ _
  case piece3 =>
    unfold k0_pay54
    rw [du2b x0 x1 x2 x3 x4 x5 x6 x7 x8 x9 x10 x11 x12 x13 x14 t hu hd]
    pointwise [val_main_v155, val_main_v154, val_main_cst_40, val_main_v153, val_main_v150, val_main_v68, val_main_v67, val_main_cst_11, val_main_v64, val_main_v63, val_main_cst_9, val_main_v62, val_main_call0_v0, val_main_call0_cst, val_main_v3, val_main_v194]
    have e1 : (val_main_v61 (F := Ideal) x0 x1 x2 x3 x4 x5 x6 x7 x9 x11 x12) (ix2 (row t (x 0)) ⟨2048 + (x 1).val, by omega⟩) = (val_main_v61 (F := Ideal) x0 x1 x2 x3 x4 x5 x6 x7 x9 x11 x12) (ix2 (row t (i 0)) (i 1)) := by blk_ext [row]
    have e2 : ∀ q, x10 (ix2 ⟨2048 + (x 1).val, by omega⟩ q) = x10 (ix2 (i 1) q) := fun q => by blk_ext []
    have e3 : ∀ q, (val_main_v149 (F := Ideal) x0 x1 x2 x3 x4 x5 x6 x7 x8 x9 x10 x11 x12 x13 x14) (ix2 (row t (x 0)) q) = (val_main_v149 (F := Ideal) x0 x1 x2 x3 x4 x5 x6 x7 x8 x9 x10 x11 x12 x13 x14) (ix2 (row t (i 0)) q) := fun q => by blk_ext [row]
    simp only [e1, e2, e3]
    exact relu_grad _ _
  case piece4 =>
    unfold k0_pay53
    rw [du2b x0 x1 x2 x3 x4 x5 x6 x7 x8 x9 x10 x11 x12 x13 x14 t hu hd]
    pointwise [val_main_v155, val_main_v154, val_main_cst_40, val_main_v153, val_main_v150, val_main_v68, val_main_v67, val_main_cst_11, val_main_v64, val_main_v63, val_main_cst_9, val_main_v62, val_main_call0_v0, val_main_call0_cst, val_main_v3, val_main_v194]
    have e1 : (val_main_v61 (F := Ideal) x0 x1 x2 x3 x4 x5 x6 x7 x9 x11 x12) (ix2 (row t (x 0)) ⟨1536 + (x 1).val, by omega⟩) = (val_main_v61 (F := Ideal) x0 x1 x2 x3 x4 x5 x6 x7 x9 x11 x12) (ix2 (row t (i 0)) (i 1)) := by blk_ext [row]
    have e2 : ∀ q, x10 (ix2 ⟨1536 + (x 1).val, by omega⟩ q) = x10 (ix2 (i 1) q) := fun q => by blk_ext []
    have e3 : ∀ q, (val_main_v149 (F := Ideal) x0 x1 x2 x3 x4 x5 x6 x7 x8 x9 x10 x11 x12 x13 x14) (ix2 (row t (x 0)) q) = (val_main_v149 (F := Ideal) x0 x1 x2 x3 x4 x5 x6 x7 x8 x9 x10 x11 x12 x13 x14) (ix2 (row t (i 0)) q) := fun q => by blk_ext [row]
    simp only [e1, e2, e3]
    exact relu_grad _ _
  case piece5 =>
    unfold k0_pay52 k0_pay51
    rw [du2b x0 x1 x2 x3 x4 x5 x6 x7 x8 x9 x10 x11 x12 x13 x14 t hu hd]
    pointwise [val_main_v155, val_main_v154, val_main_cst_40, val_main_v153, val_main_v150, val_main_v68, val_main_v67, val_main_cst_11, val_main_v64, val_main_v63, val_main_cst_9, val_main_v62, val_main_call0_v0, val_main_call0_cst, val_main_v3, val_main_v194]
    have e1 : (val_main_v61 (F := Ideal) x0 x1 x2 x3 x4 x5 x6 x7 x9 x11 x12) (ix2 (row t (x 0)) ⟨1024 + (x 1).val, by omega⟩) = (val_main_v61 (F := Ideal) x0 x1 x2 x3 x4 x5 x6 x7 x9 x11 x12) (ix2 (row t (i 0)) (i 1)) := by blk_ext [row]
    have e2 : ∀ q, x10 (ix2 ⟨1024 + (x 1).val, by omega⟩ q) = x10 (ix2 (i 1) q) := fun q => by blk_ext []
    have e3 : ∀ q, (val_main_v149 (F := Ideal) x0 x1 x2 x3 x4 x5 x6 x7 x8 x9 x10 x11 x12 x13 x14) (ix2 (row t (x 0)) q) = (val_main_v149 (F := Ideal) x0 x1 x2 x3 x4 x5 x6 x7 x8 x9 x10 x11 x12 x13 x14) (ix2 (row t (i 0)) q) := fun q => by blk_ext [row]
    simp only [e1, e2, e3]
    exact relu_grad _ _
  case piece6 =>
    unfold k0_pay50
    rw [du2b x0 x1 x2 x3 x4 x5 x6 x7 x8 x9 x10 x11 x12 x13 x14 t hu hd]
    pointwise [val_main_v155, val_main_v154, val_main_cst_40, val_main_v153, val_main_v150, val_main_v68, val_main_v67, val_main_cst_11, val_main_v64, val_main_v63, val_main_cst_9, val_main_v62, val_main_call0_v0, val_main_call0_cst, val_main_v3, val_main_v194]
    have e1 : (val_main_v61 (F := Ideal) x0 x1 x2 x3 x4 x5 x6 x7 x9 x11 x12) (ix2 (row t (x 0)) ⟨512 + (x 1).val, by omega⟩) = (val_main_v61 (F := Ideal) x0 x1 x2 x3 x4 x5 x6 x7 x9 x11 x12) (ix2 (row t (i 0)) (i 1)) := by blk_ext [row]
    have e2 : ∀ q, x10 (ix2 ⟨512 + (x 1).val, by omega⟩ q) = x10 (ix2 (i 1) q) := fun q => by blk_ext []
    have e3 : ∀ q, (val_main_v149 (F := Ideal) x0 x1 x2 x3 x4 x5 x6 x7 x8 x9 x10 x11 x12 x13 x14) (ix2 (row t (x 0)) q) = (val_main_v149 (F := Ideal) x0 x1 x2 x3 x4 x5 x6 x7 x8 x9 x10 x11 x12 x13 x14) (ix2 (row t (i 0)) q) := fun q => by blk_ext [row]
    simp only [e1, e2, e3]
    exact relu_grad _ _
  case piece7 =>
    unfold k0_pay49
    rw [du2b x0 x1 x2 x3 x4 x5 x6 x7 x8 x9 x10 x11 x12 x13 x14 t hu hd]
    pointwise [val_main_v155, val_main_v154, val_main_cst_40, val_main_v153, val_main_v150, val_main_v68, val_main_v67, val_main_cst_11, val_main_v64, val_main_v63, val_main_cst_9, val_main_v62, val_main_call0_v0, val_main_call0_cst, val_main_v3, val_main_v194]
    have e1 : (val_main_v61 (F := Ideal) x0 x1 x2 x3 x4 x5 x6 x7 x9 x11 x12) (ix2 (row t (x 0)) ⟨(x 1).val, by omega⟩) = (val_main_v61 (F := Ideal) x0 x1 x2 x3 x4 x5 x6 x7 x9 x11 x12) (ix2 (row t (i 0)) (i 1)) := by blk_ext [row]
    have e2 : ∀ q, x10 (ix2 ⟨(x 1).val, by omega⟩ q) = x10 (ix2 (i 1) q) := fun q => by blk_ext []
    have e3 : ∀ q, (val_main_v149 (F := Ideal) x0 x1 x2 x3 x4 x5 x6 x7 x8 x9 x10 x11 x12 x13 x14) (ix2 (row t (x 0)) q) = (val_main_v149 (F := Ideal) x0 x1 x2 x3 x4 x5 x6 x7 x8 x9 x10 x11 x12 x13 x14) (ix2 (row t (i 0)) q) := fun q => by blk_ext [row]
    simp only [e1, e2, e3]
    exact relu_grad _ _

/-- It is read back whole. -/
theorem read_grads (hu : ∀ i, Rl ((val_main_v72 (F := Ideal) x0 x1 x2 x3 x4 x5 x6 x7 x9 x10 x11 x12) i)) (hd : ∀ i, Rl ((val_main_v124 (F := Ideal) x0 x1 x2 x3 x4 x5 x6 x7 x8 x9 x10 x11 x12 x13 x14) i)) (w : View sig .tc .vmem S256x4096 .bf16) (inb) : w.readCov [(⟨Rect.unit ![0, 3584] ![256, 512] (by decide), k0_pay57 (F := Ideal) (k0_pay48 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32)) (View.ld x10 (Rect.unit ![3584, 0] ![512, 1024] (by decide))) (View.ld (Val := Elt Ideal) (e' := .f32) (S := S256x4096) (tl4096 t (val_main_v62 (F := Ideal) x0 x1 x2 x3 x4 x5 x6 x7 x9 x11 x12)) (Rect.unit ![0, 3584] ![256, 512] (by decide)))⟩ : View.Piece (Elt Ideal) S256x4096 .bf16),
    (⟨Rect.unit ![0, 3072] ![256, 512] (by decide), k0_pay56 (F := Ideal) (k0_pay48 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32)) (View.ld x10 (Rect.unit ![3072, 0] ![512, 1024] (by decide))) (View.ld (Val := Elt Ideal) (e' := .f32) (S := S256x4096) (tl4096 t (val_main_v62 (F := Ideal) x0 x1 x2 x3 x4 x5 x6 x7 x9 x11 x12)) (Rect.unit ![0, 3072] ![256, 512] (by decide)))⟩ : View.Piece (Elt Ideal) S256x4096 .bf16),
    (⟨Rect.unit ![0, 2560] ![256, 512] (by decide), k0_pay55 (F := Ideal) (k0_pay48 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32)) (View.ld x10 (Rect.unit ![2560, 0] ![512, 1024] (by decide))) (View.ld (Val := Elt Ideal) (e' := .f32) (S := S256x4096) (tl4096 t (val_main_v62 (F := Ideal) x0 x1 x2 x3 x4 x5 x6 x7 x9 x11 x12)) (Rect.unit ![0, 2560] ![256, 512] (by decide)))⟩ : View.Piece (Elt Ideal) S256x4096 .bf16),
    (⟨Rect.unit ![0, 2048] ![256, 512] (by decide), k0_pay54 (F := Ideal) (k0_pay48 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32)) (View.ld x10 (Rect.unit ![2048, 0] ![512, 1024] (by decide))) (View.ld (Val := Elt Ideal) (e' := .f32) (S := S256x4096) (tl4096 t (val_main_v62 (F := Ideal) x0 x1 x2 x3 x4 x5 x6 x7 x9 x11 x12)) (Rect.unit ![0, 2048] ![256, 512] (by decide)))⟩ : View.Piece (Elt Ideal) S256x4096 .bf16),
    (⟨Rect.unit ![0, 1536] ![256, 512] (by decide), k0_pay53 (F := Ideal) (k0_pay48 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32)) (View.ld x10 (Rect.unit ![1536, 0] ![512, 1024] (by decide))) (View.ld (Val := Elt Ideal) (e' := .f32) (S := S256x4096) (tl4096 t (val_main_v62 (F := Ideal) x0 x1 x2 x3 x4 x5 x6 x7 x9 x11 x12)) (Rect.unit ![0, 1536] ![256, 512] (by decide)))⟩ : View.Piece (Elt Ideal) S256x4096 .bf16),
    (⟨Rect.unit ![0, 1024] ![256, 512] (by decide), k0_pay52 (F := Ideal) (k0_pay51 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32) (View.ld x10 (Rect.unit ![1024, 0] ![512, 1024] (by decide)))) (View.ld (Val := Elt Ideal) (e' := .f32) (S := S256x4096) (tl4096 t (val_main_v62 (F := Ideal) x0 x1 x2 x3 x4 x5 x6 x7 x9 x11 x12)) (Rect.unit ![0, 1024] ![256, 512] (by decide)))⟩ : View.Piece (Elt Ideal) S256x4096 .bf16),
    (⟨Rect.unit ![0, 512] ![256, 512] (by decide), k0_pay50 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32) (View.ld x10 (Rect.unit ![512, 0] ![512, 1024] (by decide))) (View.ld (Val := Elt Ideal) (e' := .f32) (S := S256x4096) (tl4096 t (val_main_v62 (F := Ideal) x0 x1 x2 x3 x4 x5 x6 x7 x9 x11 x12)) (Rect.unit ![0, 512] ![256, 512] (by decide)))⟩ : View.Piece (Elt Ideal) S256x4096 .bf16),
    (⟨Rect.unit ![0, 0] ![256, 512] (by decide), k0_pay49 (F := Ideal) (tl1 t (val_main_v90 (F := Ideal) x0 x1 x2 x3 x4 x5 x6 x7 x9 x10 x11 x12)) (tl1024 t (val_main_v95 (F := Ideal) x0 x1 x2 x3 x4 x5 x6 x7 x9 x10 x11 x12)) (tl1024 t (val_main_v124 (F := Ideal) x0 x1 x2 x3 x4 x5 x6 x7 x8 x9 x10 x11 x12 x13 x14)) (k0_pay46 (F := Ideal) (tl1024 t (val_main_v102 (F := Ideal) x0 x1 x2 x3 x4 x5 x6 x7 x8 x9 x10 x11 x12 x13 x14)) (rw1024 x13)) (FloatOps.ofBits .f32 0x44800000#32) (View.ld x10 (Rect.unit ![0, 0] ![512, 1024] (by decide))) (View.ld (Val := Elt Ideal) (e' := .f32) (S := S256x4096) (tl4096 t (val_main_v62 (F := Ideal) x0 x1 x2 x3 x4 x5 x6 x7 x9 x11 x12)) (Rect.unit ![0, 0] ![256, 512] (by decide)))⟩ : View.Piece (Elt Ideal) S256x4096 .bf16)] (Rect.unit ![0, 0] ![256, 4096] inb).toLoadRect = tl4096 t (val_main_v155 (F := Ideal) x0 x1 x2 x3 x4 x5 x6 x7 x8 x9 x10 x11 x12 x13 x14) := by
  rw [View.readCov_eq_canon', grads x0 x1 x2 x3 x4 x5 x6 x7 x8 x9 x10 x11 x12 x13 x14 t hu hd]
  funext j
  exact congrFun (View.ld_unit_lit' (Val := Elt Ideal) (e := .bf16) (S := S256x4096) inb (tl4096 t (val_main_v155 (F := Ideal) x0 x1 x2 x3 x4 x5 x6 x7 x8 x9 x10 x11 x12 x13 x14)) (by decide)) j

end Cert.MlpIdeal.Tiles
end
-- ==== Proof.MlpHeld.lean ====
/- The whole model pass: what the resident weights are. -/
module

public import proofs.«01_k».proof.Proof.MlpWide

@[expose] public section

set_option maxRecDepth 16384

noncomputable section

open Idealize.ShloMosaic Idealize.ShloMosaic.TcCoe Idealize.SL.Sem
open Idealize.ShloMosaic.Pipeline (Dat)

namespace Cert.MlpIdeal.Tiles

open Cert.MlpIdeal Cert.MlpIdeal.Gen Cert.Reals Cert.MlpRefIdeal.Read

/-- One shard of the side weight as the copy carries it. -/
abbrev shard_side (X : Vec Ideal S8x512x128 .bf16) (off : Fin 3 → ℕ) (inb : ∀ a, off a + (![1, 512, 128] : Fin 3 → ℕ) a ≤ S8x512x128.size a) : Vec Ideal S512x128 .bf16 :=
  ReadAs.same.apply (View.read (Elt Ideal) (((View.whole main_arg5).slice (Rect.unit (s := S8x512x128) off ![1, 512, 128] inb)).reshape S512x128 squeezes_S1x512x128_S512x128.numel_eq) X)

/-- It is the slab with its unit axis dropped. -/
theorem shard_side_eq (X : Vec Ideal S8x512x128 .bf16) (off : Fin 3 → ℕ) (inb) :
    shard_side X off inb = shapeCast (s := S1x512x128) S512x128 (View.ld (Val := Elt Ideal) (e' := .bf16) X (Rect.unit (s := S8x512x128) off ![1, 512, 128] inb)) squeezes_S1x512x128_S512x128.numel_eq := rfl

/-- The side weight, assembled. -/
theorem slabs_side (X : Vec Ideal S8x512x128 .bf16) : View.canon [(⟨Rect.unit (s := S512x1024) ![0, 896] ![512, 128] inb_S512x1024_S512x128_0_896, shard_side X ![7, 0, 0] inb_S8x512x128_S1x512x128_7_0_0⟩ : View.Piece (Elt Ideal) S512x1024 .bf16),
    (⟨Rect.unit (s := S512x1024) ![0, 768] ![512, 128] inb_S512x1024_S512x128_0_768, shard_side X ![6, 0, 0] inb_S8x512x128_S1x512x128_6_0_0⟩ : View.Piece (Elt Ideal) S512x1024 .bf16),
    (⟨Rect.unit (s := S512x1024) ![0, 640] ![512, 128] inb_S512x1024_S512x128_0_640, shard_side X ![5, 0, 0] inb_S8x512x128_S1x512x128_5_0_0⟩ : View.Piece (Elt Ideal) S512x1024 .bf16),
    (⟨Rect.unit (s := S512x1024) ![0, 512] ![512, 128] inb_S512x1024_S512x128_0_512, shard_side X ![4, 0, 0] inb_S8x512x128_S1x512x128_4_0_0⟩ : View.Piece (Elt Ideal) S512x1024 .bf16),
    (⟨Rect.unit (s := S512x1024) ![0, 384] ![512, 128] inb_S512x1024_S512x128_0_384, shard_side X ![3, 0, 0] inb_S8x512x128_S1x512x128_3_0_0⟩ : View.Piece (Elt Ideal) S512x1024 .bf16),
    (⟨Rect.unit (s := S512x1024) ![0, 256] ![512, 128] inb_S512x1024_S512x128_0_256, shard_side X ![2, 0, 0] inb_S8x512x128_S1x512x128_2_0_0⟩ : View.Piece (Elt Ideal) S512x1024 .bf16),
    (⟨Rect.unit (s := S512x1024) ![0, 128] ![512, 128] inb_S512x1024_S512x128_0_128, shard_side X ![1, 0, 0] inb_S8x512x128_S1x512x128_1_0_0⟩ : View.Piece (Elt Ideal) S512x1024 .bf16),
    (⟨Rect.unit (s := S512x1024) ![0, 0] ![512, 128] inb_S512x1024_S512x128_0_0, shard_side X ![0, 0, 0] inb_S8x512x128_S1x512x128_0_0_0⟩ : View.Piece (Elt Ideal) S512x1024 .bf16)] = val_main_v9 (F := Ideal) X := by
  funext i
  canon_tiles x h
  all_goals
    rw [shard_side_eq]
    pointwise [val_main_v9, val_main_v8, val_main_v7]
    blk_ext

/-- A read of it. -/
theorem read_side (w : View sig .tc .vmem S512x1024 .bf16) (X : Vec Ideal S8x512x128 .bf16) (off n : Fin 2 → ℕ) (inb) : w.readCov [(⟨Rect.unit (s := S512x1024) ![0, 896] ![512, 128] inb_S512x1024_S512x128_0_896, shard_side X ![7, 0, 0] inb_S8x512x128_S1x512x128_7_0_0⟩ : View.Piece (Elt Ideal) S512x1024 .bf16),
    (⟨Rect.unit (s := S512x1024) ![0, 768] ![512, 128] inb_S512x1024_S512x128_0_768, shard_side X ![6, 0, 0] inb_S8x512x128_S1x512x128_6_0_0⟩ : View.Piece (Elt Ideal) S512x1024 .bf16),
    (⟨Rect.unit (s := S512x1024) ![0, 640] ![512, 128] inb_S512x1024_S512x128_0_640, shard_side X ![5, 0, 0] inb_S8x512x128_S1x512x128_5_0_0⟩ : View.Piece (Elt Ideal) S512x1024 .bf16),
    (⟨Rect.unit (s := S512x1024) ![0, 512] ![512, 128] inb_S512x1024_S512x128_0_512, shard_side X ![4, 0, 0] inb_S8x512x128_S1x512x128_4_0_0⟩ : View.Piece (Elt Ideal) S512x1024 .bf16),
    (⟨Rect.unit (s := S512x1024) ![0, 384] ![512, 128] inb_S512x1024_S512x128_0_384, shard_side X ![3, 0, 0] inb_S8x512x128_S1x512x128_3_0_0⟩ : View.Piece (Elt Ideal) S512x1024 .bf16),
    (⟨Rect.unit (s := S512x1024) ![0, 256] ![512, 128] inb_S512x1024_S512x128_0_256, shard_side X ![2, 0, 0] inb_S8x512x128_S1x512x128_2_0_0⟩ : View.Piece (Elt Ideal) S512x1024 .bf16),
    (⟨Rect.unit (s := S512x1024) ![0, 128] ![512, 128] inb_S512x1024_S512x128_0_128, shard_side X ![1, 0, 0] inb_S8x512x128_S1x512x128_1_0_0⟩ : View.Piece (Elt Ideal) S512x1024 .bf16),
    (⟨Rect.unit (s := S512x1024) ![0, 0] ![512, 128] inb_S512x1024_S512x128_0_0, shard_side X ![0, 0, 0] inb_S8x512x128_S1x512x128_0_0_0⟩ : View.Piece (Elt Ideal) S512x1024 .bf16)] (Rect.unit off n inb).toLoadRect = View.ld (Val := Elt Ideal) (e' := .bf16) (S := S512x1024) (val_main_v9 (F := Ideal) X) (Rect.unit off n inb) := by
  rw [View.readCov_eq_canon', slabs_side]

/-- One shard of the cross weight as the copy carries it. -/
abbrev shard_cross (X : Vec Ideal S8x512x128 .bf16) (off : Fin 3 → ℕ) (inb : ∀ a, off a + (![1, 512, 128] : Fin 3 → ℕ) a ≤ S8x512x128.size a) : Vec Ideal S512x128 .bf16 :=
  ReadAs.same.apply (View.read (Elt Ideal) (((View.whole main_arg6).slice (Rect.unit (s := S8x512x128) off ![1, 512, 128] inb)).reshape S512x128 squeezes_S1x512x128_S512x128.numel_eq) X)

/-- It is the slab with its unit axis dropped. -/
theorem shard_cross_eq (X : Vec Ideal S8x512x128 .bf16) (off : Fin 3 → ℕ) (inb) :
    shard_cross X off inb = shapeCast (s := S1x512x128) S512x128 (View.ld (Val := Elt Ideal) (e' := .bf16) X (Rect.unit (s := S8x512x128) off ![1, 512, 128] inb)) squeezes_S1x512x128_S512x128.numel_eq := rfl

/-- The cross weight, assembled. -/
theorem slabs_cross (X : Vec Ideal S8x512x128 .bf16) : View.canon [(⟨Rect.unit (s := S512x1024) ![0, 896] ![512, 128] inb_S512x1024_S512x128_0_896, shard_cross X ![7, 0, 0] inb_S8x512x128_S1x512x128_7_0_0⟩ : View.Piece (Elt Ideal) S512x1024 .bf16),
    (⟨Rect.unit (s := S512x1024) ![0, 768] ![512, 128] inb_S512x1024_S512x128_0_768, shard_cross X ![6, 0, 0] inb_S8x512x128_S1x512x128_6_0_0⟩ : View.Piece (Elt Ideal) S512x1024 .bf16),
    (⟨Rect.unit (s := S512x1024) ![0, 640] ![512, 128] inb_S512x1024_S512x128_0_640, shard_cross X ![5, 0, 0] inb_S8x512x128_S1x512x128_5_0_0⟩ : View.Piece (Elt Ideal) S512x1024 .bf16),
    (⟨Rect.unit (s := S512x1024) ![0, 512] ![512, 128] inb_S512x1024_S512x128_0_512, shard_cross X ![4, 0, 0] inb_S8x512x128_S1x512x128_4_0_0⟩ : View.Piece (Elt Ideal) S512x1024 .bf16),
    (⟨Rect.unit (s := S512x1024) ![0, 384] ![512, 128] inb_S512x1024_S512x128_0_384, shard_cross X ![3, 0, 0] inb_S8x512x128_S1x512x128_3_0_0⟩ : View.Piece (Elt Ideal) S512x1024 .bf16),
    (⟨Rect.unit (s := S512x1024) ![0, 256] ![512, 128] inb_S512x1024_S512x128_0_256, shard_cross X ![2, 0, 0] inb_S8x512x128_S1x512x128_2_0_0⟩ : View.Piece (Elt Ideal) S512x1024 .bf16),
    (⟨Rect.unit (s := S512x1024) ![0, 128] ![512, 128] inb_S512x1024_S512x128_0_128, shard_cross X ![1, 0, 0] inb_S8x512x128_S1x512x128_1_0_0⟩ : View.Piece (Elt Ideal) S512x1024 .bf16),
    (⟨Rect.unit (s := S512x1024) ![0, 0] ![512, 128] inb_S512x1024_S512x128_0_0, shard_cross X ![0, 0, 0] inb_S8x512x128_S1x512x128_0_0_0⟩ : View.Piece (Elt Ideal) S512x1024 .bf16)] = val_main_v14 (F := Ideal) X := by
  funext i
  canon_tiles x h
  all_goals
    rw [shard_cross_eq]
    pointwise [val_main_v14, val_main_v13, val_main_v12]
    blk_ext

/-- A read of it. -/
theorem read_cross (w : View sig .tc .vmem S512x1024 .bf16) (X : Vec Ideal S8x512x128 .bf16) (off n : Fin 2 → ℕ) (inb) : w.readCov [(⟨Rect.unit (s := S512x1024) ![0, 896] ![512, 128] inb_S512x1024_S512x128_0_896, shard_cross X ![7, 0, 0] inb_S8x512x128_S1x512x128_7_0_0⟩ : View.Piece (Elt Ideal) S512x1024 .bf16),
    (⟨Rect.unit (s := S512x1024) ![0, 768] ![512, 128] inb_S512x1024_S512x128_0_768, shard_cross X ![6, 0, 0] inb_S8x512x128_S1x512x128_6_0_0⟩ : View.Piece (Elt Ideal) S512x1024 .bf16),
    (⟨Rect.unit (s := S512x1024) ![0, 640] ![512, 128] inb_S512x1024_S512x128_0_640, shard_cross X ![5, 0, 0] inb_S8x512x128_S1x512x128_5_0_0⟩ : View.Piece (Elt Ideal) S512x1024 .bf16),
    (⟨Rect.unit (s := S512x1024) ![0, 512] ![512, 128] inb_S512x1024_S512x128_0_512, shard_cross X ![4, 0, 0] inb_S8x512x128_S1x512x128_4_0_0⟩ : View.Piece (Elt Ideal) S512x1024 .bf16),
    (⟨Rect.unit (s := S512x1024) ![0, 384] ![512, 128] inb_S512x1024_S512x128_0_384, shard_cross X ![3, 0, 0] inb_S8x512x128_S1x512x128_3_0_0⟩ : View.Piece (Elt Ideal) S512x1024 .bf16),
    (⟨Rect.unit (s := S512x1024) ![0, 256] ![512, 128] inb_S512x1024_S512x128_0_256, shard_cross X ![2, 0, 0] inb_S8x512x128_S1x512x128_2_0_0⟩ : View.Piece (Elt Ideal) S512x1024 .bf16),
    (⟨Rect.unit (s := S512x1024) ![0, 128] ![512, 128] inb_S512x1024_S512x128_0_128, shard_cross X ![1, 0, 0] inb_S8x512x128_S1x512x128_1_0_0⟩ : View.Piece (Elt Ideal) S512x1024 .bf16),
    (⟨Rect.unit (s := S512x1024) ![0, 0] ![512, 128] inb_S512x1024_S512x128_0_0, shard_cross X ![0, 0, 0] inb_S8x512x128_S1x512x128_0_0_0⟩ : View.Piece (Elt Ideal) S512x1024 .bf16)] (Rect.unit off n inb).toLoadRect = View.ld (Val := Elt Ideal) (e' := .bf16) (S := S512x1024) (val_main_v14 (F := Ideal) X) (Rect.unit off n inb) := by
  rw [View.readCov_eq_canon', slabs_cross]

/-- One shard of the widening weight as the copy carries it. -/
abbrev shard_wide (X : Vec Ideal S8x1024x512 .bf16) (off : Fin 3 → ℕ) (inb : ∀ a, off a + (![1, 1024, 512] : Fin 3 → ℕ) a ≤ S8x1024x512.size a) : Vec Ideal S1024x512 .bf16 :=
  ReadAs.same.apply (View.read (Elt Ideal) (((View.whole main_arg9).slice (Rect.unit (s := S8x1024x512) off ![1, 1024, 512] inb)).reshape S1024x512 squeezes_S1x1024x512_S1024x512.numel_eq) X)

/-- It is the slab with its unit axis dropped. -/
theorem shard_wide_eq (X : Vec Ideal S8x1024x512 .bf16) (off : Fin 3 → ℕ) (inb) :
    shard_wide X off inb = shapeCast (s := S1x1024x512) S1024x512 (View.ld (Val := Elt Ideal) (e' := .bf16) X (Rect.unit (s := S8x1024x512) off ![1, 1024, 512] inb)) squeezes_S1x1024x512_S1024x512.numel_eq := rfl

/-- The widening weight, assembled. -/
theorem slabs_wide (X : Vec Ideal S8x1024x512 .bf16) : View.canon [(⟨Rect.unit (s := S1024x4096) ![0, 3584] ![1024, 512] inb_S1024x4096_S1024x512_0_3584, shard_wide X ![7, 0, 0] inb_S8x1024x512_S1x1024x512_7_0_0⟩ : View.Piece (Elt Ideal) S1024x4096 .bf16),
    (⟨Rect.unit (s := S1024x4096) ![0, 3072] ![1024, 512] inb_S1024x4096_S1024x512_0_3072, shard_wide X ![6, 0, 0] inb_S8x1024x512_S1x1024x512_6_0_0⟩ : View.Piece (Elt Ideal) S1024x4096 .bf16),
    (⟨Rect.unit (s := S1024x4096) ![0, 2560] ![1024, 512] inb_S1024x4096_S1024x512_0_2560, shard_wide X ![5, 0, 0] inb_S8x1024x512_S1x1024x512_5_0_0⟩ : View.Piece (Elt Ideal) S1024x4096 .bf16),
    (⟨Rect.unit (s := S1024x4096) ![0, 2048] ![1024, 512] inb_S1024x4096_S1024x512_0_2048, shard_wide X ![4, 0, 0] inb_S8x1024x512_S1x1024x512_4_0_0⟩ : View.Piece (Elt Ideal) S1024x4096 .bf16),
    (⟨Rect.unit (s := S1024x4096) ![0, 1536] ![1024, 512] inb_S1024x4096_S1024x512_0_1536, shard_wide X ![3, 0, 0] inb_S8x1024x512_S1x1024x512_3_0_0⟩ : View.Piece (Elt Ideal) S1024x4096 .bf16),
    (⟨Rect.unit (s := S1024x4096) ![0, 1024] ![1024, 512] inb_S1024x4096_S1024x512_0_1024, shard_wide X ![2, 0, 0] inb_S8x1024x512_S1x1024x512_2_0_0⟩ : View.Piece (Elt Ideal) S1024x4096 .bf16),
    (⟨Rect.unit (s := S1024x4096) ![0, 512] ![1024, 512] inb_S1024x4096_S1024x512_0_512, shard_wide X ![1, 0, 0] inb_S8x1024x512_S1x1024x512_1_0_0⟩ : View.Piece (Elt Ideal) S1024x4096 .bf16),
    (⟨Rect.unit (s := S1024x4096) ![0, 0] ![1024, 512] inb_S1024x4096_S1024x512_0_0, shard_wide X ![0, 0, 0] inb_S8x1024x512_S1x1024x512_0_0_0⟩ : View.Piece (Elt Ideal) S1024x4096 .bf16)] = val_main_v2 (F := Ideal) X := by
  funext i
  canon_tiles x h
  all_goals
    rw [shard_wide_eq]
    pointwise [val_main_v2, val_main_v1, val_main_v0]
    blk_ext

/-- A read of it. -/
theorem read_wide (w : View sig .tc .vmem S1024x4096 .bf16) (X : Vec Ideal S8x1024x512 .bf16) (off n : Fin 2 → ℕ) (inb) : w.readCov [(⟨Rect.unit (s := S1024x4096) ![0, 3584] ![1024, 512] inb_S1024x4096_S1024x512_0_3584, shard_wide X ![7, 0, 0] inb_S8x1024x512_S1x1024x512_7_0_0⟩ : View.Piece (Elt Ideal) S1024x4096 .bf16),
    (⟨Rect.unit (s := S1024x4096) ![0, 3072] ![1024, 512] inb_S1024x4096_S1024x512_0_3072, shard_wide X ![6, 0, 0] inb_S8x1024x512_S1x1024x512_6_0_0⟩ : View.Piece (Elt Ideal) S1024x4096 .bf16),
    (⟨Rect.unit (s := S1024x4096) ![0, 2560] ![1024, 512] inb_S1024x4096_S1024x512_0_2560, shard_wide X ![5, 0, 0] inb_S8x1024x512_S1x1024x512_5_0_0⟩ : View.Piece (Elt Ideal) S1024x4096 .bf16),
    (⟨Rect.unit (s := S1024x4096) ![0, 2048] ![1024, 512] inb_S1024x4096_S1024x512_0_2048, shard_wide X ![4, 0, 0] inb_S8x1024x512_S1x1024x512_4_0_0⟩ : View.Piece (Elt Ideal) S1024x4096 .bf16),
    (⟨Rect.unit (s := S1024x4096) ![0, 1536] ![1024, 512] inb_S1024x4096_S1024x512_0_1536, shard_wide X ![3, 0, 0] inb_S8x1024x512_S1x1024x512_3_0_0⟩ : View.Piece (Elt Ideal) S1024x4096 .bf16),
    (⟨Rect.unit (s := S1024x4096) ![0, 1024] ![1024, 512] inb_S1024x4096_S1024x512_0_1024, shard_wide X ![2, 0, 0] inb_S8x1024x512_S1x1024x512_2_0_0⟩ : View.Piece (Elt Ideal) S1024x4096 .bf16),
    (⟨Rect.unit (s := S1024x4096) ![0, 512] ![1024, 512] inb_S1024x4096_S1024x512_0_512, shard_wide X ![1, 0, 0] inb_S8x1024x512_S1x1024x512_1_0_0⟩ : View.Piece (Elt Ideal) S1024x4096 .bf16),
    (⟨Rect.unit (s := S1024x4096) ![0, 0] ![1024, 512] inb_S1024x4096_S1024x512_0_0, shard_wide X ![0, 0, 0] inb_S8x1024x512_S1x1024x512_0_0_0⟩ : View.Piece (Elt Ideal) S1024x4096 .bf16)] (Rect.unit off n inb).toLoadRect = View.ld (Val := Elt Ideal) (e' := .bf16) (S := S1024x4096) (val_main_v2 (F := Ideal) X) (Rect.unit off n inb) := by
  rw [View.readCov_eq_canon', slabs_wide]

/-- A weight copied whole. -/
theorem whole_gate (X : Vec Ideal S1024x1024 .bf16) : View.canon [(⟨Rect.whole S1024x1024, ReadAs.same.apply (View.read (Elt Ideal) (View.whole main_arg7) X)⟩ : View.Piece (Elt Ideal) S1024x1024 .bf16)] = X := by
  funext i
  canon_tiles x h
  blk_ext

/-- A read of it. -/
theorem read_gate (w : View sig .tc .vmem S1024x1024 .bf16) (X : Vec Ideal S1024x1024 .bf16) (off n : Fin 2 → ℕ) (inb) : w.readCov [(⟨Rect.whole S1024x1024, ReadAs.same.apply (View.read (Elt Ideal) (View.whole main_arg7) X)⟩ : View.Piece (Elt Ideal) S1024x1024 .bf16)] (Rect.unit off n inb).toLoadRect = View.ld (Val := Elt Ideal) (e' := .bf16) (S := S1024x1024) X (Rect.unit off n inb) := by
  rw [View.readCov_eq_canon', whole_gate]

/-- A weight copied whole. -/
theorem whole_back (X : Vec Ideal S4096x1024 .bf16) : View.canon [(⟨Rect.whole S4096x1024, ReadAs.same.apply (View.read (Elt Ideal) (View.whole main_arg10) X)⟩ : View.Piece (Elt Ideal) S4096x1024 .bf16)] = X := by
  funext i
  canon_tiles x h
  blk_ext

/-- A read of it. -/
theorem read_back (w : View sig .tc .vmem S4096x1024 .bf16) (X : Vec Ideal S4096x1024 .bf16) (off n : Fin 2 → ℕ) (inb) : w.readCov [(⟨Rect.whole S4096x1024, ReadAs.same.apply (View.read (Elt Ideal) (View.whole main_arg10) X)⟩ : View.Piece (Elt Ideal) S4096x1024 .bf16)] (Rect.unit off n inb).toLoadRect = View.ld (Val := Elt Ideal) (e' := .bf16) (S := S4096x1024) X (Rect.unit off n inb) := by
  rw [View.readCov_eq_canon', whole_back]

end Cert.MlpIdeal.Tiles
end
-- ==== Proof.MlpRunA.lean ====
/- One run of the body of the gated merge, MLP and loss step, in case A of its conditional. -/
module

public import proofs.«01_k».proof.Proof.Gen.MlpIdeal.Frame.Runs

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 3200000 in
/-- The whole body in case A: the pieces its stores leave in each buffer, and that it runs to a continuation
    that holds them. -/
noncomputable def kernelRun0_A (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .bf16) (harg3 : arg3.IsWhole) (arg4 : Memref sig .tc .vmem S256x2048 .f32) (harg4 : arg4.IsWhole) (arg5 : Memref sig .tc .vmem S1x2048 .f32) (harg5 : arg5.IsWhole) (arg9 : Memref sig .tc .vmem S256x1024 .f32) (harg9 : arg9.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x4096 .bf16) (harg16 : arg16.IsWhole) (arg17 : Memref sig .tc .vmem S256x1024 .bf16) (harg17 : arg17.IsWhole) (arg18 : Memref sig .tc .vmem S256x4096 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S1x1 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1024x4096 .bf16) (harg26 : arg26.IsWhole) (arg27 : Memref sig .tc .vmem S4096x1024 .bf16) (harg27 : arg27.IsWhole) (arg29 : Memref sig .tc .vmem S256x4096 .f32) (harg29 : arg29.IsWhole) (arg30 : Memref sig .tc .vmem S512x1024 .bf16) (harg30 : arg30.IsWhole) (arg31 : Memref sig .tc .vmem S512x1024 .bf16) (harg31 : arg31.IsWhole) (arg32 : Memref sig .tc .vmem S1024x1024 .bf16) (harg32 : arg32.IsWhole) (hc0 : cond0_0 i)
    (x0 : Vec F S256x1024 .f32) (x1 : Vec F S256x512 .f32) (x2 : Vec F S256x512 .bf16) (x3 : Vec F S256x2048 .f32) (x4 : Vec F S1x2048 .f32) (x5 : Vec F S256x1024 .f32) (x6 : Vec F S1x1024 .f32) (x7 : Vec F S1x1024 .f32) (x8 : Vec F S1x1024 .f32) (x9 : Vec F S1x1024 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) :
    Σ' (L10 : List (View.Piece (Elt F) S256x4096 .bf16)), Σ' (L11 : List (View.Piece (Elt F) S256x1024 .bf16)), Σ' (L12 : List (View.Piece (Elt F) S256x4096 .bf16)), Σ' (L13 : List (View.Piece (Elt F) S256x1024 .bf16)), Σ' (L14 : List (View.Piece (Elt F) S256x1024 .f32)), Σ' (L15 : List (View.Piece (Elt F) S1x1 .f32)), Σ' (L16 : List (View.Piece (Elt F) S1x1024 .f32)), Σ' (L17 : List (View.Piece (Elt F) S1x1024 .f32)), Σ' (L18 : List (View.Piece (Elt F) S1x1024 .f32)), Σ' (L19 : List (View.Piece (Elt F) S1x1024 .f32)), Σ' (LS0 : List (View.Piece (Elt F) S1024x4096 .bf16)), Σ' (LS1 : List (View.Piece (Elt F) S4096x1024 .bf16)), Σ' (LS3 : List (View.Piece (Elt F) S512x1024 .bf16)), Σ' (LS4 : List (View.Piece (Elt F) S512x1024 .bf16)), Σ' (LS5 : List (View.Piece (Elt F) S1024x1024 .bf16)), { LT2 : List (View.Piece (Elt F) S256x4096 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ hbPt0 c hbM0_0 fh0 ∗ hbPt0 c hbM0_1 fh1 ∗ hbPt0 c hbM0_2 fh2 ∗ hbPt0 c hbM0_3 fh3 ∗ hbPt0 c hbM0_4 fh4 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ (∃ f, arg16.view.loc (c : Thread nD τ) ↦[arg16.view.set]{fullShare} arg16.view.writes (Elt F) f L10) ∗ (∃ f, arg17.view.loc (c : Thread nD τ) ↦[arg17.view.set]{fullShare} arg17.view.writes (Elt F) f L11) ∗ (∃ f, arg18.view.loc (c : Thread nD τ) ↦[arg18.view.set]{fullShare} arg18.view.writes (Elt F) f L12) ∗ (∃ f, arg19.view.loc (c : Thread nD τ) ↦[arg19.view.set]{fullShare} arg19.view.writes (Elt F) f L13) ∗ (∃ f, arg20.view.loc (c : Thread nD τ) ↦[arg20.view.set]{fullShare} arg20.view.writes (Elt F) f L14) ∗ (∃ f, arg21.view.loc (c : Thread nD τ) ↦[arg21.view.set]{fullShare} arg21.view.writes (Elt F) f L15) ∗ (∃ f, arg22.view.loc (c : Thread nD τ) ↦[arg22.view.set]{fullShare} arg22.view.writes (Elt F) f L16) ∗ (∃ f, arg23.view.loc (c : Thread nD τ) ↦[arg23.view.set]{fullShare} arg23.view.writes (Elt F) f L17) ∗ (∃ f, arg24.view.loc (c : Thread nD τ) ↦[arg24.view.set]{fullShare} arg24.view.writes (Elt F) f L18) ∗ (∃ f, arg25.view.loc (c : Thread nD τ) ↦[arg25.view.set]{fullShare} arg25.view.writes (Elt F) f L19) ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1) ∗ (∃ f, arg29.view.loc (c : Thread nD τ) ↦[arg29.view.set]{fullShare} arg29.view.writes (Elt F) f LT2) ∗ (∃ f, arg30.view.loc (c : Thread nD τ) ↦[arg30.view.set]{fullShare} arg30.view.writes (Elt F) f LS3) ∗ (∃ f, arg31.view.loc (c : Thread nD τ) ↦[arg31.view.set]{fullShare} arg31.view.writes (Elt F) f LS4) ∗ (∃ f, arg32.view.loc (c : Thread nD τ) ↦[arg32.view.set]{fullShare} arg32.view.writes (Elt F) f LS5) ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ hbPt0 c hbM0_0 fh0 ∗ hbPt0 c hbM0_1 fh1 ∗ hbPt0 c hbM0_2 fh2 ∗ hbPt0 c hbM0_3 fh3 ∗ hbPt0 c hbM0_4 fh4 ∗ (∃ W', owes (c : Thread nD τ) 0 W')) -∗ K ⟨⟩))
          ⊢ wp frame (wpE (defs₀ (F := F)) Variants.none c none) Set.univ (cc0_mlp i arg1 harg1 arg2 harg2 arg3 harg3 arg4 harg4 arg5 harg5 (Memref.whole main_arg5) (Memref.isWhole_whole _) (Memref.whole main_arg6) (Memref.isWhole_whole _) (Memref.whole main_arg7) (Memref.isWhole_whole _) arg9 harg9 (Memref.whole main_arg9) (Memref.isWhole_whole _) (Memref.whole main_arg10) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 cc0_scratch2 arg29 harg29 arg30 harg30 arg31 harg31 arg32 harg32 cc0_scratch7) K } := by
  refine ⟨?_, ?_, ?_, ?_, ?_, ?_, ?_, ?_, ?_, ?_, ?_, ?_, ?_, ?_, ?_, ?_, fun W K => ?run⟩
  case run =>
    simp only [cc0_mlp_eq_skeleton]; unfold cc0_mlp_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, HW, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf5; obtain rfl := harg12.eq_unread hf6; obtain rfl := harg13.eq_unread hf7; obtain rfl := harg14.eq_unread hf8; obtain rfl := harg15.eq_unread hf9
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg9.read_unread _
      iexact H5
    isplitl [H6]
    · iexists _; isplitr; · ipureintro; exact harg12.read_unread _
      iexact H6
    isplitl [H7]
    · iexists _; isplitr; · ipureintro; exact harg13.read_unread _
      iexact H7
    isplitl [H8]
    · iexists _; isplitr; · ipureintro; exact harg14.read_unread _
      iexact H8
    isplitl [H9]
    · iexists _; isplitr; · ipureintro; exact harg15.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hh0]; · iexact Hh0
    isplitl [Hh1]; · iexact Hh1
    isplitl [Hh2]; · iexact Hh2
    isplitl [Hh3]; · iexact Hh3
    isplitl [Hh4]; · iexact Hh4
    iexists _; iexact HW

end Cert.MlpIdeal.Gen

end
-- ==== Proof.MlpRunB.lean ====
/- One run of the body of the gated merge, MLP and loss step, in case B of its conditional. -/
module

public import proofs.«01_k».proof.Proof.MlpRunA

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 3200000 in
/-- The whole body in case B: the pieces its stores leave in each buffer, and that it runs to a continuation
    that holds them. -/
noncomputable def kernelRun0_B (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .bf16) (harg3 : arg3.IsWhole) (arg4 : Memref sig .tc .vmem S256x2048 .f32) (harg4 : arg4.IsWhole) (arg5 : Memref sig .tc .vmem S1x2048 .f32) (harg5 : arg5.IsWhole) (arg9 : Memref sig .tc .vmem S256x1024 .f32) (harg9 : arg9.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x4096 .bf16) (harg16 : arg16.IsWhole) (arg17 : Memref sig .tc .vmem S256x1024 .bf16) (harg17 : arg17.IsWhole) (arg18 : Memref sig .tc .vmem S256x4096 .bf16) (harg18 : arg18.IsWhole) (arg19 : Memref sig .tc .vmem S256x1024 .bf16) (harg19 : arg19.IsWhole) (arg20 : Memref sig .tc .vmem S256x1024 .f32) (harg20 : arg20.IsWhole) (arg21 : Memref sig .tc .vmem S1x1 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1024x4096 .bf16) (harg26 : arg26.IsWhole) (arg27 : Memref sig .tc .vmem S4096x1024 .bf16) (harg27 : arg27.IsWhole) (arg29 : Memref sig .tc .vmem S256x4096 .f32) (harg29 : arg29.IsWhole) (arg30 : Memref sig .tc .vmem S512x1024 .bf16) (harg30 : arg30.IsWhole) (arg31 : Memref sig .tc .vmem S512x1024 .bf16) (harg31 : arg31.IsWhole) (arg32 : Memref sig .tc .vmem S1024x1024 .bf16) (harg32 : arg32.IsWhole) (hc0 : ¬cond0_0 i)
    (x0 : Vec F S256x1024 .f32) (x1 : Vec F S256x512 .f32) (x2 : Vec F S256x512 .bf16) (x3 : Vec F S256x2048 .f32) (x4 : Vec F S1x2048 .f32) (x5 : Vec F S256x1024 .f32) (x6 : Vec F S1x1024 .f32) (x7 : Vec F S1x1024 .f32) (x8 : Vec F S1x1024 .f32) (x9 : Vec F S1x1024 .f32) (xo15 : Vec F S1x1 .f32) (xo16 : Vec F S1x1024 .f32) (xo17 : Vec F S1x1024 .f32) (xo18 : Vec F S1x1024 .f32) (xo19 : Vec F S1x1024 .f32) (xs0 : Vec F S1024x4096 .bf16) (xs1 : Vec F S4096x1024 .bf16) (xs3 : Vec F S512x1024 .bf16) (xs4 : Vec F S512x1024 .bf16) (xs5 : Vec F S1024x1024 .bf16) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) :
    Σ' (L10 : List (View.Piece (Elt F) S256x4096 .bf16)), Σ' (L11 : List (View.Piece (Elt F) S256x1024 .bf16)), Σ' (L12 : List (View.Piece (Elt F) S256x4096 .bf16)), Σ' (L13 : List (View.Piece (Elt F) S256x1024 .bf16)), Σ' (L14 : List (View.Piece (Elt F) S256x1024 .f32)), Σ' (L15 : List (View.Piece (Elt F) S1x1 .f32)), Σ' (L16 : List (View.Piece (Elt F) S1x1024 .f32)), Σ' (L17 : List (View.Piece (Elt F) S1x1024 .f32)), Σ' (L18 : List (View.Piece (Elt F) S1x1024 .f32)), Σ' (L19 : List (View.Piece (Elt F) S1x1024 .f32)), Σ' (LS0 : List (View.Piece (Elt F) S1024x4096 .bf16)), Σ' (LS1 : List (View.Piece (Elt F) S4096x1024 .bf16)), Σ' (LS3 : List (View.Piece (Elt F) S512x1024 .bf16)), Σ' (LS4 : List (View.Piece (Elt F) S512x1024 .bf16)), Σ' (LS5 : List (View.Piece (Elt F) S1024x1024 .bf16)), { LT2 : List (View.Piece (Elt F) S256x4096 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xo15 ∗ owns (c : Thread nD τ) arg22 fullShare xo16 ∗ owns (c : Thread nD τ) arg23 fullShare xo17 ∗ owns (c : Thread nD τ) arg24 fullShare xo18 ∗ owns (c : Thread nD τ) arg25 fullShare xo19 ∗ owns (c : Thread nD τ) arg26 fullShare xs0 ∗ owns (c : Thread nD τ) arg27 fullShare xs1 ∗ (∃ d, owns (c : Thread nD τ) arg29 fullShare d) ∗ owns (c : Thread nD τ) arg30 fullShare xs3 ∗ owns (c : Thread nD τ) arg31 fullShare xs4 ∗ owns (c : Thread nD τ) arg32 fullShare xs5 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ hbPt0 c hbM0_0 fh0 ∗ hbPt0 c hbM0_1 fh1 ∗ hbPt0 c hbM0_2 fh2 ∗ hbPt0 c hbM0_3 fh3 ∗ hbPt0 c hbM0_4 fh4 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ (∃ f, arg16.view.loc (c : Thread nD τ) ↦[arg16.view.set]{fullShare} arg16.view.writes (Elt F) f L10) ∗ (∃ f, arg17.view.loc (c : Thread nD τ) ↦[arg17.view.set]{fullShare} arg17.view.writes (Elt F) f L11) ∗ (∃ f, arg18.view.loc (c : Thread nD τ) ↦[arg18.view.set]{fullShare} arg18.view.writes (Elt F) f L12) ∗ (∃ f, arg19.view.loc (c : Thread nD τ) ↦[arg19.view.set]{fullShare} arg19.view.writes (Elt F) f L13) ∗ (∃ f, arg20.view.loc (c : Thread nD τ) ↦[arg20.view.set]{fullShare} arg20.view.writes (Elt F) f L14) ∗ (∃ f, arg21.view.loc (c : Thread nD τ) ↦[arg21.view.set]{fullShare} arg21.view.writes (Elt F) f L15) ∗ (∃ f, arg22.view.loc (c : Thread nD τ) ↦[arg22.view.set]{fullShare} arg22.view.writes (Elt F) f L16) ∗ (∃ f, arg23.view.loc (c : Thread nD τ) ↦[arg23.view.set]{fullShare} arg23.view.writes (Elt F) f L17) ∗ (∃ f, arg24.view.loc (c : Thread nD τ) ↦[arg24.view.set]{fullShare} arg24.view.writes (Elt F) f L18) ∗ (∃ f, arg25.view.loc (c : Thread nD τ) ↦[arg25.view.set]{fullShare} arg25.view.writes (Elt F) f L19) ∗ owns (c : Thread nD τ) arg26 fullShare xs0 ∗ owns (c : Thread nD τ) arg27 fullShare xs1 ∗ (∃ f, arg29.view.loc (c : Thread nD τ) ↦[arg29.view.set]{fullShare} arg29.view.writes (Elt F) f LT2) ∗ owns (c : Thread nD τ) arg30 fullShare xs3 ∗ owns (c : Thread nD τ) arg31 fullShare xs4 ∗ owns (c : Thread nD τ) arg32 fullShare xs5 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ hbPt0 c hbM0_0 fh0 ∗ hbPt0 c hbM0_1 fh1 ∗ hbPt0 c hbM0_2 fh2 ∗ hbPt0 c hbM0_3 fh3 ∗ hbPt0 c hbM0_4 fh4 ∗ (∃ W', owes (c : Thread nD τ) 0 W')) -∗ K ⟨⟩))
          ⊢ wp frame (wpE (defs₀ (F := F)) Variants.none c none) Set.univ (cc0_mlp i arg1 harg1 arg2 harg2 arg3 harg3 arg4 harg4 arg5 harg5 (Memref.whole main_arg5) (Memref.isWhole_whole _) (Memref.whole main_arg6) (Memref.isWhole_whole _) (Memref.whole main_arg7) (Memref.isWhole_whole _) arg9 harg9 (Memref.whole main_arg9) (Memref.isWhole_whole _) (Memref.whole main_arg10) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 cc0_scratch2 arg29 harg29 arg30 harg30 arg31 harg31 arg32 harg32 cc0_scratch7) K } := by
  refine ⟨?_, ?_, ?_, ?_, ?_, ?_, ?_, ?_, ?_, ?_, [], [], [], [], [], ?_, fun W K => ?run⟩
  case run =>
    simp only [cc0_mlp_eq_skeleton]; unfold cc0_mlp_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%fs0, %hfs0, HS0⟩, ⟨%fs1, %hfs1, HS1⟩, ⟨%ds2, %fs2, -, HS2⟩, ⟨%fs3, %hfs3, HS3⟩, ⟨%fs4, %hfs4, HS4⟩, ⟨%fs5, %hfs5, HS5⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, HW, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf5; obtain rfl := harg12.eq_unread hf6; obtain rfl := harg13.eq_unread hf7; obtain rfl := harg14.eq_unread hf8; obtain rfl := harg15.eq_unread hf9; obtain rfl := harg21.eq_unread hf15; obtain rfl := harg22.eq_unread hf16; obtain rfl := harg23.eq_unread hf17; obtain rfl := harg24.eq_unread hf18; obtain rfl := harg25.eq_unread hf19; obtain rfl := harg26.eq_unread hfs0; obtain rfl := harg27.eq_unread hfs1; obtain rfl := harg30.eq_unread hfs3; obtain rfl := harg31.eq_unread hfs4; obtain rfl := harg32.eq_unread hfs5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg9.read_unread _
      iexact H5
    isplitl [H6]
    · iexists _; isplitr; · ipureintro; exact harg12.read_unread _
      iexact H6
    isplitl [H7]
    · iexists _; isplitr; · ipureintro; exact harg13.read_unread _
      iexact H7
    isplitl [H8]
    · iexists _; isplitr; · ipureintro; exact harg14.read_unread _
      iexact H8
    isplitl [H9]
    · iexists _; isplitr; · ipureintro; exact harg15.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]
    · iexists _; isplitr; · ipureintro; exact harg26.read_unread _
      iexact HS0
    isplitl [HS1]
    · iexists _; isplitr; · ipureintro; exact harg27.read_unread _
      iexact HS1
    isplitl [HS2]; · iexists _; iexact HS2
    isplitl [HS3]
    · iexists _; isplitr; · ipureintro; exact harg30.read_unread _
      iexact HS3
    isplitl [HS4]
    · iexists _; isplitr; · ipureintro; exact harg31.read_unread _
      iexact HS4
    isplitl [HS5]
    · iexists _; isplitr; · ipureintro; exact harg32.read_unread _
      iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hh0]; · iexact Hh0
    isplitl [Hh1]; · iexact Hh1
    isplitl [Hh2]; · iexact Hh2
    isplitl [Hh3]; · iexact Hh3
    isplitl [Hh4]; · iexact Hh4
    iexists _; iexact HW

end Cert.MlpIdeal.Gen

end
-- ==== Proof.MlpFrame.lean ====
/- The frame of the gated merge, MLP and loss step: what its buffers hold point by point, and that the whole call runs. -/
module

public import proofs.«01_k».proof.Proof.MlpRunB
public import Idealize.ShloMosaic.Lib.Claim

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the outputs' buffers and the carried scratch hold after a point. -/
abbrev Outs (F : FTy → Type) := Vec F S256x4096 .bf16 × Vec F S256x1024 .bf16 × Vec F S256x4096 .bf16 × Vec F S256x1024 .bf16 × Vec F S256x1024 .f32 × Vec F S1x1 .f32 × Vec F S1x1024 .f32 × Vec F S1x1024 .f32 × Vec F S1x1024 .f32 × Vec F S1x1024 .f32 × Vec F S1024x4096 .bf16 × Vec F S4096x1024 .bf16 × Vec F S512x1024 .bf16 × Vec F S512x1024 .bf16 × Vec F S1024x1024 .bf16

/-- The run of case A at a point. -/
def rA (c : Dev nD) (t : Fin cfg0.N) (h0 : t.val % 16 = 0) := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (V m c main_arg5) (V m c main_arg6) (V m c main_arg7) (V m c main_arg9) (V m c main_arg10)

theorem cover0_A_10 (c : Dev nD) (t : Fin cfg0.N) (h0 : t.val % 16 = 0) (y : S256x4096.Idx) : ∃ pc ∈ (rA m c t h0).1, y ∈ pc.1.set :=
  View.cover_of_tiledL (rA m c t h0).1 S256x512.size (by sl_kernel_rfl) y

theorem cover0_A_11 (c : Dev nD) (t : Fin cfg0.N) (h0 : t.val % 16 = 0) (y : S256x1024.Idx) : ∃ pc ∈ (rA m c t h0).2.1, y ∈ pc.1.set :=
  View.cover_of_tiledL (rA m c t h0).2.1 S256x1024.size (by sl_kernel_rfl) y

theorem cover0_A_12 (c : Dev nD) (t : Fin cfg0.N) (h0 : t.val % 16 = 0) (y : S256x4096.Idx) : ∃ pc ∈ (rA m c t h0).2.2.1, y ∈ pc.1.set :=
  View.cover_of_tiledL (rA m c t h0).2.2.1 S256x512.size (by sl_kernel_rfl) y

theorem cover0_A_13 (c : Dev nD) (t : Fin cfg0.N) (h0 : t.val % 16 = 0) (y : S256x1024.Idx) : ∃ pc ∈ (rA m c t h0).2.2.2.1, y ∈ pc.1.set :=
  View.cover_of_tiledL (rA m c t h0).2.2.2.1 S256x1024.size (by sl_kernel_rfl) y

theorem cover0_A_14 (c : Dev nD) (t : Fin cfg0.N) (h0 : t.val % 16 = 0) (y : S256x1024.Idx) : ∃ pc ∈ (rA m c t h0).2.2.2.2.1, y ∈ pc.1.set :=
  View.cover_of_tiledL (rA m c t h0).2.2.2.2.1 S256x1024.size (by sl_kernel_rfl) y

theorem cover0_A_15 (c : Dev nD) (t : Fin cfg0.N) (h0 : t.val % 16 = 0) (y : S1x1.Idx) : ∃ pc ∈ (rA m c t h0).2.2.2.2.2.1, y ∈ pc.1.set :=
  View.cover_of_tiledL (rA m c t h0).2.2.2.2.2.1 S1x1.size (by sl_kernel_rfl) y

theorem cover0_A_16 (c : Dev nD) (t : Fin cfg0.N) (h0 : t.val % 16 = 0) (y : S1x1024.Idx) : ∃ pc ∈ (rA m c t h0).2.2.2.2.2.2.1, y ∈ pc.1.set :=
  View.cover_of_tiledL (rA m c t h0).2.2.2.2.2.2.1 S1x1024.size (by sl_kernel_rfl) y

theorem cover0_A_17 (c : Dev nD) (t : Fin cfg0.N) (h0 : t.val % 16 = 0) (y : S1x1024.Idx) : ∃ pc ∈ (rA m c t h0).2.2.2.2.2.2.2.1, y ∈ pc.1.set :=
  View.cover_of_tiledL (rA m c t h0).2.2.2.2.2.2.2.1 S1x1024.size (by sl_kernel_rfl) y

theorem cover0_A_18 (c : Dev nD) (t : Fin cfg0.N) (h0 : t.val % 16 = 0) (y : S1x1024.Idx) : ∃ pc ∈ (rA m c t h0).2.2.2.2.2.2.2.2.1, y ∈ pc.1.set :=
  View.cover_of_tiledL (rA m c t h0).2.2.2.2.2.2.2.2.1 S1x1024.size (by sl_kernel_rfl) y

theorem cover0_A_19 (c : Dev nD) (t : Fin cfg0.N) (h0 : t.val % 16 = 0) (y : S1x1024.Idx) : ∃ pc ∈ (rA m c t h0).2.2.2.2.2.2.2.2.2.1, y ∈ pc.1.set :=
  View.cover_of_tiledL (rA m c t h0).2.2.2.2.2.2.2.2.2.1 S1x1024.size (by sl_kernel_rfl) y

theorem scover0_A_0 (c : Dev nD) (t : Fin cfg0.N) (h0 : t.val % 16 = 0) (y : S1024x4096.Idx) : ∃ pc ∈ (rA m c t h0).2.2.2.2.2.2.2.2.2.2.1, y ∈ pc.1.set :=
  View.cover_of_tiledL (rA m c t h0).2.2.2.2.2.2.2.2.2.2.1 S1024x512.size (by sl_kernel_rfl) y

theorem scover0_A_1 (c : Dev nD) (t : Fin cfg0.N) (h0 : t.val % 16 = 0) (y : S4096x1024.Idx) : ∃ pc ∈ (rA m c t h0).2.2.2.2.2.2.2.2.2.2.2.1, y ∈ pc.1.set :=
  View.cover_of_tiledL (rA m c t h0).2.2.2.2.2.2.2.2.2.2.2.1 S4096x1024.size (by sl_kernel_rfl) y

theorem scover0_A_3 (c : Dev nD) (t : Fin cfg0.N) (h0 : t.val % 16 = 0) (y : S512x1024.Idx) : ∃ pc ∈ (rA m c t h0).2.2.2.2.2.2.2.2.2.2.2.2.1, y ∈ pc.1.set :=
  View.cover_of_tiledL (rA m c t h0).2.2.2.2.2.2.2.2.2.2.2.2.1 S512x128.size (by sl_kernel_rfl) y

theorem scover0_A_4 (c : Dev nD) (t : Fin cfg0.N) (h0 : t.val % 16 = 0) (y : S512x1024.Idx) : ∃ pc ∈ (rA m c t h0).2.2.2.2.2.2.2.2.2.2.2.2.2.1, y ∈ pc.1.set :=
  View.cover_of_tiledL (rA m c t h0).2.2.2.2.2.2.2.2.2.2.2.2.2.1 S512x128.size (by sl_kernel_rfl) y

theorem scover0_A_5 (c : Dev nD) (t : Fin cfg0.N) (h0 : t.val % 16 = 0) (y : S1024x1024.Idx) : ∃ pc ∈ (rA m c t h0).2.2.2.2.2.2.2.2.2.2.2.2.2.2.1, y ∈ pc.1.set :=
  View.cover_of_tiledL (rA m c t h0).2.2.2.2.2.2.2.2.2.2.2.2.2.2.1 S1024x1024.size (by sl_kernel_rfl) y

/-- What case A leaves. -/
def oA (c : Dev nD) (t : Fin cfg0.N) (h0 : t.val % 16 = 0) : Outs F :=
  (VO0_10.read (Elt F) (VO0_10.writes (Elt F) VO0_10.junk (rA m c t h0).1),
   VO0_11.read (Elt F) (VO0_11.writes (Elt F) VO0_11.junk (rA m c t h0).2.1),
   VO0_12.read (Elt F) (VO0_12.writes (Elt F) VO0_12.junk (rA m c t h0).2.2.1),
   VO0_13.read (Elt F) (VO0_13.writes (Elt F) VO0_13.junk (rA m c t h0).2.2.2.1),
   VO0_14.read (Elt F) (VO0_14.writes (Elt F) VO0_14.junk (rA m c t h0).2.2.2.2.1),
   VO0_15.read (Elt F) (VO0_15.writes (Elt F) VO0_15.junk (rA m c t h0).2.2.2.2.2.1),
   VO0_16.read (Elt F) (VO0_16.writes (Elt F) VO0_16.junk (rA m c t h0).2.2.2.2.2.2.1),
   VO0_17.read (Elt F) (VO0_17.writes (Elt F) VO0_17.junk (rA m c t h0).2.2.2.2.2.2.2.1),
   VO0_18.read (Elt F) (VO0_18.writes (Elt F) VO0_18.junk (rA m c t h0).2.2.2.2.2.2.2.2.1),
   VO0_19.read (Elt F) (VO0_19.writes (Elt F) VO0_19.junk (rA m c t h0).2.2.2.2.2.2.2.2.2.1),
   VS0_0.read (Elt F) (VS0_0.writes (Elt F) VS0_0.junk (rA m c t h0).2.2.2.2.2.2.2.2.2.2.1),
   VS0_1.read (Elt F) (VS0_1.writes (Elt F) VS0_1.junk (rA m c t h0).2.2.2.2.2.2.2.2.2.2.2.1),
   VS0_3.read (Elt F) (VS0_3.writes (Elt F) VS0_3.junk (rA m c t h0).2.2.2.2.2.2.2.2.2.2.2.2.1),
   VS0_4.read (Elt F) (VS0_4.writes (Elt F) VS0_4.junk (rA m c t h0).2.2.2.2.2.2.2.2.2.2.2.2.2.1),
   VS0_5.read (Elt F) (VS0_5.writes (Elt F) VS0_5.junk (rA m c t h0).2.2.2.2.2.2.2.2.2.2.2.2.2.2.1))

/-- The run of case B at a point. -/
def rB (c : Dev nD) (t : Fin cfg0.N) (h0 : ¬t.val % 16 = 0) (p : Outs F) := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.2.1 p.2.2.2.2.2.2.1 p.2.2.2.2.2.2.2.1 p.2.2.2.2.2.2.2.2.1 p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2 (V m c main_arg5) (V m c main_arg6) (V m c main_arg7) (V m c main_arg9) (V m c main_arg10)

theorem cover0_B_10 (c : Dev nD) (t : Fin cfg0.N) (h0 : ¬t.val % 16 = 0) (p : Outs F) (y : S256x4096.Idx) : ∃ pc ∈ (rB m c t h0 p).1, y ∈ pc.1.set :=
  View.cover_of_tiledL (rB m c t h0 p).1 S256x512.size (by sl_kernel_rfl) y

theorem cover0_B_11 (c : Dev nD) (t : Fin cfg0.N) (h0 : ¬t.val % 16 = 0) (p : Outs F) (y : S256x1024.Idx) : ∃ pc ∈ (rB m c t h0 p).2.1, y ∈ pc.1.set :=
  View.cover_of_tiledL (rB m c t h0 p).2.1 S256x1024.size (by sl_kernel_rfl) y

theorem cover0_B_12 (c : Dev nD) (t : Fin cfg0.N) (h0 : ¬t.val % 16 = 0) (p : Outs F) (y : S256x4096.Idx) : ∃ pc ∈ (rB m c t h0 p).2.2.1, y ∈ pc.1.set :=
  View.cover_of_tiledL (rB m c t h0 p).2.2.1 S256x512.size (by sl_kernel_rfl) y

theorem cover0_B_13 (c : Dev nD) (t : Fin cfg0.N) (h0 : ¬t.val % 16 = 0) (p : Outs F) (y : S256x1024.Idx) : ∃ pc ∈ (rB m c t h0 p).2.2.2.1, y ∈ pc.1.set :=
  View.cover_of_tiledL (rB m c t h0 p).2.2.2.1 S256x1024.size (by sl_kernel_rfl) y

theorem cover0_B_14 (c : Dev nD) (t : Fin cfg0.N) (h0 : ¬t.val % 16 = 0) (p : Outs F) (y : S256x1024.Idx) : ∃ pc ∈ (rB m c t h0 p).2.2.2.2.1, y ∈ pc.1.set :=
  View.cover_of_tiledL (rB m c t h0 p).2.2.2.2.1 S256x1024.size (by sl_kernel_rfl) y

theorem cover0_B_15 (c : Dev nD) (t : Fin cfg0.N) (h0 : ¬t.val % 16 = 0) (p : Outs F) (y : S1x1.Idx) : ∃ pc ∈ (rB m c t h0 p).2.2.2.2.2.1, y ∈ pc.1.set :=
  View.cover_of_tiledL (rB m c t h0 p).2.2.2.2.2.1 S1x1.size (by sl_kernel_rfl) y

theorem cover0_B_16 (c : Dev nD) (t : Fin cfg0.N) (h0 : ¬t.val % 16 = 0) (p : Outs F) (y : S1x1024.Idx) : ∃ pc ∈ (rB m c t h0 p).2.2.2.2.2.2.1, y ∈ pc.1.set :=
  View.cover_of_tiledL (rB m c t h0 p).2.2.2.2.2.2.1 S1x1024.size (by sl_kernel_rfl) y

theorem cover0_B_17 (c : Dev nD) (t : Fin cfg0.N) (h0 : ¬t.val % 16 = 0) (p : Outs F) (y : S1x1024.Idx) : ∃ pc ∈ (rB m c t h0 p).2.2.2.2.2.2.2.1, y ∈ pc.1.set :=
  View.cover_of_tiledL (rB m c t h0 p).2.2.2.2.2.2.2.1 S1x1024.size (by sl_kernel_rfl) y

theorem cover0_B_18 (c : Dev nD) (t : Fin cfg0.N) (h0 : ¬t.val % 16 = 0) (p : Outs F) (y : S1x1024.Idx) : ∃ pc ∈ (rB m c t h0 p).2.2.2.2.2.2.2.2.1, y ∈ pc.1.set :=
  View.cover_of_tiledL (rB m c t h0 p).2.2.2.2.2.2.2.2.1 S1x1024.size (by sl_kernel_rfl) y

theorem cover0_B_19 (c : Dev nD) (t : Fin cfg0.N) (h0 : ¬t.val % 16 = 0) (p : Outs F) (y : S1x1024.Idx) : ∃ pc ∈ (rB m c t h0 p).2.2.2.2.2.2.2.2.2.1, y ∈ pc.1.set :=
  View.cover_of_tiledL (rB m c t h0 p).2.2.2.2.2.2.2.2.2.1 S1x1024.size (by sl_kernel_rfl) y

/-- What case B leaves. -/
def oB (c : Dev nD) (t : Fin cfg0.N) (h0 : ¬t.val % 16 = 0) (p : Outs F) : Outs F :=
  (VO0_10.read (Elt F) (VO0_10.writes (Elt F) VO0_10.junk (rB m c t h0 p).1),
   VO0_11.read (Elt F) (VO0_11.writes (Elt F) VO0_11.junk (rB m c t h0 p).2.1),
   VO0_12.read (Elt F) (VO0_12.writes (Elt F) VO0_12.junk (rB m c t h0 p).2.2.1),
   VO0_13.read (Elt F) (VO0_13.writes (Elt F) VO0_13.junk (rB m c t h0 p).2.2.2.1),
   VO0_14.read (Elt F) (VO0_14.writes (Elt F) VO0_14.junk (rB m c t h0 p).2.2.2.2.1),
   VO0_15.read (Elt F) (VO0_15.writes (Elt F) VO0_15.junk (rB m c t h0 p).2.2.2.2.2.1),
   VO0_16.read (Elt F) (VO0_16.writes (Elt F) VO0_16.junk (rB m c t h0 p).2.2.2.2.2.2.1),
   VO0_17.read (Elt F) (VO0_17.writes (Elt F) VO0_17.junk (rB m c t h0 p).2.2.2.2.2.2.2.1),
   VO0_18.read (Elt F) (VO0_18.writes (Elt F) VO0_18.junk (rB m c t h0 p).2.2.2.2.2.2.2.2.1),
   VO0_19.read (Elt F) (VO0_19.writes (Elt F) VO0_19.junk (rB m c t h0 p).2.2.2.2.2.2.2.2.2.1),
   p.2.2.2.2.2.2.2.2.2.2.1,
   p.2.2.2.2.2.2.2.2.2.2.2.1,
   p.2.2.2.2.2.2.2.2.2.2.2.2.1,
   p.2.2.2.2.2.2.2.2.2.2.2.2.2.1,
   p.2.2.2.2.2.2.2.2.2.2.2.2.2.2)

/-- Point by point: the first point is case A, the others case B over what the point before left. -/
def outsAt0 (c : Dev nD) : (n : ℕ) → n < cfg0.N → Outs F
  | 0, hn => oA m c ⟨0, hn⟩ (Nat.zero_mod _)
  | n + 1, hn =>
    if h0 : (n + 1) % 16 = 0 then oA m c ⟨n + 1, hn⟩ h0
    else oB m c ⟨n + 1, hn⟩ h0 (outsAt0 c n (Nat.lt_of_succ_lt hn))

theorem outsAt0_A (c : Dev nD) (t : Fin cfg0.N) (h0 : t.val % 16 = 0) : outsAt0 m c t.val t.isLt = oA m c t h0 := by
  obtain ⟨n, hn⟩ := t
  cases n with
  | zero => exact rfl
  | succ n => exact (dif_pos h0).trans rfl

theorem outsAt0_B (c : Dev nD) (t : Fin cfg0.N) (h0 : ¬t.val % 16 = 0) : outsAt0 m c t.val t.isLt
    = oB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The invariant between points: the carried scratch at what the last point left, all else at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.2.2.2.1) ∗ owns (c : Thread nD τ) scM0_1 fullShare ((outsAt0 m c n hn).2.2.2.2.2.2.2.2.2.2.2.1) ∗ (∃ d, owns (c : Thread nD τ) scM0_2 fullShare d) ∗ owns (c : Thread nD τ) scM0_3 fullShare ((outsAt0 m c n hn).2.2.2.2.2.2.2.2.2.2.2.2.1) ∗ owns (c : Thread nD τ) scM0_4 fullShare ((outsAt0 m c n hn).2.2.2.2.2.2.2.2.2.2.2.2.2.1) ∗ owns (c : Thread nD τ) scM0_5 fullShare ((outsAt0 m c n hn).2.2.2.2.2.2.2.2.2.2.2.2.2.2)) ∗ (∃ r, prngReg c r) ∗ iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0) ∗ iprop(hbPt0 c hbM0_0 (V m c main_arg5) ∗ hbPt0 c hbM0_1 (V m c main_arg6) ∗ hbPt0 c hbM0_2 (V m c main_arg7) ∗ hbPt0 c hbM0_3 (V m c main_arg9) ∗ hbPt0 c hbM0_4 (V m c main_arg10)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.2.2.1) ∗ owns (c : Thread nD τ) scM0_1 fullShare ((outsAt0 m c n hn).2.2.2.2.2.2.2.2.2.2.2.1) ∗ (∃ d, owns (c : Thread nD τ) scM0_2 fullShare d) ∗ owns (c : Thread nD τ) scM0_3 fullShare ((outsAt0 m c n hn).2.2.2.2.2.2.2.2.2.2.2.2.1) ∗ owns (c : Thread nD τ) scM0_4 fullShare ((outsAt0 m c n hn).2.2.2.2.2.2.2.2.2.2.2.2.2.1) ∗ owns (c : Thread nD τ) scM0_5 fullShare ((outsAt0 m c n hn).2.2.2.2.2.2.2.2.2.2.2.2.2.2)) ∗ (∃ r, prngReg c r) ∗ iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0) ∗ iprop(hbPt0 c hbM0_0 (V m c main_arg5) ∗ hbPt0 c hbM0_1 (V m c main_arg6) ∗ hbPt0 c hbM0_2 (V m c main_arg7) ∗ hbPt0 c hbM0_3 (V m c main_arg9) ∗ hbPt0 c hbM0_4 (V m c main_arg10))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.1) ∗ owns (c : Thread nD τ) scM0_1 fullShare ((outsAt0 m c (n - 1) (by omega)).2.2.2.2.2.2.2.2.2.2.2.1) ∗ (∃ d, owns (c : Thread nD τ) scM0_2 fullShare d) ∗ owns (c : Thread nD τ) scM0_3 fullShare ((outsAt0 m c (n - 1) (by omega)).2.2.2.2.2.2.2.2.2.2.2.2.1) ∗ owns (c : Thread nD τ) scM0_4 fullShare ((outsAt0 m c (n - 1) (by omega)).2.2.2.2.2.2.2.2.2.2.2.2.2.1) ∗ owns (c : Thread nD τ) scM0_5 fullShare ((outsAt0 m c (n - 1) (by omega)).2.2.2.2.2.2.2.2.2.2.2.2.2.2)) ∗ (∃ r, prngReg c r) ∗ iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0) ∗ iprop(hbPt0 c hbM0_0 (V m c main_arg5) ∗ hbPt0 c hbM0_1 (V m c main_arg6) ∗ hbPt0 c hbM0_2 (V m c main_arg7) ∗ hbPt0 c hbM0_3 (V m c main_arg9) ∗ hbPt0 c hbM0_4 (V m c main_arg10))) := by
  cases n with
  | zero => exact absurd rfl hz
  | succ n => rfl

/-- The data of the pipeline: each input at its block, each output at what the points leave. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
    | ⟨15, _⟩ => (outsAt0 m c t.val t.isLt).2.2.2.2.2.1
    | ⟨16, _⟩ => (outsAt0 m c t.val t.isLt).2.2.2.2.2.2.1
    | ⟨17, _⟩ => (outsAt0 m c t.val t.isLt).2.2.2.2.2.2.2.1
    | ⟨18, _⟩ => (outsAt0 m c t.val t.isLt).2.2.2.2.2.2.2.2.1
    | ⟨19, _⟩ => (outsAt0 m c t.val t.isLt).2.2.2.2.2.2.2.2.2.1
    | ⟨_ + 20, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]
theorem after0_14 (c : Dev nD) (t : Fin cfg0.N) : (dats m 0 c).after 14 t = (outsAt0 m c t.val t.isLt).2.2.2.2.1 := by dsimp only [dats]
theorem after0_15 (c : Dev nD) (t : Fin cfg0.N) : (dats m 0 c).after 15 t = (outsAt0 m c t.val t.isLt).2.2.2.2.2.1 := by dsimp only [dats]
theorem after0_16 (c : Dev nD) (t : Fin cfg0.N) : (dats m 0 c).after 16 t = (outsAt0 m c t.val t.isLt).2.2.2.2.2.2.1 := by dsimp only [dats]
theorem after0_17 (c : Dev nD) (t : Fin cfg0.N) : (dats m 0 c).after 17 t = (outsAt0 m c t.val t.isLt).2.2.2.2.2.2.2.1 := by dsimp only [dats]
theorem after0_18 (c : Dev nD) (t : Fin cfg0.N) : (dats m 0 c).after 18 t = (outsAt0 m c t.val t.isLt).2.2.2.2.2.2.2.2.1 := by dsimp only [dats]
theorem after0_19 (c : Dev nD) (t : Fin cfg0.N) : (dats m 0 c).after 19 t = (outsAt0 m c t.val t.isLt).2.2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_15_B (c : Dev nD) (t : Fin cfg0.N) (h0 : ¬t.val % 16 = 0) (d) :
    (dats m 0 c).before 15 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16_B (c : Dev nD) (t : Fin cfg0.N) (h0 : ¬t.val % 16 = 0) (d) :
    (dats m 0 c).before 16 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17_B (c : Dev nD) (t : Fin cfg0.N) (h0 : ¬t.val % 16 = 0) (d) :
    (dats m 0 c).before 17 t d = (outsAt0 m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
theorem before0_18_B (c : Dev nD) (t : Fin cfg0.N) (h0 : ¬t.val % 16 = 0) (d) :
    (dats m 0 c).before 18 t d = (outsAt0 m c (t.val - 1) (Nat.lt_of_le_of_lt (Nat.sub_le _ _) t.isLt)).2.2.2.2.2.2.2.2.1 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]
theorem before0_19_B (c : Dev nD) (t : Fin cfg0.N) (h0 : ¬t.val % 16 = 0) (d) :
    (dats m 0 c).before 19 t d = (outsAt0 m c (t.val - 1) (Nat.lt_of_le_of_lt (Nat.sub_le _ _) t.isLt)).2.2.2.2.2.2.2.2.2.1 := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14, after0_15, after0_16, after0_17, after0_18, after0_19]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      dsimp only [oA]
      iintro ⟨⟨⟨HS0, HS1, HS2, HS3, HS4, HS5⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Hh0, Hh1, Hh2, Hh3, Hh4⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((rA m c t h0).2.2.2.2.2.2.2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      isplitl [HS1]; · iexact HS1
      isplitl [HS2]; · iexact HS2
      isplitl [HS3]; · iexact HS3
      isplitl [HS4]; · iexact HS4
      isplitl [HS5]; · iexact HS5
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hh0]; · iexact Hh0
      isplitl [Hh1]; · iexact Hh1
      isplitl [Hh2]; · iexact Hh2
      isplitl [Hh3]; · iexact Hh3
      isplitl [Hh4]; · iexact Hh4
      isplitl [HW]; · iexact HW
      iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%es0, HS0⟩, ⟨%es1, HS1⟩, ⟨%fT2, HS2⟩, ⟨%es3, HS3⟩, ⟨%es4, HS4⟩, ⟨%es5, HS5⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, ⟨%W', HW'⟩⟩
      isplitl [HS0 HS1 HS2 HS3 HS4 HS5 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hh0 Hh1 Hh2 Hh3 Hh4]
      · isplitl [HS0 HS1 HS2 HS3 HS4 HS5]
        · isplitl [HS0]
          · unfold owns; iexists _; isplitr
            swap; · iexact HS0
            ipureintro; exact View.read_writes_of_cover _ _ _ _ _ (scover0_A_0 m c t h0)
          isplitl [HS1]
          · unfold owns; iexists _; isplitr
            swap; · iexact HS1
            ipureintro; exact View.read_writes_of_cover _ _ _ _ _ (scover0_A_1 m c t h0)
          isplitl [HS2]
          · iexists _; unfold owns; iexists _; isplitr
            swap; · iexact HS2
            ipureintro; rfl
          isplitl [HS3]
          · unfold owns; iexists _; isplitr
            swap; · iexact HS3
            ipureintro; exact View.read_writes_of_cover _ _ _ _ _ (scover0_A_3 m c t h0)
          isplitl [HS4]
          · unfold owns; iexists _; isplitr
            swap; · iexact HS4
            ipureintro; exact View.read_writes_of_cover _ _ _ _ _ (scover0_A_4 m c t h0)
          unfold owns; iexists _; isplitr
          swap; · iexact HS5
          ipureintro; exact View.read_writes_of_cover _ _ _ _ _ (scover0_A_5 m c t h0)
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          isplitl [Hq23]; · iexact Hq23
          isplitl [Hq24]; · iexact Hq24
          iexact Hq25
        isplitl [Hh0]; · iexact Hh0
        isplitl [Hh1]; · iexact Hh1
        isplitl [Hh2]; · iexact Hh2
        isplitl [Hh3]; · iexact Hh3
        iexact Hh4
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_A_10 m c t h0)
      isplitl [H11]
      · unfold owns; iexists _; isplitr
        swap; · iexact H11
        ipureintro; exact View.read_writes_of_cover _ _ _ _ _ (cover0_A_11 m c t h0)
      isplitl [H12]
      · unfold owns; iexists _; isplitr
        swap; · iexact H12
        ipureintro; exact View.read_writes_of_cover _ _ _ _ _ (cover0_A_12 m c t h0)
      isplitl [H13]
      · unfold owns; iexists _; isplitr
        swap; · iexact H13
        ipureintro; exact View.read_writes_of_cover _ _ _ _ _ (cover0_A_13 m c t h0)
      isplitl [H14]
      · unfold owns; iexists _; isplitr
        swap; · iexact H14
        ipureintro; exact View.read_writes_of_cover _ _ _ _ _ (cover0_A_14 m c t h0)
      isplitl [H15]
      · unfold owns; iexists _; isplitr
        swap; · iexact H15
        ipureintro; exact View.read_writes_of_cover _ _ _ _ _ (cover0_A_15 m c t h0)
      isplitl [H16]
      · unfold owns; iexists _; isplitr
        swap; · iexact H16
        ipureintro; exact View.read_writes_of_cover _ _ _ _ _ (cover0_A_16 m c t h0)
      isplitl [H17]
      · unfold owns; iexists _; isplitr
        swap; · iexact H17
        ipureintro; exact View.read_writes_of_cover _ _ _ _ _ (cover0_A_17 m c t h0)
      isplitl [H18]
      · unfold owns; iexists _; isplitr
        swap; · iexact H18
        ipureintro; exact View.read_writes_of_cover _ _ _ _ _ (cover0_A_18 m c t h0)
      unfold owns; iexists _; isplitr
      swap; · iexact H19
      ipureintro; exact View.read_writes_of_cover _ _ _ _ _ (cover0_A_19 m c t h0)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_15_B m c t h0, before0_16_B m c t h0, before0_17_B m c t h0, before0_18_B m c t h0, before0_19_B m c t h0]
      dsimp only [oB]
      iintro ⟨⟨⟨HS0, HS1, HS2, HS3, HS4, HS5⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Hh0, Hh1, Hh2, Hh3, Hh4⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((rB m c t h0 (outsAt0 m c (t.val - 1) (Nat.lt_of_le_of_lt (Nat.sub_le _ _) t.isLt))).2.2.2.2.2.2.2.2.2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexact H15
      isplitl [H16]; · iexact H16
      isplitl [H17]; · iexact H17
      isplitl [H18]; · iexact H18
      isplitl [H19]; · iexact H19
      isplitl [HS0]; · iexact HS0
      isplitl [HS1]; · iexact HS1
      isplitl [HS2]; · iexact HS2
      isplitl [HS3]; · iexact HS3
      isplitl [HS4]; · iexact HS4
      isplitl [HS5]; · iexact HS5
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hh0]; · iexact Hh0
      isplitl [Hh1]; · iexact Hh1
      isplitl [Hh2]; · iexact Hh2
      isplitl [Hh3]; · iexact Hh3
      isplitl [Hh4]; · iexact Hh4
      isplitl [HW]; · iexact HW
      iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, HS0, HS1, ⟨%fT2, HS2⟩, HS3, HS4, HS5, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, ⟨%W', HW'⟩⟩
      isplitl [HS0 HS1 HS2 HS3 HS4 HS5 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hh0 Hh1 Hh2 Hh3 Hh4]
      · isplitl [HS0 HS1 HS2 HS3 HS4 HS5]
        · isplitl [HS0]; · iexact HS0
          isplitl [HS1]; · iexact HS1
          isplitl [HS2]
          · iexists _; unfold owns; iexists _; isplitr
            swap; · iexact HS2
            ipureintro; rfl
          isplitl [HS3]; · iexact HS3
          isplitl [HS4]; · iexact HS4
          iexact HS5
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          isplitl [Hq23]; · iexact Hq23
          isplitl [Hq24]; · iexact Hq24
          iexact Hq25
        isplitl [Hh0]; · iexact Hh0
        isplitl [Hh1]; · iexact Hh1
        isplitl [Hh2]; · iexact Hh2
        isplitl [Hh3]; · iexact Hh3
        iexact Hh4
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_B_10 m c t h0 _)
      isplitl [H11]
      · unfold owns; iexists _; isplitr
        swap; · iexact H11
        ipureintro; exact View.read_writes_of_cover _ _ _ _ _ (cover0_B_11 m c t h0 _)
      isplitl [H12]
      · unfold owns; iexists _; isplitr
        swap; · iexact H12
        ipureintro; exact View.read_writes_of_cover _ _ _ _ _ (cover0_B_12 m c t h0 _)
      isplitl [H13]
      · unfold owns; iexists _; isplitr
        swap; · iexact H13
        ipureintro; exact View.read_writes_of_cover _ _ _ _ _ (cover0_B_13 m c t h0 _)
      isplitl [H14]
      · unfold owns; iexists _; isplitr
        swap; · iexact H14
        ipureintro; exact View.read_writes_of_cover _ _ _ _ _ (cover0_B_14 m c t h0 _)
      isplitl [H15]
      · unfold owns; iexists _; isplitr
        swap; · iexact H15
        ipureintro; exact View.read_writes_of_cover _ _ _ _ _ (cover0_B_15 m c t h0 _)
      isplitl [H16]
      · unfold owns; iexists _; isplitr
        swap; · iexact H16
        ipureintro; exact View.read_writes_of_cover _ _ _ _ _ (cover0_B_16 m c t h0 _)
      isplitl [H17]
      · unfold owns; iexists _; isplitr
        swap; · iexact H17
        ipureintro; exact View.read_writes_of_cover _ _ _ _ _ (cover0_B_17 m c t h0 _)
      isplitl [H18]
      · unfold owns; iexists _; isplitr
        swap; · iexact H18
        ipureintro; exact View.read_writes_of_cover _ _ _ _ _ (cover0_B_18 m c t h0 _)
      unfold owns; iexists _; isplitr
      swap; · iexact H19
      ipureintro; exact View.read_writes_of_cover _ _ _ _ _ (cover0_B_19 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Hh0, Hh1, Hh2, Hh3, Hh4⟩⟩
  isplitl [HS0 HS1 HS2 HS3 HS4 HS5]
  · isplitl [HS0]
    · iexists _; iexact HS0
    isplitl [HS1]
    · iexists _; iexact HS1
    isplitl [HS2]
    · iexact HS2
    isplitl [HS3]
    · iexists _; iexact HS3
    isplitl [HS4]
    · iexists _; iexact HS4
    iexists _; iexact HS5
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    iexact Hq25
  isplitl [Hh0]; · iexact Hh0
  isplitl [Hh1]; · iexact Hh1
  isplitl [Hh2]; · iexact Hh2
  isplitl [Hh3]; · iexact Hh3
  iexact Hh4

theorem hout (c : Dev nD) : (dats m 0 c).Φ (Fin.last cfg0.N) ⊢ Pipeline.ΦD osem0 spec0 H0 (V m) c :=
  Phi_out m c _ (by rw [Fin.val_last]; have : cfg0.N = 16 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The call ends, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.MlpIdeal.Gen

end
-- ==== Proof.MlpBlk.lean ====
/- The dense layer with its backward pass: its arguments as the windows stage them, and the weights held in scratch. -/
module

public import proofs.«01_k».proof.Proof.MlpHeld
public import proofs.«01_k».proof.Proof.MlpFrame

@[expose] public section

set_option maxRecDepth 16384

noncomputable section

open Idealize.ShloMosaic Idealize.ShloMosaic.TcCoe Idealize.SL.Sem
open Idealize.ShloMosaic.Pipeline (Dat)

namespace Cert.MlpIdeal.Tiles

open Cert.MlpIdeal Cert.MlpIdeal.Gen Cert.Reals Cert.MlpRefIdeal.Read

variable (m : (ℓ : Loc nD τ sig) → Buf (Elt Ideal) ℓ)

/-- Argument 0 on a device. -/
abbrev A0 (c : Dev nD) : (⟨S4096x1024, .f32⟩ : BufTy).Contents (Elt Ideal) := m ((c : Thread nD τ).loc main_arg0)

/-- Argument 1 on a device. -/
abbrev A1 (c : Dev nD) : (⟨S4096x512, .f32⟩ : BufTy).Contents (Elt Ideal) := m ((c : Thread nD τ).loc main_arg1)

/-- Argument 2 on a device. -/
abbrev A2 (c : Dev nD) : (⟨S4096x512, .bf16⟩ : BufTy).Contents (Elt Ideal) := m ((c : Thread nD τ).loc main_arg2)

/-- Argument 3 on a device. -/
abbrev A3 (c : Dev nD) : (⟨S4096x2048, .f32⟩ : BufTy).Contents (Elt Ideal) := m ((c : Thread nD τ).loc main_arg3)

/-- Argument 4 on a device. -/
abbrev A4 (c : Dev nD) : (⟨S2048, .f32⟩ : BufTy).Contents (Elt Ideal) := m ((c : Thread nD τ).loc main_arg4)

/-- Argument 5 on a device. -/
abbrev A5 (c : Dev nD) : (⟨S8x512x128, .bf16⟩ : BufTy).Contents (Elt Ideal) := m ((c : Thread nD τ).loc main_arg5)

/-- Argument 6 on a device. -/
abbrev A6 (c : Dev nD) : (⟨S8x512x128, .bf16⟩ : BufTy).Contents (Elt Ideal) := m ((c : Thread nD τ).loc main_arg6)

/-- Argument 7 on a device. -/
abbrev A7 (c : Dev nD) : (⟨S1024x1024, .bf16⟩ : BufTy).Contents (Elt Ideal) := m ((c : Thread nD τ).loc main_arg7)

/-- Argument 8 on a device. -/
abbrev A8 (c : Dev nD) : (⟨S4096x1024, .f32⟩ : BufTy).Contents (Elt Ideal) := m ((c : Thread nD τ).loc main_arg8)

/-- Argument 9 on a device. -/
abbrev A9 (c : Dev nD) : (⟨S8x1024x512, .bf16⟩ : BufTy).Contents (Elt Ideal) := m ((c : Thread nD τ).loc main_arg9)

/-- Argument 10 on a device. -/
abbrev A10 (c : Dev nD) : (⟨S4096x1024, .bf16⟩ : BufTy).Contents (Elt Ideal) := m ((c : Thread nD τ).loc main_arg10)

/-- Argument 11 on a device. -/
abbrev A11 (c : Dev nD) : (⟨S1024, .f32⟩ : BufTy).Contents (Elt Ideal) := m ((c : Thread nD τ).loc main_arg11)

/-- Argument 12 on a device. -/
abbrev A12 (c : Dev nD) : (⟨S1024, .f32⟩ : BufTy).Contents (Elt Ideal) := m ((c : Thread nD τ).loc main_arg12)

/-- Argument 13 on a device. -/
abbrev A13 (c : Dev nD) : (⟨S1024, .f32⟩ : BufTy).Contents (Elt Ideal) := m ((c : Thread nD τ).loc main_arg13)

/-- Argument 14 on a device. -/
abbrev A14 (c : Dev nD) : (⟨S1024, .f32⟩ : BufTy).Contents (Elt Ideal) := m ((c : Thread nD τ).loc main_arg14)

/-- Every window's block index at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![0, 0] ∧ win0_16.index t = ![0, 0] ∧ win0_17.index t = ![0, 0] ∧ win0_18.index t = ![0, 0] ∧ win0_19.index t = ![0, 0] :=
  (by decide +kernel : ∀ t : Fin grid0.N, _)

variable (c : Dev nD) (t : Fin cfg0.N)

theorem blk0 : iblk m c 0 t = tl1024 t (A0 m c) := by
  funext i
  blk_point [iblk, V, idx t, row]

theorem blk1 : iblk m c 1 t = tl512 t (A1 m c) := by
  funext i
  blk_point [iblk, V, idx t, row]

theorem blk2 : iblk m c 2 t = tl512 t (A2 m c) := by
  funext i
  blk_point [iblk, V, idx t, row]

theorem blk3 : iblk m c 3 t = tl2048 t (A3 m c) := by
  funext i
  blk_point [iblk, V, idx t, row]

theorem blk5 : iblk m c 5 t = tl1024 t (A8 m c) := by
  funext i
  blk_point [iblk, V, idx t, row]

theorem blk4 : iblk m c 4 t = rw2048 (A4 m c) := by
  funext i
  blk_simp [iblk, V, idx t]
  entry_read
  pointwise
  blk_ext [idx t]

theorem blk6 : iblk m c 6 t = rw1024 (A11 m c) := by
  funext i
  blk_simp [iblk, V, idx t]
  entry_read
  pointwise
  blk_ext [idx t]

theorem blk7 : iblk m c 7 t = rw1024 (A12 m c) := by
  funext i
  blk_simp [iblk, V, idx t]
  entry_read
  pointwise
  blk_ext [idx t]

theorem blk8 : iblk m c 8 t = rw1024 (A13 m c) := by
  funext i
  blk_simp [iblk, V, idx t]
  entry_read
  pointwise
  blk_ext [idx t]

theorem blk9 : iblk m c 9 t = rw1024 (A14 m c) := by
  funext i
  blk_simp [iblk, V, idx t]
  entry_read
  pointwise
  blk_ext [idx t]

theorem held_A0 (h0 : t.val % 16 = 0) : (outsAt0 m c t.val t.isLt).2.2.2.2.2.2.2.2.2.2.1 = (val_main_v2 (F := Ideal) (A9 m c)) := by
  rw [outsAt0_A m c t h0]
  dsimp only [oA, rA]
  frame_out
  exact slabs_wide _

theorem held_A1 (h0 : t.val % 16 = 0) : (outsAt0 m c t.val t.isLt).2.2.2.2.2.2.2.2.2.2.2.1 = A10 m c := by
  rw [outsAt0_A m c t h0]
  dsimp only [oA, rA]
  frame_out
  exact whole_back _

theorem held_A2 (h0 : t.val % 16 = 0) : (outsAt0 m c t.val t.isLt).2.2.2.2.2.2.2.2.2.2.2.2.1 = (val_main_v9 (F := Ideal) (A5 m c)) := by
  rw [outsAt0_A m c t h0]
  dsimp only [oA, rA]
  frame_out
  exact slabs_side _

theorem held_A3 (h0 : t.val % 16 = 0) : (outsAt0 m c t.val t.isLt).2.2.2.2.2.2.2.2.2.2.2.2.2.1 = (val_main_v14 (F := Ideal) (A6 m c)) := by
  rw [outsAt0_A m c t h0]
  dsimp only [oA, rA]
  frame_out
  exact slabs_cross _

theorem held_A4 (h0 : t.val % 16 = 0) : (outsAt0 m c t.val t.isLt).2.2.2.2.2.2.2.2.2.2.2.2.2.2 = A7 m c := by
  rw [outsAt0_A m c t h0]
  dsimp only [oA, rA]
  frame_out
  exact whole_gate _

/-- The weights stay in their scratches. -/
theorem kept (c : Dev nD) : ∀ (n : ℕ) (hn : n < cfg0.N), (outsAt0 m c n hn).2.2.2.2.2.2.2.2.2.2.1 = (val_main_v2 (F := Ideal) (A9 m c)) ∧ (outsAt0 m c n hn).2.2.2.2.2.2.2.2.2.2.2.1 = A10 m c ∧ (outsAt0 m c n hn).2.2.2.2.2.2.2.2.2.2.2.2.1 = (val_main_v9 (F := Ideal) (A5 m c)) ∧ (outsAt0 m c n hn).2.2.2.2.2.2.2.2.2.2.2.2.2.1 = (val_main_v14 (F := Ideal) (A6 m c)) ∧ (outsAt0 m c n hn).2.2.2.2.2.2.2.2.2.2.2.2.2.2 = A7 m c := by
  intro n
  induction n with
  | zero =>
    intro hn
    have h := And.intro (held_A0 m c ⟨0, hn⟩ (Nat.zero_mod 16)) (And.intro (held_A1 m c ⟨0, hn⟩ (Nat.zero_mod 16)) (And.intro (held_A2 m c ⟨0, hn⟩ (Nat.zero_mod 16)) (And.intro (held_A3 m c ⟨0, hn⟩ (Nat.zero_mod 16)) (held_A4 m c ⟨0, hn⟩ (Nat.zero_mod 16)))))
    dsimp only at h
    exact h
  | succ n ih =>
    intro hn
    have hN : n + 1 < 16 := lt_of_lt_of_eq hn N_0
    have h := ih (Nat.lt_of_succ_lt hn)
    rw [outsAt0_B m c ⟨n + 1, hn⟩ (by show ¬ (n + 1) % 16 = 0; omega)]
    dsimp only [oB]
    exact h

/-- A weight read whole. -/
theorem ld_wide (inb) : View.ld (Val := Elt Ideal) (e' := .bf16) (S := S1024x4096) ((val_main_v2 (F := Ideal) (A9 m c))) (Rect.unit ![0, 0] ![1024, 4096] inb) = (val_main_v2 (F := Ideal) (A9 m c)) := by
  funext j
  exact congrFun (View.ld_unit_lit' (Val := Elt Ideal) (e := .bf16) (S := S1024x4096) inb ((val_main_v2 (F := Ideal) (A9 m c))) (by decide)) j

/-- A weight read whole. -/
theorem ld_back (inb) : View.ld (Val := Elt Ideal) (e' := .bf16) (S := S4096x1024) (A10 m c) (Rect.unit ![0, 0] ![4096, 1024] inb) = A10 m c := by
  funext j
  exact congrFun (View.ld_unit_lit' (Val := Elt Ideal) (e := .bf16) (S := S4096x1024) inb (A10 m c) (by decide)) j

/-- A weight read whole. -/
theorem ld_side (inb) : View.ld (Val := Elt Ideal) (e' := .bf16) (S := S512x1024) ((val_main_v9 (F := Ideal) (A5 m c))) (Rect.unit ![0, 0] ![512, 1024] inb) = (val_main_v9 (F := Ideal) (A5 m c)) := by
  funext j
  exact congrFun (View.ld_unit_lit' (Val := Elt Ideal) (e := .bf16) (S := S512x1024) inb ((val_main_v9 (F := Ideal) (A5 m c))) (by decide)) j

/-- A weight read whole. -/
theorem ld_cross (inb) : View.ld (Val := Elt Ideal) (e' := .bf16) (S := S512x1024) ((val_main_v14 (F := Ideal) (A6 m c))) (Rect.unit ![0, 0] ![512, 1024] inb) = (val_main_v14 (F := Ideal) (A6 m c)) := by
  funext j
  exact congrFun (View.ld_unit_lit' (Val := Elt Ideal) (e := .bf16) (S := S512x1024) inb ((val_main_v14 (F := Ideal) (A6 m c))) (by decide)) j

/-- A weight read whole. -/
theorem ld_gate (inb) : View.ld (Val := Elt Ideal) (e' := .bf16) (S := S1024x1024) (A7 m c) (Rect.unit ![0, 0] ![1024, 1024] inb) = A7 m c := by
  funext j
  exact congrFun (View.ld_unit_lit' (Val := Elt Ideal) (e := .bf16) (S := S1024x1024) inb (A7 m c) (by decide)) j

end Cert.MlpIdeal.Tiles
end
-- ==== Proof.MlpOutA1.lean ====
/- The dense layer with its backward pass: what the first point leaves in each result. -/
module

public import proofs.«01_k».proof.Proof.MlpBlk

@[expose] public section

set_option maxRecDepth 16384

noncomputable section

open Idealize.ShloMosaic Idealize.ShloMosaic.TcCoe Idealize.SL.Sem
open Idealize.ShloMosaic.Pipeline (Dat)

namespace Cert.MlpIdeal.Tiles

open Cert.MlpIdeal Cert.MlpIdeal.Gen Cert.Reals Cert.MlpRefIdeal.Read

variable (m : (ℓ : Loc nD τ sig) → Buf (Elt Ideal) ℓ) (c : Dev nD) (t : Fin cfg0.N)

set_option maxHeartbeats 1600000 in
/-- The block result 0 holds after the first point. -/
theorem out_a_A  (h0 : t.val % 16 = 0) : (outsAt0 m c t.val t.isLt).1 = tl4096 t (val_main_v191 (F := Ideal) (A0 m c) (A1 m c) (A2 m c) (A3 m c) (A4 m c) (A5 m c) (A6 m c) (A7 m c) (A9 m c) (A11 m c) (A12 m c)) := by
  rw [outsAt0_A m c t h0]
  dsimp only [oA, rA]
  frame_out
  repeat rw [read_side]
  repeat rw [read_cross]
  repeat rw [read_gate]
  repeat rw [read_wide]
  repeat rw [read_back]
  try rw [show V m c main_arg5 = A5 m c from rfl]
  try rw [show V m c main_arg6 = A6 m c from rfl]
  try rw [show V m c main_arg7 = A7 m c from rfl]
  try rw [show V m c main_arg9 = A9 m c from rfl]
  try rw [show V m c main_arg10 = A10 m c from rfl]
  try rw [ld_wide]
  try rw [ld_back]
  try rw [ld_side]
  try rw [ld_cross]
  try rw [ld_gate]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [squares (A0 m c) (A1 m c) (A2 m c) (A3 m c) (A4 m c) (A5 m c) (A6 m c) (A7 m c) (A9 m c) (A11 m c) (A12 m c) t]
  try rfl

set_option maxHeartbeats 1600000 in
/-- The block result 1 holds after the first point. -/
theorem out_x_A  (h0 : t.val % 16 = 0) : (outsAt0 m c t.val t.isLt).2.1 = tl1024 t (val_main_v192 (F := Ideal) (A0 m c) (A1 m c) (A2 m c) (A3 m c) (A4 m c) (A5 m c) (A6 m c) (A7 m c) (A11 m c) (A12 m c)) := by
  rw [outsAt0_A m c t h0]
  dsimp only [oA, rA]
  frame_out
  repeat rw [read_side]
  repeat rw [read_cross]
  repeat rw [read_gate]
  repeat rw [read_wide]
  repeat rw [read_back]
  try rw [show V m c main_arg5 = A5 m c from rfl]
  try rw [show V m c main_arg6 = A6 m c from rfl]
  try rw [show V m c main_arg7 = A7 m c from rfl]
  try rw [show V m c main_arg9 = A9 m c from rfl]
  try rw [show V m c main_arg10 = A10 m c from rfl]
  try rw [ld_wide]
  try rw [ld_back]
  try rw [ld_side]
  try rw [ld_cross]
  try rw [ld_gate]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rfl

set_option maxHeartbeats 1600000 in
/-- The block result 3 holds after the first point. -/
theorem out_d2_A (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (h0 : t.val % 16 = 0) : (outsAt0 m c t.val t.isLt).2.2.2.1 = tl1024 t (val_main_v194 (F := Ideal) (A0 m c) (A1 m c) (A2 m c) (A3 m c) (A4 m c) (A5 m c) (A6 m c) (A7 m c) (A8 m c) (A9 m c) (A10 m c) (A11 m c) (A12 m c) (A13 m c) (A14 m c)) := by
  rw [outsAt0_A m c t h0]
  dsimp only [oA, rA]
  frame_out
  repeat rw [read_side]
  repeat rw [read_cross]
  repeat rw [read_gate]
  repeat rw [read_wide]
  repeat rw [read_back]
  try rw [show V m c main_arg5 = A5 m c from rfl]
  try rw [show V m c main_arg6 = A6 m c from rfl]
  try rw [show V m c main_arg7 = A7 m c from rfl]
  try rw [show V m c main_arg9 = A9 m c from rfl]
  try rw [show V m c main_arg10 = A10 m c from rfl]
  try rw [ld_wide]
  try rw [ld_back]
  try rw [ld_side]
  try rw [ld_cross]
  try rw [ld_gate]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [rstd2 (A0 m c) (A1 m c) (A2 m c) (A3 m c) (A4 m c) (A5 m c) (A6 m c) (A7 m c) (A9 m c) (A10 m c) (A11 m c) (A12 m c) t]
  try rw [xhat2 (A0 m c) (A1 m c) (A2 m c) (A3 m c) (A4 m c) (A5 m c) (A6 m c) (A7 m c) (A9 m c) (A10 m c) (A11 m c) (A12 m c) t]
  try rw [dnorm2 (A0 m c) (A1 m c) (A2 m c) (A3 m c) (A4 m c) (A5 m c) (A6 m c) (A7 m c) (A8 m c) (A9 m c) (A10 m c) (A11 m c) (A12 m c) (A13 m c) (A14 m c) t]
  try rw [du2b (A0 m c) (A1 m c) (A2 m c) (A3 m c) (A4 m c) (A5 m c) (A6 m c) (A7 m c) (A8 m c) (A9 m c) (A10 m c) (A11 m c) (A12 m c) (A13 m c) (A14 m c) t hu hd]
  try rfl

end Cert.MlpIdeal.Tiles
end
-- ==== Proof.MlpOutA2.lean ====
/- The dense layer with its backward pass: what the first point leaves in each result. -/
module

public import proofs.«01_k».proof.Proof.MlpBlk

@[expose] public section

set_option maxRecDepth 16384

noncomputable section

open Idealize.ShloMosaic Idealize.ShloMosaic.TcCoe Idealize.SL.Sem
open Idealize.ShloMosaic.Pipeline (Dat)

namespace Cert.MlpIdeal.Tiles

open Cert.MlpIdeal Cert.MlpIdeal.Gen Cert.Reals Cert.MlpRefIdeal.Read

variable (m : (ℓ : Loc nD τ sig) → Buf (Elt Ideal) ℓ) (c : Dev nD) (t : Fin cfg0.N)

set_option maxHeartbeats 1600000 in
/-- The block result 2 holds after the first point. -/
theorem out_dh_A (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (h0 : t.val % 16 = 0) : (outsAt0 m c t.val t.isLt).2.2.1 = tl4096 t (val_main_v193 (F := Ideal) (A0 m c) (A1 m c) (A2 m c) (A3 m c) (A4 m c) (A5 m c) (A6 m c) (A7 m c) (A8 m c) (A9 m c) (A10 m c) (A11 m c) (A12 m c) (A13 m c) (A14 m c)) := by
  rw [outsAt0_A m c t h0]
  dsimp only [oA, rA]
  frame_out
  repeat rw [read_side]
  repeat rw [read_cross]
  repeat rw [read_gate]
  repeat rw [read_wide]
  repeat rw [read_back]
  try rw [show V m c main_arg5 = A5 m c from rfl]
  try rw [show V m c main_arg6 = A6 m c from rfl]
  try rw [show V m c main_arg7 = A7 m c from rfl]
  try rw [show V m c main_arg9 = A9 m c from rfl]
  try rw [show V m c main_arg10 = A10 m c from rfl]
  try rw [ld_wide]
  try rw [ld_back]
  try rw [ld_side]
  try rw [ld_cross]
  try rw [ld_gate]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [rstd2 (A0 m c) (A1 m c) (A2 m c) (A3 m c) (A4 m c) (A5 m c) (A6 m c) (A7 m c) (A9 m c) (A10 m c) (A11 m c) (A12 m c) t]
  try rw [xhat2 (A0 m c) (A1 m c) (A2 m c) (A3 m c) (A4 m c) (A5 m c) (A6 m c) (A7 m c) (A9 m c) (A10 m c) (A11 m c) (A12 m c) t]
  try rw [dnorm2 (A0 m c) (A1 m c) (A2 m c) (A3 m c) (A4 m c) (A5 m c) (A6 m c) (A7 m c) (A8 m c) (A9 m c) (A10 m c) (A11 m c) (A12 m c) (A13 m c) (A14 m c) t]
  repeat rw [read_rects (A0 m c) (A1 m c) (A2 m c) (A3 m c) (A4 m c) (A5 m c) (A6 m c) (A7 m c) (A9 m c) (A11 m c) (A12 m c) t]
  try rw [grads (A0 m c) (A1 m c) (A2 m c) (A3 m c) (A4 m c) (A5 m c) (A6 m c) (A7 m c) (A8 m c) (A9 m c) (A10 m c) (A11 m c) (A12 m c) (A13 m c) (A14 m c) t hu hd]
  try rfl

set_option maxHeartbeats 1600000 in
/-- The block result 4 holds after the first point. -/
theorem out_d1_A (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (hu1 : ∀ i, Rl ((val_main_v31 (F := Ideal) (A0 m c) (A1 m c) (A2 m c) (A3 m c) (A4 m c) (A5 m c) (A6 m c) (A7 m c)) i)) (hd1 : ∀ i, Rl ((val_main_v165 (F := Ideal) (A0 m c) (A1 m c) (A2 m c) (A3 m c) (A4 m c) (A5 m c) (A6 m c) (A7 m c) (A8 m c) (A9 m c) (A10 m c) (A11 m c) (A12 m c) (A13 m c) (A14 m c)) i)) (h0 : t.val % 16 = 0) : (outsAt0 m c t.val t.isLt).2.2.2.2.1 = tl1024 t (val_main_v190 (F := Ideal) (A0 m c) (A1 m c) (A2 m c) (A3 m c) (A4 m c) (A5 m c) (A6 m c) (A7 m c) (A8 m c) (A9 m c) (A10 m c) (A11 m c) (A12 m c) (A13 m c) (A14 m c)) := by
  rw [outsAt0_A m c t h0]
  dsimp only [oA, rA]
  frame_out
  repeat rw [read_side]
  repeat rw [read_cross]
  repeat rw [read_gate]
  repeat rw [read_wide]
  repeat rw [read_back]
  try rw [show V m c main_arg5 = A5 m c from rfl]
  try rw [show V m c main_arg6 = A6 m c from rfl]
  try rw [show V m c main_arg7 = A7 m c from rfl]
  try rw [show V m c main_arg9 = A9 m c from rfl]
  try rw [show V m c main_arg10 = A10 m c from rfl]
  try rw [ld_wide]
  try rw [ld_back]
  try rw [ld_side]
  try rw [ld_cross]
  try rw [ld_gate]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [rstd2 (A0 m c) (A1 m c) (A2 m c) (A3 m c) (A4 m c) (A5 m c) (A6 m c) (A7 m c) (A9 m c) (A10 m c) (A11 m c) (A12 m c) t]
  try rw [xhat2 (A0 m c) (A1 m c) (A2 m c) (A3 m c) (A4 m c) (A5 m c) (A6 m c) (A7 m c) (A9 m c) (A10 m c) (A11 m c) (A12 m c) t]
  try rw [dnorm2 (A0 m c) (A1 m c) (A2 m c) (A3 m c) (A4 m c) (A5 m c) (A6 m c) (A7 m c) (A8 m c) (A9 m c) (A10 m c) (A11 m c) (A12 m c) (A13 m c) (A14 m c) t]
  try rw [du2 (A0 m c) (A1 m c) (A2 m c) (A3 m c) (A4 m c) (A5 m c) (A6 m c) (A7 m c) (A8 m c) (A9 m c) (A10 m c) (A11 m c) (A12 m c) (A13 m c) (A14 m c) t hu hd]
  repeat rw [read_rects (A0 m c) (A1 m c) (A2 m c) (A3 m c) (A4 m c) (A5 m c) (A6 m c) (A7 m c) (A9 m c) (A11 m c) (A12 m c) t]
  try rw [read_grads (A0 m c) (A1 m c) (A2 m c) (A3 m c) (A4 m c) (A5 m c) (A6 m c) (A7 m c) (A8 m c) (A9 m c) (A10 m c) (A11 m c) (A12 m c) (A13 m c) (A14 m c) t hu hd]
  try rw [dx1 (A0 m c) (A1 m c) (A2 m c) (A3 m c) (A4 m c) (A5 m c) (A6 m c) (A7 m c) (A8 m c) (A9 m c) (A10 m c) (A11 m c) (A12 m c) (A13 m c) (A14 m c) t]
  try rw [rstd1 (A0 m c) (A1 m c) (A2 m c) (A3 m c) (A4 m c) (A5 m c) (A6 m c) (A7 m c) t]
  try rw [du1 (A0 m c) (A1 m c) (A2 m c) (A3 m c) (A4 m c) (A5 m c) (A6 m c) (A7 m c) (A8 m c) (A9 m c) (A10 m c) (A11 m c) (A12 m c) (A13 m c) (A14 m c) t hu1 hd1]
  try rfl

end Cert.MlpIdeal.Tiles
end
-- ==== Proof.MlpOutA3.lean ====
/- The dense layer with its backward pass: what the first point leaves in each result. -/
module

public import proofs.«01_k».proof.Proof.MlpBlk

@[expose] public section

set_option maxRecDepth 16384

noncomputable section

open Idealize.ShloMosaic Idealize.ShloMosaic.TcCoe Idealize.SL.Sem
open Idealize.ShloMosaic.Pipeline (Dat)

namespace Cert.MlpIdeal.Tiles

open Cert.MlpIdeal Cert.MlpIdeal.Gen Cert.Reals Cert.MlpRefIdeal.Read

variable (m : (ℓ : Loc nD τ sig) → Buf (Elt Ideal) ℓ) (c : Dev nD) (t : Fin cfg0.N)

set_option maxHeartbeats 1600000 in
/-- The block result 5 holds after the first point. -/
theorem out_loss_A  (h0 : t.val % 16 = 0) : (outsAt0 m c t.val t.isLt).2.2.2.2.2.1 = fun i => (0 : EReal) + Ideal.ofBits .f32 0x3F000000#32 * ∑ r : Fin 256, (val_main_v108 (F := Ideal) (A0 m c) (A1 m c) (A2 m c) (A3 m c) (A4 m c) (A5 m c) (A6 m c) (A7 m c) (A8 m c) (A9 m c) (A10 m c) (A11 m c) (A12 m c) (A13 m c) (A14 m c)) (ix1 (row t r)) := by
  rw [outsAt0_A m c t h0]
  dsimp only [oA, rA]
  frame_out
  repeat rw [read_side]
  repeat rw [read_cross]
  repeat rw [read_gate]
  repeat rw [read_wide]
  repeat rw [read_back]
  try rw [show V m c main_arg5 = A5 m c from rfl]
  try rw [show V m c main_arg6 = A6 m c from rfl]
  try rw [show V m c main_arg7 = A7 m c from rfl]
  try rw [show V m c main_arg9 = A9 m c from rfl]
  try rw [show V m c main_arg10 = A10 m c from rfl]
  try rw [ld_wide]
  try rw [ld_back]
  try rw [ld_side]
  try rw [ld_cross]
  try rw [ld_gate]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [addLoss (A0 m c) (A1 m c) (A2 m c) (A3 m c) (A4 m c) (A5 m c) (A6 m c) (A7 m c) (A8 m c) (A9 m c) (A10 m c) (A11 m c) (A12 m c) (A13 m c) (A14 m c) t]
  funext i
  refine congrArg (fun a : EReal => a + _) ?_
  unfold k0_pay3
  pointwise

set_option maxHeartbeats 1600000 in
/-- The block result 6 holds after the first point. -/
theorem out_g2_A  (h0 : t.val % 16 = 0) : (outsAt0 m c t.val t.isLt).2.2.2.2.2.2.1 = fun i => (0 : EReal) + ∑ r : Fin 256, (val_main_v120 (F := Ideal) (A0 m c) (A1 m c) (A2 m c) (A3 m c) (A4 m c) (A5 m c) (A6 m c) (A7 m c) (A8 m c) (A9 m c) (A10 m c) (A11 m c) (A12 m c) (A13 m c) (A14 m c)) (ix2 (row t r) (i 1)) := by
  rw [outsAt0_A m c t h0]
  dsimp only [oA, rA]
  frame_out
  repeat rw [read_side]
  repeat rw [read_cross]
  repeat rw [read_gate]
  repeat rw [read_wide]
  repeat rw [read_back]
  try rw [show V m c main_arg5 = A5 m c from rfl]
  try rw [show V m c main_arg6 = A6 m c from rfl]
  try rw [show V m c main_arg7 = A7 m c from rfl]
  try rw [show V m c main_arg9 = A9 m c from rfl]
  try rw [show V m c main_arg10 = A10 m c from rfl]
  try rw [ld_wide]
  try rw [ld_back]
  try rw [ld_side]
  try rw [ld_cross]
  try rw [ld_gate]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [rstd2 (A0 m c) (A1 m c) (A2 m c) (A3 m c) (A4 m c) (A5 m c) (A6 m c) (A7 m c) (A9 m c) (A10 m c) (A11 m c) (A12 m c) t]
  try rw [xhat2 (A0 m c) (A1 m c) (A2 m c) (A3 m c) (A4 m c) (A5 m c) (A6 m c) (A7 m c) (A9 m c) (A10 m c) (A11 m c) (A12 m c) t]
  try rw [addG2 (A0 m c) (A1 m c) (A2 m c) (A3 m c) (A4 m c) (A5 m c) (A6 m c) (A7 m c) (A8 m c) (A9 m c) (A10 m c) (A11 m c) (A12 m c) (A13 m c) (A14 m c) t]
  funext i
  refine congrArg (fun a : EReal => a + _) ?_
  unfold k0_pay4
  pointwise

set_option maxHeartbeats 1600000 in
/-- The block result 7 holds after the first point. -/
theorem out_b2_A  (h0 : t.val % 16 = 0) : (outsAt0 m c t.val t.isLt).2.2.2.2.2.2.2.1 = fun i => (0 : EReal) + ∑ r : Fin 256, (val_main_v116 (F := Ideal) (A0 m c) (A1 m c) (A2 m c) (A3 m c) (A4 m c) (A5 m c) (A6 m c) (A7 m c) (A8 m c) (A9 m c) (A10 m c) (A11 m c) (A12 m c) (A13 m c) (A14 m c)) (ix2 (row t r) (i 1)) := by
  rw [outsAt0_A m c t h0]
  dsimp only [oA, rA]
  frame_out
  repeat rw [read_side]
  repeat rw [read_cross]
  repeat rw [read_gate]
  repeat rw [read_wide]
  repeat rw [read_back]
  try rw [show V m c main_arg5 = A5 m c from rfl]
  try rw [show V m c main_arg6 = A6 m c from rfl]
  try rw [show V m c main_arg7 = A7 m c from rfl]
  try rw [show V m c main_arg9 = A9 m c from rfl]
  try rw [show V m c main_arg10 = A10 m c from rfl]
  try rw [ld_wide]
  try rw [ld_back]
  try rw [ld_side]
  try rw [ld_cross]
  try rw [ld_gate]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [addB2 (A0 m c) (A1 m c) (A2 m c) (A3 m c) (A4 m c) (A5 m c) (A6 m c) (A7 m c) (A8 m c) (A9 m c) (A10 m c) (A11 m c) (A12 m c) (A13 m c) (A14 m c) t]
  funext i
  refine congrArg (fun a : EReal => a + _) ?_
  unfold k0_pay5
  pointwise

set_option maxHeartbeats 1600000 in
/-- The block result 8 holds after the first point. -/
theorem out_g1_A (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (h0 : t.val % 16 = 0) : (outsAt0 m c t.val t.isLt).2.2.2.2.2.2.2.2.1 = fun i => (0 : EReal) + ∑ r : Fin 256, (val_main_v161 (F := Ideal) (A0 m c) (A1 m c) (A2 m c) (A3 m c) (A4 m c) (A5 m c) (A6 m c) (A7 m c) (A8 m c) (A9 m c) (A10 m c) (A11 m c) (A12 m c) (A13 m c) (A14 m c)) (ix2 (row t r) (i 1)) := by
  rw [outsAt0_A m c t h0]
  dsimp only [oA, rA]
  frame_out
  repeat rw [read_side]
  repeat rw [read_cross]
  repeat rw [read_gate]
  repeat rw [read_wide]
  repeat rw [read_back]
  try rw [show V m c main_arg5 = A5 m c from rfl]
  try rw [show V m c main_arg6 = A6 m c from rfl]
  try rw [show V m c main_arg7 = A7 m c from rfl]
  try rw [show V m c main_arg9 = A9 m c from rfl]
  try rw [show V m c main_arg10 = A10 m c from rfl]
  try rw [ld_wide]
  try rw [ld_back]
  try rw [ld_side]
  try rw [ld_cross]
  try rw [ld_gate]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [rstd2 (A0 m c) (A1 m c) (A2 m c) (A3 m c) (A4 m c) (A5 m c) (A6 m c) (A7 m c) (A9 m c) (A10 m c) (A11 m c) (A12 m c) t]
  try rw [xhat2 (A0 m c) (A1 m c) (A2 m c) (A3 m c) (A4 m c) (A5 m c) (A6 m c) (A7 m c) (A9 m c) (A10 m c) (A11 m c) (A12 m c) t]
  try rw [dnorm2 (A0 m c) (A1 m c) (A2 m c) (A3 m c) (A4 m c) (A5 m c) (A6 m c) (A7 m c) (A8 m c) (A9 m c) (A10 m c) (A11 m c) (A12 m c) (A13 m c) (A14 m c) t]
  try rw [du2 (A0 m c) (A1 m c) (A2 m c) (A3 m c) (A4 m c) (A5 m c) (A6 m c) (A7 m c) (A8 m c) (A9 m c) (A10 m c) (A11 m c) (A12 m c) (A13 m c) (A14 m c) t hu hd]
  repeat rw [read_rects (A0 m c) (A1 m c) (A2 m c) (A3 m c) (A4 m c) (A5 m c) (A6 m c) (A7 m c) (A9 m c) (A11 m c) (A12 m c) t]
  try rw [read_grads (A0 m c) (A1 m c) (A2 m c) (A3 m c) (A4 m c) (A5 m c) (A6 m c) (A7 m c) (A8 m c) (A9 m c) (A10 m c) (A11 m c) (A12 m c) (A13 m c) (A14 m c) t hu hd]
  try rw [addG1 (A0 m c) (A1 m c) (A2 m c) (A3 m c) (A4 m c) (A5 m c) (A6 m c) (A7 m c) (A8 m c) (A9 m c) (A10 m c) (A11 m c) (A12 m c) (A13 m c) (A14 m c) t]
  funext i
  refine congrArg (fun a : EReal => a + _) ?_
  unfold k0_pay6
  pointwise

set_option maxHeartbeats 1600000 in
/-- The block result 9 holds after the first point. -/
theorem out_b1_A (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (h0 : t.val % 16 = 0) : (outsAt0 m c t.val t.isLt).2.2.2.2.2.2.2.2.2.1 = fun i => (0 : EReal) + ∑ r : Fin 256, (val_main_v157 (F := Ideal) (A0 m c) (A1 m c) (A2 m c) (A3 m c) (A4 m c) (A5 m c) (A6 m c) (A7 m c) (A8 m c) (A9 m c) (A10 m c) (A11 m c) (A12 m c) (A13 m c) (A14 m c)) (ix2 (row t r) (i 1)) := by
  rw [outsAt0_A m c t h0]
  dsimp only [oA, rA]
  frame_out
  repeat rw [read_side]
  repeat rw [read_cross]
  repeat rw [read_gate]
  repeat rw [read_wide]
  repeat rw [read_back]
  try rw [show V m c main_arg5 = A5 m c from rfl]
  try rw [show V m c main_arg6 = A6 m c from rfl]
  try rw [show V m c main_arg7 = A7 m c from rfl]
  try rw [show V m c main_arg9 = A9 m c from rfl]
  try rw [show V m c main_arg10 = A10 m c from rfl]
  try rw [ld_wide]
  try rw [ld_back]
  try rw [ld_side]
  try rw [ld_cross]
  try rw [ld_gate]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [rstd2 (A0 m c) (A1 m c) (A2 m c) (A3 m c) (A4 m c) (A5 m c) (A6 m c) (A7 m c) (A9 m c) (A10 m c) (A11 m c) (A12 m c) t]
  try rw [xhat2 (A0 m c) (A1 m c) (A2 m c) (A3 m c) (A4 m c) (A5 m c) (A6 m c) (A7 m c) (A9 m c) (A10 m c) (A11 m c) (A12 m c) t]
  try rw [dnorm2 (A0 m c) (A1 m c) (A2 m c) (A3 m c) (A4 m c) (A5 m c) (A6 m c) (A7 m c) (A8 m c) (A9 m c) (A10 m c) (A11 m c) (A12 m c) (A13 m c) (A14 m c) t]
  try rw [du2 (A0 m c) (A1 m c) (A2 m c) (A3 m c) (A4 m c) (A5 m c) (A6 m c) (A7 m c) (A8 m c) (A9 m c) (A10 m c) (A11 m c) (A12 m c) (A13 m c) (A14 m c) t hu hd]
  repeat rw [read_rects (A0 m c) (A1 m c) (A2 m c) (A3 m c) (A4 m c) (A5 m c) (A6 m c) (A7 m c) (A9 m c) (A11 m c) (A12 m c) t]
  try rw [read_grads (A0 m c) (A1 m c) (A2 m c) (A3 m c) (A4 m c) (A5 m c) (A6 m c) (A7 m c) (A8 m c) (A9 m c) (A10 m c) (A11 m c) (A12 m c) (A13 m c) (A14 m c) t hu hd]
  try rw [dx1 (A0 m c) (A1 m c) (A2 m c) (A3 m c) (A4 m c) (A5 m c) (A6 m c) (A7 m c) (A8 m c) (A9 m c) (A10 m c) (A11 m c) (A12 m c) (A13 m c) (A14 m c) t]
  try rw [addB1 (A0 m c) (A1 m c) (A2 m c) (A3 m c) (A4 m c) (A5 m c) (A6 m c) (A7 m c) (A8 m c) (A9 m c) (A10 m c) (A11 m c) (A12 m c) (A13 m c) (A14 m c) t]
  funext i
  refine congrArg (fun a : EReal => a + _) ?_
  unfold k0_pay7
  pointwise

end Cert.MlpIdeal.Tiles
end
-- ==== Proof.MlpOutB1.lean ====
/- The dense layer with its backward pass: what the later points leave in each result. -/
module

public import proofs.«01_k».proof.Proof.MlpBlk

@[expose] public section

set_option maxRecDepth 16384

noncomputable section

open Idealize.ShloMosaic Idealize.ShloMosaic.TcCoe Idealize.SL.Sem
open Idealize.ShloMosaic.Pipeline (Dat)

namespace Cert.MlpIdeal.Tiles

open Cert.MlpIdeal Cert.MlpIdeal.Gen Cert.Reals Cert.MlpRefIdeal.Read

variable (m : (ℓ : Loc nD τ sig) → Buf (Elt Ideal) ℓ) (c : Dev nD) (t : Fin cfg0.N)

set_option maxHeartbeats 1600000 in
/-- The block result 0 holds after the later points. -/
theorem out_a_B  (h0 : ¬ t.val % 16 = 0) : (outsAt0 m c t.val t.isLt).1 = tl4096 t (val_main_v191 (F := Ideal) (A0 m c) (A1 m c) (A2 m c) (A3 m c) (A4 m c) (A5 m c) (A6 m c) (A7 m c) (A9 m c) (A11 m c) (A12 m c)) := by
  rw [outsAt0_B m c t h0]
  have hk := kept m c (t.val - 1) (Nat.lt_of_le_of_lt (Nat.sub_le _ _) t.isLt)
  generalize outsAt0 m c (t.val - 1) _ = p at hk ⊢
  dsimp only [oB, rB]
  frame_out
  try simp only [read_unread_whole, hk.1, hk.2.1, hk.2.2.1, hk.2.2.2.1, hk.2.2.2.2]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [squares (A0 m c) (A1 m c) (A2 m c) (A3 m c) (A4 m c) (A5 m c) (A6 m c) (A7 m c) (A9 m c) (A11 m c) (A12 m c) t]
  try rfl

set_option maxHeartbeats 1600000 in
/-- The block result 1 holds after the later points. -/
theorem out_x_B  (h0 : ¬ t.val % 16 = 0) : (outsAt0 m c t.val t.isLt).2.1 = tl1024 t (val_main_v192 (F := Ideal) (A0 m c) (A1 m c) (A2 m c) (A3 m c) (A4 m c) (A5 m c) (A6 m c) (A7 m c) (A11 m c) (A12 m c)) := by
  rw [outsAt0_B m c t h0]
  have hk := kept m c (t.val - 1) (Nat.lt_of_le_of_lt (Nat.sub_le _ _) t.isLt)
  generalize outsAt0 m c (t.val - 1) _ = p at hk ⊢
  dsimp only [oB, rB]
  frame_out
  try simp only [read_unread_whole, hk.1, hk.2.1, hk.2.2.1, hk.2.2.2.1, hk.2.2.2.2]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rfl

set_option maxHeartbeats 1600000 in
/-- The block result 3 holds after the later points. -/
theorem out_d2_B (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (h0 : ¬ t.val % 16 = 0) : (outsAt0 m c t.val t.isLt).2.2.2.1 = tl1024 t (val_main_v194 (F := Ideal) (A0 m c) (A1 m c) (A2 m c) (A3 m c) (A4 m c) (A5 m c) (A6 m c) (A7 m c) (A8 m c) (A9 m c) (A10 m c) (A11 m c) (A12 m c) (A13 m c) (A14 m c)) := by
  rw [outsAt0_B m c t h0]
  have hk := kept m c (t.val - 1) (Nat.lt_of_le_of_lt (Nat.sub_le _ _) t.isLt)
  generalize outsAt0 m c (t.val - 1) _ = p at hk ⊢
  dsimp only [oB, rB]
  frame_out
  try simp only [read_unread_whole, hk.1, hk.2.1, hk.2.2.1, hk.2.2.2.1, hk.2.2.2.2]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [rstd2 (A0 m c) (A1 m c) (A2 m c) (A3 m c) (A4 m c) (A5 m c) (A6 m c) (A7 m c) (A9 m c) (A10 m c) (A11 m c) (A12 m c) t]
  try rw [xhat2 (A0 m c) (A1 m c) (A2 m c) (A3 m c) (A4 m c) (A5 m c) (A6 m c) (A7 m c) (A9 m c) (A10 m c) (A11 m c) (A12 m c) t]
  try rw [dnorm2 (A0 m c) (A1 m c) (A2 m c) (A3 m c) (A4 m c) (A5 m c) (A6 m c) (A7 m c) (A8 m c) (A9 m c) (A10 m c) (A11 m c) (A12 m c) (A13 m c) (A14 m c) t]
  try rw [du2b (A0 m c) (A1 m c) (A2 m c) (A3 m c) (A4 m c) (A5 m c) (A6 m c) (A7 m c) (A8 m c) (A9 m c) (A10 m c) (A11 m c) (A12 m c) (A13 m c) (A14 m c) t hu hd]
  try rfl

end Cert.MlpIdeal.Tiles
end
-- ==== Proof.MlpOutB2.lean ====
/- The dense layer with its backward pass: what the later points leave in each result. -/
module

public import proofs.«01_k».proof.Proof.MlpBlk

@[expose] public section

set_option maxRecDepth 16384

noncomputable section

open Idealize.ShloMosaic Idealize.ShloMosaic.TcCoe Idealize.SL.Sem
open Idealize.ShloMosaic.Pipeline (Dat)

namespace Cert.MlpIdeal.Tiles

open Cert.MlpIdeal Cert.MlpIdeal.Gen Cert.Reals Cert.MlpRefIdeal.Read

variable (m : (ℓ : Loc nD τ sig) → Buf (Elt Ideal) ℓ) (c : Dev nD) (t : Fin cfg0.N)

set_option maxHeartbeats 1600000 in
/-- The block result 2 holds after the later points. -/
theorem out_dh_B (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (h0 : ¬ t.val % 16 = 0) : (outsAt0 m c t.val t.isLt).2.2.1 = tl4096 t (val_main_v193 (F := Ideal) (A0 m c) (A1 m c) (A2 m c) (A3 m c) (A4 m c) (A5 m c) (A6 m c) (A7 m c) (A8 m c) (A9 m c) (A10 m c) (A11 m c) (A12 m c) (A13 m c) (A14 m c)) := by
  rw [outsAt0_B m c t h0]
  have hk := kept m c (t.val - 1) (Nat.lt_of_le_of_lt (Nat.sub_le _ _) t.isLt)
  generalize outsAt0 m c (t.val - 1) _ = p at hk ⊢
  dsimp only [oB, rB]
  frame_out
  try simp only [read_unread_whole, hk.1, hk.2.1, hk.2.2.1, hk.2.2.2.1, hk.2.2.2.2]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [rstd2 (A0 m c) (A1 m c) (A2 m c) (A3 m c) (A4 m c) (A5 m c) (A6 m c) (A7 m c) (A9 m c) (A10 m c) (A11 m c) (A12 m c) t]
  try rw [xhat2 (A0 m c) (A1 m c) (A2 m c) (A3 m c) (A4 m c) (A5 m c) (A6 m c) (A7 m c) (A9 m c) (A10 m c) (A11 m c) (A12 m c) t]
  try rw [dnorm2 (A0 m c) (A1 m c) (A2 m c) (A3 m c) (A4 m c) (A5 m c) (A6 m c) (A7 m c) (A8 m c) (A9 m c) (A10 m c) (A11 m c) (A12 m c) (A13 m c) (A14 m c) t]
  repeat rw [read_rects (A0 m c) (A1 m c) (A2 m c) (A3 m c) (A4 m c) (A5 m c) (A6 m c) (A7 m c) (A9 m c) (A11 m c) (A12 m c) t]
  try rw [grads (A0 m c) (A1 m c) (A2 m c) (A3 m c) (A4 m c) (A5 m c) (A6 m c) (A7 m c) (A8 m c) (A9 m c) (A10 m c) (A11 m c) (A12 m c) (A13 m c) (A14 m c) t hu hd]
  try rfl

set_option maxHeartbeats 1600000 in
/-- The block result 4 holds after the later points. -/
theorem out_d1_B (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (hu1 : ∀ i, Rl ((val_main_v31 (F := Ideal) (A0 m c) (A1 m c) (A2 m c) (A3 m c) (A4 m c) (A5 m c) (A6 m c) (A7 m c)) i)) (hd1 : ∀ i, Rl ((val_main_v165 (F := Ideal) (A0 m c) (A1 m c) (A2 m c) (A3 m c) (A4 m c) (A5 m c) (A6 m c) (A7 m c) (A8 m c) (A9 m c) (A10 m c) (A11 m c) (A12 m c) (A13 m c) (A14 m c)) i)) (h0 : ¬ t.val % 16 = 0) : (outsAt0 m c t.val t.isLt).2.2.2.2.1 = tl1024 t (val_main_v190 (F := Ideal) (A0 m c) (A1 m c) (A2 m c) (A3 m c) (A4 m c) (A5 m c) (A6 m c) (A7 m c) (A8 m c) (A9 m c) (A10 m c) (A11 m c) (A12 m c) (A13 m c) (A14 m c)) := by
  rw [outsAt0_B m c t h0]
  have hk := kept m c (t.val - 1) (Nat.lt_of_le_of_lt (Nat.sub_le _ _) t.isLt)
  generalize outsAt0 m c (t.val - 1) _ = p at hk ⊢
  dsimp only [oB, rB]
  frame_out
  try simp only [read_unread_whole, hk.1, hk.2.1, hk.2.2.1, hk.2.2.2.1, hk.2.2.2.2]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [rstd2 (A0 m c) (A1 m c) (A2 m c) (A3 m c) (A4 m c) (A5 m c) (A6 m c) (A7 m c) (A9 m c) (A10 m c) (A11 m c) (A12 m c) t]
  try rw [xhat2 (A0 m c) (A1 m c) (A2 m c) (A3 m c) (A4 m c) (A5 m c) (A6 m c) (A7 m c) (A9 m c) (A10 m c) (A11 m c) (A12 m c) t]
  try rw [dnorm2 (A0 m c) (A1 m c) (A2 m c) (A3 m c) (A4 m c) (A5 m c) (A6 m c) (A7 m c) (A8 m c) (A9 m c) (A10 m c) (A11 m c) (A12 m c) (A13 m c) (A14 m c) t]
  try rw [du2 (A0 m c) (A1 m c) (A2 m c) (A3 m c) (A4 m c) (A5 m c) (A6 m c) (A7 m c) (A8 m c) (A9 m c) (A10 m c) (A11 m c) (A12 m c) (A13 m c) (A14 m c) t hu hd]
  repeat rw [read_rects (A0 m c) (A1 m c) (A2 m c) (A3 m c) (A4 m c) (A5 m c) (A6 m c) (A7 m c) (A9 m c) (A11 m c) (A12 m c) t]
  try rw [read_grads (A0 m c) (A1 m c) (A2 m c) (A3 m c) (A4 m c) (A5 m c) (A6 m c) (A7 m c) (A8 m c) (A9 m c) (A10 m c) (A11 m c) (A12 m c) (A13 m c) (A14 m c) t hu hd]
  try rw [dx1 (A0 m c) (A1 m c) (A2 m c) (A3 m c) (A4 m c) (A5 m c) (A6 m c) (A7 m c) (A8 m c) (A9 m c) (A10 m c) (A11 m c) (A12 m c) (A13 m c) (A14 m c) t]
  try rw [rstd1 (A0 m c) (A1 m c) (A2 m c) (A3 m c) (A4 m c) (A5 m c) (A6 m c) (A7 m c) t]
  try rw [du1 (A0 m c) (A1 m c) (A2 m c) (A3 m c) (A4 m c) (A5 m c) (A6 m c) (A7 m c) (A8 m c) (A9 m c) (A10 m c) (A11 m c) (A12 m c) (A13 m c) (A14 m c) t hu1 hd1]
  try rfl

end Cert.MlpIdeal.Tiles
end
-- ==== Proof.MlpOutB3.lean ====
/- The dense layer with its backward pass: what the later points leave in each result. -/
module

public import proofs.«01_k».proof.Proof.MlpBlk

@[expose] public section

set_option maxRecDepth 16384

noncomputable section

open Idealize.ShloMosaic Idealize.ShloMosaic.TcCoe Idealize.SL.Sem
open Idealize.ShloMosaic.Pipeline (Dat)

namespace Cert.MlpIdeal.Tiles

open Cert.MlpIdeal Cert.MlpIdeal.Gen Cert.Reals Cert.MlpRefIdeal.Read

variable (m : (ℓ : Loc nD τ sig) → Buf (Elt Ideal) ℓ) (c : Dev nD) (t : Fin cfg0.N)

set_option maxHeartbeats 1600000 in
/-- The block result 5 holds after the later points. -/
theorem out_loss_B  (h0 : ¬ t.val % 16 = 0) : (outsAt0 m c t.val t.isLt).2.2.2.2.2.1 = fun i => (outsAt0 m c (t.val - 1) (Nat.lt_of_le_of_lt (Nat.sub_le _ _) t.isLt)).2.2.2.2.2.1 i + Ideal.ofBits .f32 0x3F000000#32 * ∑ r : Fin 256, (val_main_v108 (F := Ideal) (A0 m c) (A1 m c) (A2 m c) (A3 m c) (A4 m c) (A5 m c) (A6 m c) (A7 m c) (A8 m c) (A9 m c) (A10 m c) (A11 m c) (A12 m c) (A13 m c) (A14 m c)) (ix1 (row t r)) := by
  rw [outsAt0_B m c t h0]
  have hk := kept m c (t.val - 1) (Nat.lt_of_le_of_lt (Nat.sub_le _ _) t.isLt)
  generalize outsAt0 m c (t.val - 1) _ = p at hk ⊢
  dsimp only [oB, rB]
  frame_out
  try simp only [read_unread_whole, hk.1, hk.2.1, hk.2.2.1, hk.2.2.2.1, hk.2.2.2.2]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [addLoss (A0 m c) (A1 m c) (A2 m c) (A3 m c) (A4 m c) (A5 m c) (A6 m c) (A7 m c) (A8 m c) (A9 m c) (A10 m c) (A11 m c) (A12 m c) (A13 m c) (A14 m c) t]
  try rfl

set_option maxHeartbeats 1600000 in
/-- The block result 6 holds after the later points. -/
theorem out_g2_B  (h0 : ¬ t.val % 16 = 0) : (outsAt0 m c t.val t.isLt).2.2.2.2.2.2.1 = fun i => (outsAt0 m c (t.val - 1) (Nat.lt_of_le_of_lt (Nat.sub_le _ _) t.isLt)).2.2.2.2.2.2.1 i + ∑ r : Fin 256, (val_main_v120 (F := Ideal) (A0 m c) (A1 m c) (A2 m c) (A3 m c) (A4 m c) (A5 m c) (A6 m c) (A7 m c) (A8 m c) (A9 m c) (A10 m c) (A11 m c) (A12 m c) (A13 m c) (A14 m c)) (ix2 (row t r) (i 1)) := by
  rw [outsAt0_B m c t h0]
  have hk := kept m c (t.val - 1) (Nat.lt_of_le_of_lt (Nat.sub_le _ _) t.isLt)
  generalize outsAt0 m c (t.val - 1) _ = p at hk ⊢
  dsimp only [oB, rB]
  frame_out
  try simp only [read_unread_whole, hk.1, hk.2.1, hk.2.2.1, hk.2.2.2.1, hk.2.2.2.2]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [rstd2 (A0 m c) (A1 m c) (A2 m c) (A3 m c) (A4 m c) (A5 m c) (A6 m c) (A7 m c) (A9 m c) (A10 m c) (A11 m c) (A12 m c) t]
  try rw [xhat2 (A0 m c) (A1 m c) (A2 m c) (A3 m c) (A4 m c) (A5 m c) (A6 m c) (A7 m c) (A9 m c) (A10 m c) (A11 m c) (A12 m c) t]
  try rw [addG2 (A0 m c) (A1 m c) (A2 m c) (A3 m c) (A4 m c) (A5 m c) (A6 m c) (A7 m c) (A8 m c) (A9 m c) (A10 m c) (A11 m c) (A12 m c) (A13 m c) (A14 m c) t]
  try rfl

set_option maxHeartbeats 1600000 in
/-- The block result 7 holds after the later points. -/
theorem out_b2_B  (h0 : ¬ t.val % 16 = 0) : (outsAt0 m c t.val t.isLt).2.2.2.2.2.2.2.1 = fun i => (outsAt0 m c (t.val - 1) (Nat.lt_of_le_of_lt (Nat.sub_le _ _) t.isLt)).2.2.2.2.2.2.2.1 i + ∑ r : Fin 256, (val_main_v116 (F := Ideal) (A0 m c) (A1 m c) (A2 m c) (A3 m c) (A4 m c) (A5 m c) (A6 m c) (A7 m c) (A8 m c) (A9 m c) (A10 m c) (A11 m c) (A12 m c) (A13 m c) (A14 m c)) (ix2 (row t r) (i 1)) := by
  rw [outsAt0_B m c t h0]
  have hk := kept m c (t.val - 1) (Nat.lt_of_le_of_lt (Nat.sub_le _ _) t.isLt)
  generalize outsAt0 m c (t.val - 1) _ = p at hk ⊢
  dsimp only [oB, rB]
  frame_out
  try simp only [read_unread_whole, hk.1, hk.2.1, hk.2.2.1, hk.2.2.2.1, hk.2.2.2.2]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [addB2 (A0 m c) (A1 m c) (A2 m c) (A3 m c) (A4 m c) (A5 m c) (A6 m c) (A7 m c) (A8 m c) (A9 m c) (A10 m c) (A11 m c) (A12 m c) (A13 m c) (A14 m c) t]
  try rfl

set_option maxHeartbeats 1600000 in
/-- The block result 8 holds after the later points. -/
theorem out_g1_B (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (h0 : ¬ t.val % 16 = 0) : (outsAt0 m c t.val t.isLt).2.2.2.2.2.2.2.2.1 = fun i => (outsAt0 m c (t.val - 1) (Nat.lt_of_le_of_lt (Nat.sub_le _ _) t.isLt)).2.2.2.2.2.2.2.2.1 i + ∑ r : Fin 256, (val_main_v161 (F := Ideal) (A0 m c) (A1 m c) (A2 m c) (A3 m c) (A4 m c) (A5 m c) (A6 m c) (A7 m c) (A8 m c) (A9 m c) (A10 m c) (A11 m c) (A12 m c) (A13 m c) (A14 m c)) (ix2 (row t r) (i 1)) := by
  rw [outsAt0_B m c t h0]
  have hk := kept m c (t.val - 1) (Nat.lt_of_le_of_lt (Nat.sub_le _ _) t.isLt)
  generalize outsAt0 m c (t.val - 1) _ = p at hk ⊢
  dsimp only [oB, rB]
  frame_out
  try simp only [read_unread_whole, hk.1, hk.2.1, hk.2.2.1, hk.2.2.2.1, hk.2.2.2.2]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [rstd2 (A0 m c) (A1 m c) (A2 m c) (A3 m c) (A4 m c) (A5 m c) (A6 m c) (A7 m c) (A9 m c) (A10 m c) (A11 m c) (A12 m c) t]
  try rw [xhat2 (A0 m c) (A1 m c) (A2 m c) (A3 m c) (A4 m c) (A5 m c) (A6 m c) (A7 m c) (A9 m c) (A10 m c) (A11 m c) (A12 m c) t]
  try rw [dnorm2 (A0 m c) (A1 m c) (A2 m c) (A3 m c) (A4 m c) (A5 m c) (A6 m c) (A7 m c) (A8 m c) (A9 m c) (A10 m c) (A11 m c) (A12 m c) (A13 m c) (A14 m c) t]
  try rw [du2 (A0 m c) (A1 m c) (A2 m c) (A3 m c) (A4 m c) (A5 m c) (A6 m c) (A7 m c) (A8 m c) (A9 m c) (A10 m c) (A11 m c) (A12 m c) (A13 m c) (A14 m c) t hu hd]
  repeat rw [read_rects (A0 m c) (A1 m c) (A2 m c) (A3 m c) (A4 m c) (A5 m c) (A6 m c) (A7 m c) (A9 m c) (A11 m c) (A12 m c) t]
  try rw [read_grads (A0 m c) (A1 m c) (A2 m c) (A3 m c) (A4 m c) (A5 m c) (A6 m c) (A7 m c) (A8 m c) (A9 m c) (A10 m c) (A11 m c) (A12 m c) (A13 m c) (A14 m c) t hu hd]
  try rw [addG1 (A0 m c) (A1 m c) (A2 m c) (A3 m c) (A4 m c) (A5 m c) (A6 m c) (A7 m c) (A8 m c) (A9 m c) (A10 m c) (A11 m c) (A12 m c) (A13 m c) (A14 m c) t]
  try rfl

set_option maxHeartbeats 1600000 in
/-- The block result 9 holds after the later points. -/
theorem out_b1_B (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (h0 : ¬ t.val % 16 = 0) : (outsAt0 m c t.val t.isLt).2.2.2.2.2.2.2.2.2.1 = fun i => (outsAt0 m c (t.val - 1) (Nat.lt_of_le_of_lt (Nat.sub_le _ _) t.isLt)).2.2.2.2.2.2.2.2.2.1 i + ∑ r : Fin 256, (val_main_v157 (F := Ideal) (A0 m c) (A1 m c) (A2 m c) (A3 m c) (A4 m c) (A5 m c) (A6 m c) (A7 m c) (A8 m c) (A9 m c) (A10 m c) (A11 m c) (A12 m c) (A13 m c) (A14 m c)) (ix2 (row t r) (i 1)) := by
  rw [outsAt0_B m c t h0]
  have hk := kept m c (t.val - 1) (Nat.lt_of_le_of_lt (Nat.sub_le _ _) t.isLt)
  generalize outsAt0 m c (t.val - 1) _ = p at hk ⊢
  dsimp only [oB, rB]
  frame_out
  try simp only [read_unread_whole, hk.1, hk.2.1, hk.2.2.1, hk.2.2.2.1, hk.2.2.2.2]
  simp only [blk0, blk1, blk2, blk3, blk4, blk5, blk6, blk7, blk8, blk9]
  try rw [cen1 (A0 m c) (A1 m c) (A2 m c) (A3 m c) (A4 m c) (A5 m c) (A6 m c) (A7 m c) t]
  try rw [xhat1 (A0 m c) (A1 m c) (A2 m c) (A3 m c) (A4 m c) (A5 m c) (A6 m c) (A7 m c) t]
  try rw [out1b (A0 m c) (A1 m c) (A2 m c) (A3 m c) (A4 m c) (A5 m c) (A6 m c) (A7 m c) (A11 m c) (A12 m c) t]
  try rw [out1 (A0 m c) (A1 m c) (A2 m c) (A3 m c) (A4 m c) (A5 m c) (A6 m c) (A7 m c) (A11 m c) (A12 m c) t]
  try rw [read_squares (A0 m c) (A1 m c) (A2 m c) (A3 m c) (A4 m c) (A5 m c) (A6 m c) (A7 m c) (A9 m c) (A11 m c) (A12 m c) t]
  try rw [diff (A0 m c) (A1 m c) (A2 m c) (A3 m c) (A4 m c) (A5 m c) (A6 m c) (A7 m c) (A8 m c) (A9 m c) (A10 m c) (A11 m c) (A12 m c) (A13 m c) (A14 m c) t]
  try rw [rstd2 (A0 m c) (A1 m c) (A2 m c) (A3 m c) (A4 m c) (A5 m c) (A6 m c) (A7 m c) (A9 m c) (A10 m c) (A11 m c) (A12 m c) t]
  try rw [xhat2 (A0 m c) (A1 m c) (A2 m c) (A3 m c) (A4 m c) (A5 m c) (A6 m c) (A7 m c) (A9 m c) (A10 m c) (A11 m c) (A12 m c) t]
  try rw [dnorm2 (A0 m c) (A1 m c) (A2 m c) (A3 m c) (A4 m c) (A5 m c) (A6 m c) (A7 m c) (A8 m c) (A9 m c) (A10 m c) (A11 m c) (A12 m c) (A13 m c) (A14 m c) t]
  try rw [du2 (A0 m c) (A1 m c) (A2 m c) (A3 m c) (A4 m c) (A5 m c) (A6 m c) (A7 m c) (A8 m c) (A9 m c) (A10 m c) (A11 m c) (A12 m c) (A13 m c) (A14 m c) t hu hd]
  repeat rw [read_rects (A0 m c) (A1 m c) (A2 m c) (A3 m c) (A4 m c) (A5 m c) (A6 m c) (A7 m c) (A9 m c) (A11 m c) (A12 m c) t]
  try rw [read_grads (A0 m c) (A1 m c) (A2 m c) (A3 m c) (A4 m c) (A5 m c) (A6 m c) (A7 m c) (A8 m c) (A9 m c) (A10 m c) (A11 m c) (A12 m c) (A13 m c) (A14 m c) t hu hd]
  try rw [dx1 (A0 m c) (A1 m c) (A2 m c) (A3 m c) (A4 m c) (A5 m c) (A6 m c) (A7 m c) (A8 m c) (A9 m c) (A10 m c) (A11 m c) (A12 m c) (A13 m c) (A14 m c) t]
  try rw [addB1 (A0 m c) (A1 m c) (A2 m c) (A3 m c) (A4 m c) (A5 m c) (A6 m c) (A7 m c) (A8 m c) (A9 m c) (A10 m c) (A11 m c) (A12 m c) (A13 m c) (A14 m c) t]
  try rfl

end Cert.MlpIdeal.Tiles
end
-- ==== Proof.MlpFin.lean ====
/- What the kernel leaves in every result. -/
module

public import proofs.«01_k».proof.Proof.MlpOutA1
public import proofs.«01_k».proof.Proof.MlpOutA2
public import proofs.«01_k».proof.Proof.MlpOutA3
public import proofs.«01_k».proof.Proof.MlpOutB1
public import proofs.«01_k».proof.Proof.MlpOutB2
public import proofs.«01_k».proof.Proof.MlpOutB3

@[expose] public section

set_option maxRecDepth 16384

noncomputable section

open Idealize.ShloMosaic Idealize.ShloMosaic.TcCoe Idealize.SL.Sem
open Idealize.ShloMosaic.Pipeline (Dat)

namespace Cert.MlpIdeal.Tiles

open Cert.MlpIdeal Cert.MlpIdeal.Gen Cert.Reals Cert.MlpRefIdeal.Read

variable (m : (ℓ : Loc nD τ sig) → Buf (Elt Ideal) ℓ) (c : Dev nD)

/-- Every point's block of result 0. -/
theorem out_a  (t : Fin cfg0.N) : (outsAt0 m c t.val t.isLt).1 = tl4096 t (val_main_v191 (F := Ideal) (A0 m c) (A1 m c) (A2 m c) (A3 m c) (A4 m c) (A5 m c) (A6 m c) (A7 m c) (A9 m c) (A11 m c) (A12 m c)) := by
  by_cases h0 : t.val % 16 = 0
  · exact out_a_A m c t  h0
  · exact out_a_B m c t  h0

theorem final10  : (dats m 0 c).arrAt 10 cfg0.N = (val_main_v191 (F := Ideal) (A0 m c) (A1 m c) (A2 m c) (A3 m c) (A4 m c) (A5 m c) (A6 m c) (A7 m c) (A9 m c) (A11 m c) (A12 m c)) := by
  refine (dats m 0 c).arrAt_eq_of_covers 10 _ (by decide +kernel) fun t hf y => ?_
  blk_simp
  rw [after0_10, out_a m c  t]
  unfold tl4096
  blk_ext [idx t, row]

/-- Every point's block of result 1. -/
theorem out_x  (t : Fin cfg0.N) : (outsAt0 m c t.val t.isLt).2.1 = tl1024 t (val_main_v192 (F := Ideal) (A0 m c) (A1 m c) (A2 m c) (A3 m c) (A4 m c) (A5 m c) (A6 m c) (A7 m c) (A11 m c) (A12 m c)) := by
  by_cases h0 : t.val % 16 = 0
  · exact out_x_A m c t  h0
  · exact out_x_B m c t  h0

theorem final11  : (dats m 0 c).arrAt 11 cfg0.N = (val_main_v192 (F := Ideal) (A0 m c) (A1 m c) (A2 m c) (A3 m c) (A4 m c) (A5 m c) (A6 m c) (A7 m c) (A11 m c) (A12 m c)) := by
  refine (dats m 0 c).arrAt_eq_of_covers 11 _ (by decide +kernel) fun t hf y => ?_
  blk_simp
  rw [after0_11, out_x m c  t]
  unfold tl1024
  blk_ext [idx t, row]

/-- Every point's block of result 2. -/
theorem out_dh (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (t : Fin cfg0.N) : (outsAt0 m c t.val t.isLt).2.2.1 = tl4096 t (val_main_v193 (F := Ideal) (A0 m c) (A1 m c) (A2 m c) (A3 m c) (A4 m c) (A5 m c) (A6 m c) (A7 m c) (A8 m c) (A9 m c) (A10 m c) (A11 m c) (A12 m c) (A13 m c) (A14 m c)) := by
  by_cases h0 : t.val % 16 = 0
  · exact out_dh_A m c t hu hd h0
  · exact out_dh_B m c t hu hd h0

theorem final12 (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) : (dats m 0 c).arrAt 12 cfg0.N = (val_main_v193 (F := Ideal) (A0 m c) (A1 m c) (A2 m c) (A3 m c) (A4 m c) (A5 m c) (A6 m c) (A7 m c) (A8 m c) (A9 m c) (A10 m c) (A11 m c) (A12 m c) (A13 m c) (A14 m c)) := by
  refine (dats m 0 c).arrAt_eq_of_covers 12 _ (by decide +kernel) fun t hf y => ?_
  blk_simp
  rw [after0_12, out_dh m c hu hd t]
  unfold tl4096
  blk_ext [idx t, row]

/-- Every point's block of result 3. -/
theorem out_d2 (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (t : Fin cfg0.N) : (outsAt0 m c t.val t.isLt).2.2.2.1 = tl1024 t (val_main_v194 (F := Ideal) (A0 m c) (A1 m c) (A2 m c) (A3 m c) (A4 m c) (A5 m c) (A6 m c) (A7 m c) (A8 m c) (A9 m c) (A10 m c) (A11 m c) (A12 m c) (A13 m c) (A14 m c)) := by
  by_cases h0 : t.val % 16 = 0
  · exact out_d2_A m c t hu hd h0
  · exact out_d2_B m c t hu hd h0

theorem final13 (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) : (dats m 0 c).arrAt 13 cfg0.N = (val_main_v194 (F := Ideal) (A0 m c) (A1 m c) (A2 m c) (A3 m c) (A4 m c) (A5 m c) (A6 m c) (A7 m c) (A8 m c) (A9 m c) (A10 m c) (A11 m c) (A12 m c) (A13 m c) (A14 m c)) := by
  refine (dats m 0 c).arrAt_eq_of_covers 13 _ (by decide +kernel) fun t hf y => ?_
  blk_simp
  rw [after0_13, out_d2 m c hu hd t]
  unfold tl1024
  blk_ext [idx t, row]

/-- Every point's block of result 4. -/
theorem out_d1 (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (hu1 : ∀ i, Rl ((val_main_v31 (F := Ideal) (A0 m c) (A1 m c) (A2 m c) (A3 m c) (A4 m c) (A5 m c) (A6 m c) (A7 m c)) i)) (hd1 : ∀ i, Rl ((val_main_v165 (F := Ideal) (A0 m c) (A1 m c) (A2 m c) (A3 m c) (A4 m c) (A5 m c) (A6 m c) (A7 m c) (A8 m c) (A9 m c) (A10 m c) (A11 m c) (A12 m c) (A13 m c) (A14 m c)) i)) (t : Fin cfg0.N) : (outsAt0 m c t.val t.isLt).2.2.2.2.1 = tl1024 t (val_main_v190 (F := Ideal) (A0 m c) (A1 m c) (A2 m c) (A3 m c) (A4 m c) (A5 m c) (A6 m c) (A7 m c) (A8 m c) (A9 m c) (A10 m c) (A11 m c) (A12 m c) (A13 m c) (A14 m c)) := by
  by_cases h0 : t.val % 16 = 0
  · exact out_d1_A m c t hu hd hu1 hd1 h0
  · exact out_d1_B m c t hu hd hu1 hd1 h0

theorem final14 (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) (hu1 : ∀ i, Rl ((val_main_v31 (F := Ideal) (A0 m c) (A1 m c) (A2 m c) (A3 m c) (A4 m c) (A5 m c) (A6 m c) (A7 m c)) i)) (hd1 : ∀ i, Rl ((val_main_v165 (F := Ideal) (A0 m c) (A1 m c) (A2 m c) (A3 m c) (A4 m c) (A5 m c) (A6 m c) (A7 m c) (A8 m c) (A9 m c) (A10 m c) (A11 m c) (A12 m c) (A13 m c) (A14 m c)) i)) : (dats m 0 c).arrAt 14 cfg0.N = (val_main_v190 (F := Ideal) (A0 m c) (A1 m c) (A2 m c) (A3 m c) (A4 m c) (A5 m c) (A6 m c) (A7 m c) (A8 m c) (A9 m c) (A10 m c) (A11 m c) (A12 m c) (A13 m c) (A14 m c)) := by
  refine (dats m 0 c).arrAt_eq_of_covers 14 _ (by decide +kernel) fun t hf y => ?_
  blk_simp
  rw [after0_14, out_d1 m c hu hd hu1 hd1 t]
  unfold tl1024
  blk_ext [idx t, row]

theorem final16  : (dats m 0 c).arrAt 16 cfg0.N = (val_main_v196 (F := Ideal) (A0 m c) (A1 m c) (A2 m c) (A3 m c) (A4 m c) (A5 m c) (A6 m c) (A7 m c) (A8 m c) (A9 m c) (A10 m c) (A11 m c) (A12 m c) (A13 m c) (A14 m c)) := by
  refine (dats m 0 c).arrAt_eq_of_after_last 16 t0_15 (by decide +kernel) _ fun j => ?_
  blk_simp
  rw [after0_16, Pipeline.eq_sum_fin_of_reset_step_apply_last (fun n h => (outsAt0 m c n h).2.2.2.2.2.2.1) 16 (fun _ => (0 : EReal))
    (fun t i => ∑ r : Fin 256, (val_main_v120 (F := Ideal) (A0 m c) (A1 m c) (A2 m c) (A3 m c) (A4 m c) (A5 m c) (A6 m c) (A7 m c) (A8 m c) (A9 m c) (A10 m c) (A11 m c) (A12 m c) (A13 m c) (A14 m c)) (ix2 (row t r) (i 1)))
    (fun t h j => by rw [out_g2_A m c t  h]) (fun t h j => by rw [out_g2_B m c t  h]) (le_of_eq N_0) t0_15 rfl _, zero_add]
  pointwise [val_main_v196, val_main_v125, val_main_cst_31, val_main_v122, val_main_v121, val_main_cst_30]
  simp only [Finset.univ_unique, Finset.sum_singleton, zero_add]
  refine Fin.sum_mul_add_congr fun t k hl => ?_
  blk_ext [row, idx t0_15]

theorem final17  : (dats m 0 c).arrAt 17 cfg0.N = (val_main_v197 (F := Ideal) (A0 m c) (A1 m c) (A2 m c) (A3 m c) (A4 m c) (A5 m c) (A6 m c) (A7 m c) (A8 m c) (A9 m c) (A10 m c) (A11 m c) (A12 m c) (A13 m c) (A14 m c)) := by
  refine (dats m 0 c).arrAt_eq_of_after_last 17 t0_15 (by decide +kernel) _ fun j => ?_
  blk_simp
  rw [after0_17, Pipeline.eq_sum_fin_of_reset_step_apply_last (fun n h => (outsAt0 m c n h).2.2.2.2.2.2.2.1) 16 (fun _ => (0 : EReal))
    (fun t i => ∑ r : Fin 256, (val_main_v116 (F := Ideal) (A0 m c) (A1 m c) (A2 m c) (A3 m c) (A4 m c) (A5 m c) (A6 m c) (A7 m c) (A8 m c) (A9 m c) (A10 m c) (A11 m c) (A12 m c) (A13 m c) (A14 m c)) (ix2 (row t r) (i 1)))
    (fun t h j => by rw [out_b2_A m c t  h]) (fun t h j => by rw [out_b2_B m c t  h]) (le_of_eq N_0) t0_15 rfl _, zero_add]
  pointwise [val_main_v197, val_main_v119, val_main_cst_29, val_main_v118, val_main_v117, val_main_cst_28]
  simp only [Finset.univ_unique, Finset.sum_singleton, zero_add]
  refine Fin.sum_mul_add_congr fun t k hl => ?_
  blk_ext [row, idx t0_15]

theorem final18 (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) : (dats m 0 c).arrAt 18 cfg0.N = (val_main_v198 (F := Ideal) (A0 m c) (A1 m c) (A2 m c) (A3 m c) (A4 m c) (A5 m c) (A6 m c) (A7 m c) (A8 m c) (A9 m c) (A10 m c) (A11 m c) (A12 m c) (A13 m c) (A14 m c)) := by
  refine (dats m 0 c).arrAt_eq_of_after_last 18 t0_15 (by decide +kernel) _ fun j => ?_
  blk_simp
  rw [after0_18, Pipeline.eq_sum_fin_of_reset_step_apply_last (fun n h => (outsAt0 m c n h).2.2.2.2.2.2.2.2.1) 16 (fun _ => (0 : EReal))
    (fun t i => ∑ r : Fin 256, (val_main_v161 (F := Ideal) (A0 m c) (A1 m c) (A2 m c) (A3 m c) (A4 m c) (A5 m c) (A6 m c) (A7 m c) (A8 m c) (A9 m c) (A10 m c) (A11 m c) (A12 m c) (A13 m c) (A14 m c)) (ix2 (row t r) (i 1)))
    (fun t h j => by rw [out_g1_A m c t hu hd h]) (fun t h j => by rw [out_g1_B m c t hu hd h]) (le_of_eq N_0) t0_15 rfl _, zero_add]
  pointwise [val_main_v198, val_main_v166, val_main_cst_44, val_main_v163, val_main_v162, val_main_cst_43]
  simp only [Finset.univ_unique, Finset.sum_singleton, zero_add]
  refine Fin.sum_mul_add_congr fun t k hl => ?_
  blk_ext [row, idx t0_15]

theorem final19 (hu : ∀ i, Rl ((val_main_v72 (F := Ideal) (A0 m c) (A1 m c) (A2 m c) (A3 m c) (A4 m c) (A5 m c) (A6 m c) (A7 m c) (A9 m c) (A10 m c) (A11 m c) (A12 m c)) i)) (hd : ∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i)) : (dats m 0 c).arrAt 19 cfg0.N = (val_main_v199 (F := Ideal) (A0 m c) (A1 m c) (A2 m c) (A3 m c) (A4 m c) (A5 m c) (A6 m c) (A7 m c) (A8 m c) (A9 m c) (A10 m c) (A11 m c) (A12 m c) (A13 m c) (A14 m c)) := by
  refine (dats m 0 c).arrAt_eq_of_after_last 19 t0_15 (by decide +kernel) _ fun j => ?_
  blk_simp
  rw [after0_19, Pipeline.eq_sum_fin_of_reset_step_apply_last (fun n h => (outsAt0 m c n h).2.2.2.2.2.2.2.2.2.1) 16 (fun _ => (0 : EReal))
    (fun t i => ∑ r : Fin 256, (val_main_v157 (F := Ideal) (A0 m c) (A1 m c) (A2 m c) (A3 m c) (A4 m c) (A5 m c) (A6 m c) (A7 m c) (A8 m c) (A9 m c) (A10 m c) (A11 m c) (A12 m c) (A13 m c) (A14 m c)) (ix2 (row t r) (i 1)))
    (fun t h j => by rw [out_b1_A m c t hu hd h]) (fun t h j => by rw [out_b1_B m c t hu hd h]) (le_of_eq N_0) t0_15 rfl _, zero_add]
  pointwise [val_main_v199, val_main_v160, val_main_cst_42, val_main_v159, val_main_v158, val_main_cst_41]
  simp only [Finset.univ_unique, Finset.sum_singleton, zero_add]
  refine Fin.sum_mul_add_congr fun t k hl => ?_
  blk_ext [row, idx t0_15]

theorem half_sum {n : ℕ} (f : Fin n → EReal) : ∑ t, Ideal.ofBits .f32 0x3F000000#32 * f t = Ideal.ofBits .f32 0x3F000000#32 * ∑ t, f t := by
  have h0 : (0 : EReal) ≤ ((1 / 2 : ℝ) : EReal) := by exact_mod_cast (by norm_num : (0 : ℝ) ≤ 1 / 2)
  rw [chalf]
  induction n with
  | zero => simp
  | succ n ih => rw [Fin.sum_univ_castSucc, Fin.sum_univ_castSucc, ih, EReal.left_distrib_of_nonneg_of_ne_top h0 (EReal.coe_ne_top _)]

theorem final15 : (dats m 0 c).arrAt 15 cfg0.N = (val_main_v195 (F := Ideal) (A0 m c) (A1 m c) (A2 m c) (A3 m c) (A4 m c) (A5 m c) (A6 m c) (A7 m c) (A8 m c) (A9 m c) (A10 m c) (A11 m c) (A12 m c) (A13 m c) (A14 m c)) := by
  refine (dats m 0 c).arrAt_eq_of_after_last 15 t0_15 (by decide +kernel) _ fun j => ?_
  blk_simp
  rw [after0_15, Pipeline.eq_sum_fin_of_reset_step_apply_last (fun n h => (outsAt0 m c n h).2.2.2.2.2.1) 16 (fun _ => (0 : EReal))
    (fun t i => Ideal.ofBits .f32 0x3F000000#32 * ∑ r : Fin 256, (val_main_v108 (F := Ideal) (A0 m c) (A1 m c) (A2 m c) (A3 m c) (A4 m c) (A5 m c) (A6 m c) (A7 m c) (A8 m c) (A9 m c) (A10 m c) (A11 m c) (A12 m c) (A13 m c) (A14 m c)) (ix1 (row t r)))
    (fun t h j => by rw [out_loss_A m c t h]) (fun t h j => by rw [out_loss_B m c t h]) (le_of_eq N_0) t0_15 rfl _, zero_add, half_sum]
  pointwise [val_main_v195, val_main_v110, val_main_cst_24, val_main_v109, val_main_cst_23]
  refine congrArg (fun s : EReal => Ideal.ofBits .f32 0x3F000000#32 * s) (Fin.sum_mul_add_congr fun t k hl => ?_)
  blk_ext [row, idx t0_15]

end Cert.MlpIdeal.Tiles
end
-- ==== Proof.MlpSure.lean ====
/-
  Every stage the gradients pass through holds real numbers where the arguments do.
-/
module

public import proofs.«01_k».proof.Proof.MlpGrad

@[expose] public section

set_option maxRecDepth 16384

noncomputable section

open Idealize.ShloMosaic Idealize.ShloMosaic.TcCoe Idealize.SL.Sem

namespace Cert.MlpIdeal.Sure

open Cert.MlpIdeal Cert.MlpIdeal.Gen Cert.MlpIdeal.Tiles Cert.MlpRefIdeal.Read Cert.Reals

variable (x0 : (⟨S4096x1024, .f32⟩ : BufTy).Contents (Elt Ideal)) (x1 : (⟨S4096x512, .f32⟩ : BufTy).Contents (Elt Ideal)) (x2 : (⟨S4096x512, .bf16⟩ : BufTy).Contents (Elt Ideal)) (x3 : (⟨S4096x2048, .f32⟩ : BufTy).Contents (Elt Ideal)) (x4 : (⟨S2048, .f32⟩ : BufTy).Contents (Elt Ideal)) (x5 x6 : (⟨S8x512x128, .bf16⟩ : BufTy).Contents (Elt Ideal)) (x7 : (⟨S1024x1024, .bf16⟩ : BufTy).Contents (Elt Ideal)) (x8 : (⟨S4096x1024, .f32⟩ : BufTy).Contents (Elt Ideal)) (x9 : (⟨S8x1024x512, .bf16⟩ : BufTy).Contents (Elt Ideal)) (x10 : (⟨S4096x1024, .bf16⟩ : BufTy).Contents (Elt Ideal)) (x11 x12 x13 x14 : (⟨S1024, .f32⟩ : BufTy).Contents (Elt Ideal))

theorem r_c1024 : Rl (Ideal.ofBits .f32 0x44800000#32) := ⟨_, c1024⟩
theorem r_cinv : Rl (Ideal.ofBits .f32 0x3A800000#32) := ⟨_, cinv⟩
theorem r_chalf : Rl (Ideal.ofBits .f32 0x3F000000#32) := ⟨_, chalf⟩
theorem r_cnhalf : Rl (Ideal.ofBits .f32 0xBF000000#32) := ⟨_, cnhalf⟩
theorem r_ctwo : Rl (Ideal.ofBits .f32 0x40000000#32) := ⟨_, ctwo⟩
theorem rl_ite {p : Prop} [Decidable p] {a b : EReal} (ha : Rl a) (hb : Rl b) : Rl (if p then a else b) := by
  split <;> assumption
theorem cscale : Rl (Ideal.ofBits .f32 0x3F800000#32) :=
  ⟨_, by simp [Ideal.ofBits, Ideal.ieee, -EReal.coe_mul]; rfl⟩
theorem over_1024 {x : EReal} (h : Rl x) : Rl (Ideal.div x (Ideal.ofBits .f32 0x44800000#32)) :=
  Rl.div h ⟨_, c1024⟩ (by rw [c1024]; exact_mod_cast (by norm_num : (1024 : ℝ) ≠ 0))
/-- The logistic function of a real number is real. -/
theorem logistic {x : EReal} (h : Rl x) : Rl (Ideal.logistic x) :=
  Rl.div ⟨1, rfl⟩ (Rl.add ⟨1, rfl⟩ (Rl.exp (Rl.neg h))) (one_add_exp_ne (Rl.neg h))

variable (h0 : ∀ i, Rl (x0 i)) (h1 : ∀ i, Rl (x1 i)) (h2 : ∀ i, Rl (x2 i)) (h3 : ∀ i, Rl (x3 i)) (h4 : ∀ i, Rl (x4 i)) (h5 : ∀ i, Rl (x5 i)) (h6 : ∀ i, Rl (x6 i)) (h7 : ∀ i, Rl (x7 i)) (h8 : ∀ i, Rl (x8 i)) (h9 : ∀ i, Rl (x9 i)) (h10 : ∀ i, Rl (x10 i)) (h11 : ∀ i, Rl (x11 i)) (h12 : ∀ i, Rl (x12 i)) (h13 : ∀ i, Rl (x13 i)) (h14 : ∀ i, Rl (x14 i))
include h0 h1 h2 h3 h4 h5 h6 h7 h8 h9 h10 h11 h12 h13 h14

theorem r21 (i) : Rl ((val_main_v21 (F := Ideal) x3 x4) i) := by
  pointwise [val_main_v21, val_main_v19, val_main_v17, val_main_v16, val_main_v6, val_main_v5, val_main_v4, val_main_v18, val_main_cst, val_main_v20, val_main_cst_0]
  exact logistic (Rl.add (h3 _) (h4 _))

theorem r31 (i) : Rl ((val_main_v31 (F := Ideal) x0 x1 x2 x3 x4 x5 x6 x7) i) := by
  pointwise [val_main_v31, val_main_v28, val_main_v27, val_main_cst_1, val_main_v30, val_main_v26, val_main_v23, val_main_v10, val_main_v9, val_main_v8, val_main_v7, val_main_v22, val_main_v25, val_main_v15, val_main_v11, val_main_v14, val_main_v13, val_main_v12, val_main_v24, val_main_v29]
  repeat' with_reducible (first | exact r21 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r37 (i) : Rl ((val_main_v37 (F := Ideal) x0 x1 x2 x3 x4 x5 x6 x7) i) := by
  pointwise [val_main_v37, val_main_v36, val_main_v35, val_main_v33, val_main_v32, val_main_cst_2, val_main_v34, val_main_cst_3]
  repeat' with_reducible (first | exact r31 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r46 (i) : Rl ((val_main_v46 (F := Ideal) x0 x1 x2 x3 x4 x5 x6 x7) i) := by
  pointwise [val_main_v46, val_main_v45, val_main_v35, val_main_v33, val_main_v32, val_main_cst_2, val_main_v34, val_main_cst_3]
  repeat' with_reducible (first | exact r31 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem p48 (i) : 0 < (val_main_v48 (F := Ideal) x0 x1 x2 x3 x4 x5 x6 x7) i ∧ Rl ((val_main_v48 (F := Ideal) x0 x1 x2 x3 x4 x5 x6 x7) i) := by
  obtain ⟨e, he, hq⟩ := ceps
  pointwise [val_main_v48, val_main_v44, val_main_v42, val_main_v41, val_main_cst_5, val_main_v38, val_main_v43, val_main_cst_6, val_main_v47, val_main_cst_7]
  refine ⟨var_pos (fun k => r37 x0 x1 x2 x3 x4 x5 x6 x7 x8 x9 x10 x11 x12 x13 x14 h0 h1 h2 h3 h4 h5 h6 h7 h8 h9 h10 h11 h12 h13 h14 _) c1024 hq he, Rl.add (over_1024 (Rl.sum fun k => Rl.mul (r37 x0 x1 x2 x3 x4 x5 x6 x7 x8 x9 x10 x11 x12 x13 x14 h0 h1 h2 h3 h4 h5 h6 h7 h8 h9 h10 h11 h12 h13 h14 _) (r37 x0 x1 x2 x3 x4 x5 x6 x7 x8 x9 x10 x11 x12 x13 x14 h0 h1 h2 h3 h4 h5 h6 h7 h8 h9 h10 h11 h12 h13 h14 _))) ⟨_, hq⟩⟩

theorem r49 (i) : Rl ((val_main_v49 (F := Ideal) x0 x1 x2 x3 x4 x5 x6 x7) i) := by
  pointwise [val_main_v49]
  exact Rl.rsqrt (p48 x0 x1 x2 x3 x4 x5 x6 x7 x8 x9 x10 x11 x12 x13 x14 h0 h1 h2 h3 h4 h5 h6 h7 h8 h9 h10 h11 h12 h13 h14 _).2 (p48 x0 x1 x2 x3 x4 x5 x6 x7 x8 x9 x10 x11 x12 x13 x14 h0 h1 h2 h3 h4 h5 h6 h7 h8 h9 h10 h11 h12 h13 h14 _).1

theorem r60 (i) : Rl ((val_main_v60 (F := Ideal) x0 x1 x2 x3 x4 x5 x6 x7 x11 x12) i) := by
  pointwise [val_main_v60, val_main_v57, val_main_v54, val_main_v53, val_main_v56, val_main_v55, val_main_v59, val_main_v58]
  repeat' with_reducible (first | exact r46 x0 x1 x2 x3 x4 x5 x6 x7 x8 x9 x10 x11 x12 x13 x14 h0 h1 h2 h3 h4 h5 h6 h7 h8 h9 h10 h11 h12 h13 h14 _ | exact r49 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r62 (i) : Rl ((val_main_v62 (F := Ideal) x0 x1 x2 x3 x4 x5 x6 x7 x9 x11 x12) i) := by
  pointwise [val_main_v62, val_main_call0_v0, val_main_call0_cst, val_main_v61, val_main_v2, val_main_v1, val_main_v0]
  repeat' with_reducible (first | exact r60 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r72 (i) : Rl ((val_main_v72 (F := Ideal) x0 x1 x2 x3 x4 x5 x6 x7 x9 x10 x11 x12) i) := by
  pointwise [val_main_v72, val_main_v70, val_main_v69, val_main_cst_12, val_main_v71, val_main_v3, val_main_v66]
  repeat' with_reducible (first | exact r60 x0 x1 x2 x3 x4 x5 x6 x7 x8 x9 x10 x11 x12 x13 x14 h0 h1 h2 h3 h4 h5 h6 h7 h8 h9 h10 h11 h12 h13 h14 _ | exact r62 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r78 (i) : Rl ((val_main_v78 (F := Ideal) x0 x1 x2 x3 x4 x5 x6 x7 x9 x10 x11 x12) i) := by
  pointwise [val_main_v78, val_main_v77, val_main_v76, val_main_v74, val_main_v73, val_main_cst_13, val_main_v75, val_main_cst_14]
  repeat' with_reducible (first | exact r72 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r87 (i) : Rl ((val_main_v87 (F := Ideal) x0 x1 x2 x3 x4 x5 x6 x7 x9 x10 x11 x12) i) := by
  pointwise [val_main_v87, val_main_v86, val_main_v76, val_main_v74, val_main_v73, val_main_cst_13, val_main_v75, val_main_cst_14]
  repeat' with_reducible (first | exact r72 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem p89 (i) : 0 < (val_main_v89 (F := Ideal) x0 x1 x2 x3 x4 x5 x6 x7 x9 x10 x11 x12) i ∧ Rl ((val_main_v89 (F := Ideal) x0 x1 x2 x3 x4 x5 x6 x7 x9 x10 x11 x12) i) := by
  obtain ⟨e, he, hq⟩ := ceps
  pointwise [val_main_v89, val_main_v85, val_main_v83, val_main_v82, val_main_cst_16, val_main_v79, val_main_v84, val_main_cst_17, val_main_v88, val_main_cst_18]
  refine ⟨var_pos (fun k => r78 x0 x1 x2 x3 x4 x5 x6 x7 x8 x9 x10 x11 x12 x13 x14 h0 h1 h2 h3 h4 h5 h6 h7 h8 h9 h10 h11 h12 h13 h14 _) c1024 hq he, Rl.add (over_1024 (Rl.sum fun k => Rl.mul (r78 x0 x1 x2 x3 x4 x5 x6 x7 x8 x9 x10 x11 x12 x13 x14 h0 h1 h2 h3 h4 h5 h6 h7 h8 h9 h10 h11 h12 h13 h14 _) (r78 x0 x1 x2 x3 x4 x5 x6 x7 x8 x9 x10 x11 x12 x13 x14 h0 h1 h2 h3 h4 h5 h6 h7 h8 h9 h10 h11 h12 h13 h14 _))) ⟨_, hq⟩⟩

theorem r90 (i) : Rl ((val_main_v90 (F := Ideal) x0 x1 x2 x3 x4 x5 x6 x7 x9 x10 x11 x12) i) := by
  pointwise [val_main_v90]
  exact Rl.rsqrt (p89 x0 x1 x2 x3 x4 x5 x6 x7 x8 x9 x10 x11 x12 x13 x14 h0 h1 h2 h3 h4 h5 h6 h7 h8 h9 h10 h11 h12 h13 h14 _).2 (p89 x0 x1 x2 x3 x4 x5 x6 x7 x8 x9 x10 x11 x12 x13 x14 h0 h1 h2 h3 h4 h5 h6 h7 h8 h9 h10 h11 h12 h13 h14 _).1

theorem r95 (i) : Rl ((val_main_v95 (F := Ideal) x0 x1 x2 x3 x4 x5 x6 x7 x9 x10 x11 x12) i) := by
  pointwise [val_main_v95, val_main_v94]
  repeat' with_reducible (first | exact r87 x0 x1 x2 x3 x4 x5 x6 x7 x8 x9 x10 x11 x12 x13 x14 h0 h1 h2 h3 h4 h5 h6 h7 h8 h9 h10 h11 h12 h13 h14 _ | exact r90 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r102 (i) : Rl ((val_main_v102 (F := Ideal) x0 x1 x2 x3 x4 x5 x6 x7 x8 x9 x10 x11 x12 x13 x14) i) := by
  pointwise [val_main_v102, val_main_v101, val_main_v100, val_main_v99, val_main_v98, val_main_v97, val_main_v96]
  repeat' with_reducible (first | exact r95 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r116 (i) : Rl ((val_main_v116 (F := Ideal) x0 x1 x2 x3 x4 x5 x6 x7 x8 x9 x10 x11 x12 x13 x14) i) := by
  pointwise [val_main_v116, val_main_v105, val_main_v104, val_main_cst_20, val_main_v115, val_main_v114, val_main_v112, val_main_v111, val_main_cst_25, val_main_cst_26, val_main_v113, val_main_cst_27]
  repeat' with_reducible (first | exact r102 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r124 (i) : Rl ((val_main_v124 (F := Ideal) x0 x1 x2 x3 x4 x5 x6 x7 x8 x9 x10 x11 x12 x13 x14) i) := by
  pointwise [val_main_v124, val_main_v123, val_main_v96]
  repeat' with_reducible (first | exact r116 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r91 (i) : Rl ((val_main_v91 (F := Ideal) x0 x1 x2 x3 x4 x5 x6 x7 x9 x10 x11 x12) i) := by
  pointwise [val_main_v91]
  exact Rl.div (r90 x0 x1 x2 x3 x4 x5 x6 x7 x8 x9 x10 x11 x12 x13 x14 h0 h1 h2 h3 h4 h5 h6 h7 h8 h9 h10 h11 h12 h13 h14 _) (p89 x0 x1 x2 x3 x4 x5 x6 x7 x8 x9 x10 x11 x12 x13 x14 h0 h1 h2 h3 h4 h5 h6 h7 h8 h9 h10 h11 h12 h13 h14 _).2 (ne_of_gt (p89 x0 x1 x2 x3 x4 x5 x6 x7 x8 x9 x10 x11 x12 x13 x14 h0 h1 h2 h3 h4 h5 h6 h7 h8 h9 h10 h11 h12 h13 h14 _).1)

theorem r131 (i) : Rl ((val_main_v131 (F := Ideal) x0 x1 x2 x3 x4 x5 x6 x7 x8 x9 x10 x11 x12 x13 x14) i) := by
  pointwise [val_main_v131, val_main_v128, val_main_v127, val_main_cst_32, val_main_v126, val_main_v93, val_main_v92, val_main_cst_19]
  repeat' with_reducible (first | exact r91 x0 x1 x2 x3 x4 x5 x6 x7 x8 x9 x10 x11 x12 x13 x14 h0 h1 h2 h3 h4 h5 h6 h7 h8 h9 h10 h11 h12 h13 h14 _ | exact r87 x0 x1 x2 x3 x4 x5 x6 x7 x8 x9 x10 x11 x12 x13 x14 h0 h1 h2 h3 h4 h5 h6 h7 h8 h9 h10 h11 h12 h13 h14 _ | exact r124 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r149 (i) : Rl ((val_main_v149 (F := Ideal) x0 x1 x2 x3 x4 x5 x6 x7 x8 x9 x10 x11 x12 x13 x14) i) := by
  pointwise [val_main_v149, val_main_v143, val_main_v130, val_main_v129, val_main_v139, val_main_v138, val_main_v137, val_main_cst_35, val_main_v136, val_main_v135, val_main_cst_34, val_main_v81, val_main_v80, val_main_cst_15, val_main_v148, val_main_v147, val_main_cst_38, val_main_v146, val_main_v144, val_main_v134, val_main_v133, val_main_cst_33, val_main_v132, val_main_v142, val_main_v141, val_main_cst_36, val_main_v140, val_main_v145, val_main_cst_37]
  repeat' with_reducible (first | exact r131 x0 x1 x2 x3 x4 x5 x6 x7 x8 x9 x10 x11 x12 x13 x14 h0 h1 h2 h3 h4 h5 h6 h7 h8 h9 h10 h11 h12 h13 h14 _ | exact r87 x0 x1 x2 x3 x4 x5 x6 x7 x8 x9 x10 x11 x12 x13 x14 h0 h1 h2 h3 h4 h5 h6 h7 h8 h9 h10 h11 h12 h13 h14 _ | exact r78 x0 x1 x2 x3 x4 x5 x6 x7 x8 x9 x10 x11 x12 x13 x14 h0 h1 h2 h3 h4 h5 h6 h7 h8 h9 h10 h11 h12 h13 h14 _ | exact r90 x0 x1 x2 x3 x4 x5 x6 x7 x8 x9 x10 x11 x12 x13 x14 h0 h1 h2 h3 h4 h5 h6 h7 h8 h9 h10 h11 h12 h13 h14 _ | exact r124 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r155 (i) : Rl ((val_main_v155 (F := Ideal) x0 x1 x2 x3 x4 x5 x6 x7 x8 x9 x10 x11 x12 x13 x14) i) := by
  pointwise [val_main_v155, val_main_v153, val_main_v150, val_main_v3, val_main_v68, val_main_v67, val_main_cst_11, val_main_v154, val_main_cst_40, val_main_v64, val_main_v61, val_main_v2, val_main_v1, val_main_v0, val_main_v63, val_main_cst_9]
  repeat' with_reducible (first | exact r149 x0 x1 x2 x3 x4 x5 x6 x7 x8 x9 x10 x11 x12 x13 x14 h0 h1 h2 h3 h4 h5 h6 h7 h8 h9 h10 h11 h12 h13 h14 _ | exact r60 x0 x1 x2 x3 x4 x5 x6 x7 x8 x9 x10 x11 x12 x13 x14 h0 h1 h2 h3 h4 h5 h6 h7 h8 h9 h10 h11 h12 h13 h14 _ | exact r62 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r157 (i) : Rl ((val_main_v157 (F := Ideal) x0 x1 x2 x3 x4 x5 x6 x7 x8 x9 x10 x11 x12 x13 x14) i) := by
  pointwise [val_main_v157, val_main_v152, val_main_v151, val_main_cst_39, val_main_v156, val_main_v2, val_main_v1, val_main_v0]
  repeat' with_reducible (first | exact r149 x0 x1 x2 x3 x4 x5 x6 x7 x8 x9 x10 x11 x12 x13 x14 h0 h1 h2 h3 h4 h5 h6 h7 h8 h9 h10 h11 h12 h13 h14 _ | exact r155 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

theorem r165 (i) : Rl ((val_main_v165 (F := Ideal) x0 x1 x2 x3 x4 x5 x6 x7 x8 x9 x10 x11 x12 x13 x14) i) := by
  pointwise [val_main_v165, val_main_v164, val_main_v55]
  repeat' with_reducible (first | exact r157 x0 x1 x2 x3 x4 x5 x6 x7 x8 x9 x10 x11 x12 x13 x14 h0 h1 h2 h3 h4 h5 h6 h7 h8 h9 h10 h11 h12 h13 h14 _ | exact h0 _ | exact h1 _ | exact h2 _ | exact h3 _ | exact h4 _ | exact h5 _ | exact h6 _ | exact h7 _ | exact h8 _ | exact h9 _ | exact h10 _ | exact h11 _ | exact h12 _ | exact h13 _ | exact h14 _ | exact calpha | exact r_c1024 | exact r_cinv | exact r_chalf | exact r_cnhalf | exact r_ctwo | exact cscale | exact Rl.zero | refine Rl.add ?_ ?_ | refine Rl.sub ?_ ?_ | refine Rl.mul ?_ ?_ | refine Rl.neg ?_ | refine Rl.max ?_ ?_ | refine Rl.sum fun _ => ?_ | refine over_1024 ?_ | refine rl_ite ?_ ?_)

end Cert.MlpIdeal.Sure

end
-- ==== Proof.MlpPre.lean ====
/-
  The precondition read: every argument's entries are real numbers.
-/
module

public import proofs.«01_k».proof.Pre_all_real
public import proofs.«01_k».proof.Proof.MlpReal

@[expose] public section

noncomputable section

open Idealize.ShloMosaic Idealize.ShloMosaic.TcCoe

namespace Cert.Reals

open Cert.Pre_all_real

theorem lo32 : Ideal.ofBits .f32 0xFF800000#32 = (⊥ : EReal) := by simp [Ideal.ofBits, Ideal.ieee]
theorem hi32 : Ideal.ofBits .f32 0x7F800000#32 = (⊤ : EReal) := by simp [Ideal.ofBits, Ideal.ieee]
theorem lo16 : Ideal.ofBits .bf16 0xFF80#16 = (⊥ : EReal) := by simp [Ideal.ofBits, Ideal.ieee]
theorem hi16 : Ideal.ofBits .bf16 0x7F80#16 = (⊤ : EReal) := by simp [Ideal.ofBits, Ideal.ieee]

theorem rl_of {a : EReal} (h : ⊥ < a) (h' : a < ⊤) : Rl a :=
  ⟨a.toReal, (EReal.coe_toReal h'.ne h.ne').symm⟩

theorem rl_of_cmp {a : EReal} (h : IntOp.andi (Ideal.cmp .ogt a ⊥) (Ideal.cmp .olt a ⊤) = 1#1) : Rl a := by
  by_cases h1 : (⊥ : EReal) < a
  · by_cases h2 : a < ⊤
    · exact rl_of h1 h2
    · simp [IntOp.andi, Ideal.cmp, h2] at h
  · simp [IntOp.andi, Ideal.cmp, h1] at h

theorem both32 {S : Shape} (hb : S_.BroadcastsInDim S (![] : Fin 0 → Fin S.rank)) (x : FVec Ideal S .f32)
    (h : andi (cmpf .ogt x (broadcastInDim S ![] hb (constant S_ .f32 0xFF800000#32 : FVec Ideal S_ .f32)))
      (cmpf .olt x (broadcastInDim S ![] hb (constant S_ .f32 0x7F800000#32 : FVec Ideal S_ .f32))) = fun _ => 1#1) (i) : Rl (x i) := by
  have h := congrFun h i
  have h : IntOp.andi (Ideal.cmp .ogt (x i : EReal) (Ideal.ofBits .f32 0xFF800000#32)) (Ideal.cmp .olt (x i : EReal) (Ideal.ofBits .f32 0x7F800000#32)) = 1#1 := h
  rw [lo32, hi32] at h
  exact rl_of_cmp h

theorem both16 {S : Shape} (hb : S_.BroadcastsInDim S (![] : Fin 0 → Fin S.rank)) (x : FVec Ideal S .bf16)
    (h : andi (cmpf .ogt x (broadcastInDim S ![] hb (constant S_ .bf16 0xFF80#16 : FVec Ideal S_ .bf16)))
      (cmpf .olt x (broadcastInDim S ![] hb (constant S_ .bf16 0x7F80#16 : FVec Ideal S_ .bf16))) = fun _ => 1#1) (i) : Rl (x i) := by
  have h := congrFun h i
  have h : IntOp.andi (Ideal.cmp .ogt (x i : EReal) (Ideal.ofBits .bf16 0xFF80#16)) (Ideal.cmp .olt (x i : EReal) (Ideal.ofBits .bf16 0x7F80#16)) = 1#1 := h
  rw [lo16, hi16] at h
  exact rl_of_cmp h

variable [Facts] (x0 : FVec Ideal S4096x1024 .f32) (x1 : FVec Ideal S4096x512 .f32) (x2 : FVec Ideal S4096x512 .bf16) (x3 : FVec Ideal S4096x2048 .f32) (x4 : FVec Ideal S2048 .f32) (x5 : FVec Ideal S8x512x128 .bf16) (x6 : FVec Ideal S8x512x128 .bf16) (x7 : FVec Ideal S1024x1024 .bf16) (x8 : FVec Ideal S4096x1024 .f32) (x9 : FVec Ideal S8x1024x512 .bf16) (x10 : FVec Ideal S4096x1024 .bf16) (x11 : FVec Ideal S1024 .f32) (x12 : FVec Ideal S1024 .f32) (x13 : FVec Ideal S1024 .f32) (x14 : FVec Ideal S1024 .f32)

/-- What the precondition says of the arguments. -/
theorem reals (h : (fn (F := Ideal) x0 x1 x2 x3 x4 x5 x6 x7 x8 x9 x10 x11 x12 x13 x14).1 = (fun _ => 1#1) ∧ (fn (F := Ideal) x0 x1 x2 x3 x4 x5 x6 x7 x8 x9 x10 x11 x12 x13 x14).2.1 = (fun _ => 1#1) ∧ (fn (F := Ideal) x0 x1 x2 x3 x4 x5 x6 x7 x8 x9 x10 x11 x12 x13 x14).2.2.1 = (fun _ => 1#1) ∧ (fn (F := Ideal) x0 x1 x2 x3 x4 x5 x6 x7 x8 x9 x10 x11 x12 x13 x14).2.2.2.1 = (fun _ => 1#1) ∧ (fn (F := Ideal) x0 x1 x2 x3 x4 x5 x6 x7 x8 x9 x10 x11 x12 x13 x14).2.2.2.2.1 = (fun _ => 1#1) ∧ (fn (F := Ideal) x0 x1 x2 x3 x4 x5 x6 x7 x8 x9 x10 x11 x12 x13 x14).2.2.2.2.2.1 = (fun _ => 1#1) ∧ (fn (F := Ideal) x0 x1 x2 x3 x4 x5 x6 x7 x8 x9 x10 x11 x12 x13 x14).2.2.2.2.2.2.1 = (fun _ => 1#1) ∧ (fn (F := Ideal) x0 x1 x2 x3 x4 x5 x6 x7 x8 x9 x10 x11 x12 x13 x14).2.2.2.2.2.2.2.1 = (fun _ => 1#1) ∧ (fn (F := Ideal) x0 x1 x2 x3 x4 x5 x6 x7 x8 x9 x10 x11 x12 x13 x14).2.2.2.2.2.2.2.2.1 = (fun _ => 1#1) ∧ (fn (F := Ideal) x0 x1 x2 x3 x4 x5 x6 x7 x8 x9 x10 x11 x12 x13 x14).2.2.2.2.2.2.2.2.2.1 = (fun _ => 1#1) ∧ (fn (F := Ideal) x0 x1 x2 x3 x4 x5 x6 x7 x8 x9 x10 x11 x12 x13 x14).2.2.2.2.2.2.2.2.2.2.1 = (fun _ => 1#1) ∧ (fn (F := Ideal) x0 x1 x2 x3 x4 x5 x6 x7 x8 x9 x10 x11 x12 x13 x14).2.2.2.2.2.2.2.2.2.2.2.1 = (fun _ => 1#1) ∧ (fn (F := Ideal) x0 x1 x2 x3 x4 x5 x6 x7 x8 x9 x10 x11 x12 x13 x14).2.2.2.2.2.2.2.2.2.2.2.2.1 = (fun _ => 1#1) ∧ (fn (F := Ideal) x0 x1 x2 x3 x4 x5 x6 x7 x8 x9 x10 x11 x12 x13 x14).2.2.2.2.2.2.2.2.2.2.2.2.2.1 = (fun _ => 1#1) ∧ (fn (F := Ideal) x0 x1 x2 x3 x4 x5 x6 x7 x8 x9 x10 x11 x12 x13 x14).2.2.2.2.2.2.2.2.2.2.2.2.2.2 = (fun _ => 1#1)) :
    (∀ i, Rl (x0 i)) ∧ (∀ i, Rl (x1 i)) ∧ (∀ i, Rl (x2 i)) ∧ (∀ i, Rl (x3 i)) ∧ (∀ i, Rl (x4 i)) ∧ (∀ i, Rl (x5 i)) ∧ (∀ i, Rl (x6 i)) ∧ (∀ i, Rl (x7 i)) ∧ (∀ i, Rl (x8 i)) ∧ (∀ i, Rl (x9 i)) ∧ (∀ i, Rl (x10 i)) ∧ (∀ i, Rl (x11 i)) ∧ (∀ i, Rl (x12 i)) ∧ (∀ i, Rl (x13 i)) ∧ (∀ i, Rl (x14 i)) :=
  ⟨both32 _ _ h.1, both32 _ _ h.2.1, both16 _ _ h.2.2.1, both32 _ _ h.2.2.2.1, both32 _ _ h.2.2.2.2.1, both16 _ _ h.2.2.2.2.2.1, both16 _ _ h.2.2.2.2.2.2.1, both16 _ _ h.2.2.2.2.2.2.2.1, both32 _ _ h.2.2.2.2.2.2.2.2.1, both16 _ _ h.2.2.2.2.2.2.2.2.2.1, both16 _ _ h.2.2.2.2.2.2.2.2.2.2.1, both32 _ _ h.2.2.2.2.2.2.2.2.2.2.2.1, both32 _ _ h.2.2.2.2.2.2.2.2.2.2.2.2.1, both32 _ _ h.2.2.2.2.2.2.2.2.2.2.2.2.2.1, both32 _ _ h.2.2.2.2.2.2.2.2.2.2.2.2.2.2⟩

end Cert.Reals

end
-- ==== Proof.MlpClaim.lean ====
/- Mlp: the claim itself, kernel beside reference. -/
module

public import proofs.«01_k».proof.Defs
public import proofs.«01_k».proof.Proof.MlpFin
public import proofs.«01_k».proof.Proof.MlpSure
public import proofs.«01_k».proof.Proof.MlpPre
public import proofs.«01_k».proof.Proof.Gen.MlpRefIdeal.Read
public import proofs.«01_k».proof.Proof.Gen.Pre_all_real
public import Idealize.ShloMosaic.Lib.Claim

@[expose] public section

noncomputable section

namespace Cert.MlpRefIdeal.Stages

open Cert.MlpRefIdeal Cert.MlpRefIdeal.Gen Cert.MlpRefIdeal.Read Idealize.ShloMosaic Idealize.ShloMosaic.TcCoe Idealize.SL.Sem

/-- The reference's run, each result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v191) = val_main_v191 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg11)) (m ((c : Thread nD τ).loc main_arg12))
      ∧ r.2.mem ((c : Thread nD τ).loc main_v192) = val_main_v192 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12))
      ∧ r.2.mem ((c : Thread nD τ).loc main_v193) = val_main_v193 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v194) = val_main_v194 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v190) = val_main_v190 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v195) = val_main_v195 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v196) = val_main_v196 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v197) = val_main_v197 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v198) = val_main_v198 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v199) = val_main_v199 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨((h c).1).trans (val_main_v191_eq (Idealize.ShloMosaic.StableHlo.launchContents m c)),
    ((h c).2.1).trans (val_main_v192_eq (Idealize.ShloMosaic.StableHlo.launchContents m c)),
    ((h c).2.2.1).trans (val_main_v193_eq (Idealize.ShloMosaic.StableHlo.launchContents m c)),
    ((h c).2.2.2.1).trans (val_main_v194_eq (Idealize.ShloMosaic.StableHlo.launchContents m c)),
    ((h c).2.2.2.2.1).trans (val_main_v190_eq (Idealize.ShloMosaic.StableHlo.launchContents m c)),
    ((h c).2.2.2.2.2.1).trans (val_main_v195_eq (Idealize.ShloMosaic.StableHlo.launchContents m c)),
    ((h c).2.2.2.2.2.2.1).trans (val_main_v196_eq (Idealize.ShloMosaic.StableHlo.launchContents m c)),
    ((h c).2.2.2.2.2.2.2.1).trans (val_main_v197_eq (Idealize.ShloMosaic.StableHlo.launchContents m c)),
    ((h c).2.2.2.2.2.2.2.2.1).trans (val_main_v198_eq (Idealize.ShloMosaic.StableHlo.launchContents m c)),
    ((h c).2.2.2.2.2.2.2.2.2.1).trans (val_main_v199_eq (Idealize.ShloMosaic.StableHlo.launchContents m c)),
    (h c).2.2.2.2.2.2.2.2.2.2.1,
    (h c).2.2.2.2.2.2.2.2.2.2.2.1,
    (h c).2.2.2.2.2.2.2.2.2.2.2.2.1,
    (h c).2.2.2.2.2.2.2.2.2.2.2.2.2.1,
    (h c).2.2.2.2.2.2.2.2.2.2.2.2.2.2.1,
    (h c).2.2.2.2.2.2.2.2.2.2.2.2.2.2.2.1,
    (h c).2.2.2.2.2.2.2.2.2.2.2.2.2.2.2.2.1,
    (h c).2.2.2.2.2.2.2.2.2.2.2.2.2.2.2.2.2.1,
    (h c).2.2.2.2.2.2.2.2.2.2.2.2.2.2.2.2.2.2.1,
    (h c).2.2.2.2.2.2.2.2.2.2.2.2.2.2.2.2.2.2.2.1,
    (h c).2.2.2.2.2.2.2.2.2.2.2.2.2.2.2.2.2.2.2.2.1,
    (h c).2.2.2.2.2.2.2.2.2.2.2.2.2.2.2.2.2.2.2.2.2.1,
    (h c).2.2.2.2.2.2.2.2.2.2.2.2.2.2.2.2.2.2.2.2.2.2.1,
    (h c).2.2.2.2.2.2.2.2.2.2.2.2.2.2.2.2.2.2.2.2.2.2.2.1,
    (h c).2.2.2.2.2.2.2.2.2.2.2.2.2.2.2.2.2.2.2.2.2.2.2.2⟩) (Cert.MlpRefIdeal.Value.run m ρ)

end Cert.MlpRefIdeal.Stages

namespace Cert.MlpIdeal.Tiles

open Cert.MlpIdeal Cert.MlpIdeal.Gen Idealize.ShloMosaic Idealize.ShloMosaic.TcCoe Idealize.SL.Sem

/-- The kernel's run: what its results hold at the end, and its arguments kept. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5_0) = (dats m 0 c).arrAt 10 cfg0.N
      ∧ r.2.mem ((c : Thread nD τ).loc main_v5_1) = (dats m 0 c).arrAt 11 cfg0.N
      ∧ r.2.mem ((c : Thread nD τ).loc main_v5_2) = (dats m 0 c).arrAt 12 cfg0.N
      ∧ r.2.mem ((c : Thread nD τ).loc main_v5_3) = (dats m 0 c).arrAt 13 cfg0.N
      ∧ r.2.mem ((c : Thread nD τ).loc main_v5_4) = (dats m 0 c).arrAt 14 cfg0.N
      ∧ r.2.mem ((c : Thread nD τ).loc main_v5_5) = (dats m 0 c).arrAt 15 cfg0.N
      ∧ r.2.mem ((c : Thread nD τ).loc main_v5_6) = (dats m 0 c).arrAt 16 cfg0.N
      ∧ r.2.mem ((c : Thread nD τ).loc main_v5_7) = (dats m 0 c).arrAt 17 cfg0.N
      ∧ r.2.mem ((c : Thread nD τ).loc main_v5_8) = (dats m 0 c).arrAt 18 cfg0.N
      ∧ r.2.mem ((c : Thread nD τ).loc main_v5_9) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h.1 c).1 10,
    (h.1 c).1 11,
    (h.1 c).1 12,
    (h.1 c).1 13,
    (h.1 c).1 14,
    (h.1 c).1 15,
    (h.1 c).1 16,
    (h.1 c).1 17,
    (h.1 c).1 18,
    (h.1 c).1 19,
    (h.2 c).1,
    (h.2 c).2.1,
    (h.2 c).2.2.1,
    (h.2 c).2.2.2.1,
    (h.2 c).2.2.2.2.1,
    (h.2 c).2.2.2.2.2.1,
    (h.2 c).2.2.2.2.2.2.1,
    (h.2 c).2.2.2.2.2.2.2.1,
    (h.2 c).2.2.2.2.2.2.2.2.1,
    (h.2 c).2.2.2.2.2.2.2.2.2.1,
    (h.2 c).2.2.2.2.2.2.2.2.2.2.1,
    (h.2 c).2.2.2.2.2.2.2.2.2.2.2.1,
    (h.2 c).2.2.2.2.2.2.2.2.2.2.2.2.1,
    (h.2 c).2.2.2.2.2.2.2.2.2.2.2.2.2.1,
    (h.2 c).2.2.2.2.2.2.2.2.2.2.2.2.2.2⟩) (θ_run_and (run_main m ρ) (unchanged m ρ))

end Cert.MlpIdeal.Tiles

namespace Cert.MlpIdeal.Tiles

open Cert.MlpIdeal Cert.MlpIdeal.Gen Cert.MlpRefIdeal.Read Cert.Reals Idealize.ShloMosaic Idealize.ShloMosaic.TcCoe Idealize.SL.Sem

/-- What the precondition gives: the two sublayer inputs and their cotangents are real. -/
theorem stages_real (m : (ℓ : Loc nD τ sig) → Buf (Elt Ideal) ℓ) (h : Cert.Pre_MlpIdeal_all_real m) (c : Dev nD) :
    (∀ i, Rl ((val_main_v72 (F := Ideal) (A0 m c) (A1 m c) (A2 m c) (A3 m c) (A4 m c) (A5 m c) (A6 m c) (A7 m c) (A9 m c) (A10 m c) (A11 m c) (A12 m c)) i)) ∧ (∀ i, Rl ((val_main_v124 (F := Ideal) (A0 m c) (A1 m c) (A2 m c) (A3 m c) (A4 m c) (A5 m c) (A6 m c) (A7 m c) (A8 m c) (A9 m c) (A10 m c) (A11 m c) (A12 m c) (A13 m c) (A14 m c)) i))
      ∧ (∀ i, Rl ((val_main_v31 (F := Ideal) (A0 m c) (A1 m c) (A2 m c) (A3 m c) (A4 m c) (A5 m c) (A6 m c) (A7 m c)) i)) ∧ ∀ i, Rl ((val_main_v165 (F := Ideal) (A0 m c) (A1 m c) (A2 m c) (A3 m c) (A4 m c) (A5 m c) (A6 m c) (A7 m c) (A8 m c) (A9 m c) (A10 m c) (A11 m c) (A12 m c) (A13 m c) (A14 m c)) i) := by
  have p := reals _ _ _ _ _ _ _ _ _ _ _ _ _ _ _ (h c)
  exact ⟨Sure.r72 _ _ _ _ _ _ _ _ _ _ _ _ _ _ _ p.1 p.2.1 p.2.2.1 p.2.2.2.1 p.2.2.2.2.1 p.2.2.2.2.2.1 p.2.2.2.2.2.2.1 p.2.2.2.2.2.2.2.1 p.2.2.2.2.2.2.2.2.1 p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2, Sure.r124 _ _ _ _ _ _ _ _ _ _ _ _ _ _ _ p.1 p.2.1 p.2.2.1 p.2.2.2.1 p.2.2.2.2.1 p.2.2.2.2.2.1 p.2.2.2.2.2.2.1 p.2.2.2.2.2.2.2.1 p.2.2.2.2.2.2.2.2.1 p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2, Sure.r31 _ _ _ _ _ _ _ _ _ _ _ _ _ _ _ p.1 p.2.1 p.2.2.1 p.2.2.2.1 p.2.2.2.2.1 p.2.2.2.2.2.1 p.2.2.2.2.2.2.1 p.2.2.2.2.2.2.2.1 p.2.2.2.2.2.2.2.2.1 p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2, Sure.r165 _ _ _ _ _ _ _ _ _ _ _ _ _ _ _ p.1 p.2.1 p.2.2.1 p.2.2.2.1 p.2.2.2.2.1 p.2.2.2.2.2.1 p.2.2.2.2.2.2.1 p.2.2.2.2.2.2.2.1 p.2.2.2.2.2.2.2.2.1 p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2.1 p.2.2.2.2.2.2.2.2.2.2.2.2.2.2⟩

end Cert.MlpIdeal.Tiles

set_option maxRecDepth 32768 in
set_option maxHeartbeats 1600000 in
/-- Kernel and reference end with the same results. -/
theorem Cert.MlpIdeal.Tiles.algebraic : Cert.algebraic_MlpIdeal_MlpRefIdeal_pre_all_real := by
  pair_intro
  · run_from Cert.MlpIdeal.Tiles.run_blocks m g
  · run_from Cert.MlpRefIdeal.Stages.run m' g'
    exacts [(Cert.MlpIdeal.Tiles.final10 m c).symm, (Cert.MlpIdeal.Tiles.final11 m c).symm, (Cert.MlpIdeal.Tiles.final12 m c (Cert.MlpIdeal.Tiles.stages_real m hpre c).1 (Cert.MlpIdeal.Tiles.stages_real m hpre c).2.1).symm, (Cert.MlpIdeal.Tiles.final13 m c (Cert.MlpIdeal.Tiles.stages_real m hpre c).1 (Cert.MlpIdeal.Tiles.stages_real m hpre c).2.1).symm, (Cert.MlpIdeal.Tiles.final14 m c (Cert.MlpIdeal.Tiles.stages_real m hpre c).1 (Cert.MlpIdeal.Tiles.stages_real m hpre c).2.1 (Cert.MlpIdeal.Tiles.stages_real m hpre c).2.2.1 (Cert.MlpIdeal.Tiles.stages_real m hpre c).2.2.2).symm, (Cert.MlpIdeal.Tiles.final15 m c).symm, (Cert.MlpIdeal.Tiles.final16 m c).symm, (Cert.MlpIdeal.Tiles.final17 m c).symm, (Cert.MlpIdeal.Tiles.final18 m c (Cert.MlpIdeal.Tiles.stages_real m hpre c).1 (Cert.MlpIdeal.Tiles.stages_real m hpre c).2.1).symm, (Cert.MlpIdeal.Tiles.final19 m c (Cert.MlpIdeal.Tiles.stages_real m hpre c).1 (Cert.MlpIdeal.Tiles.stages_real m hpre c).2.1).symm]

end
-- ==== Proof.InProjBits.lean ====
/- The run of InProj over floats as bits: the same text, so the same run. -/
module

public import proofs.«01_k».proof.Defs
public import proofs.«01_k».proof.Proof.InProjFrame
public import proofs.«01_k».proof.Proof.Gen.InProj

@[expose] public section

set_option maxRecDepth 16384

noncomputable section

open Idealize.ShloMosaic Idealize.ShloMosaic.TcCoe Idealize.SL.Sem

namespace Cert.InProj

/-- Both texts have the same bodies. -/
theorem bodies : defs₀ (F := Bits) = Cert.InProjIdeal.defs₀ (F := Bits) := by
  unfold defs₀ Cert.InProjIdeal.defs₀
  refine congrArg Defs.onTc ?_
  funext l x
  match l, x with
  | 0, (t, s) => rfl

/-- So the same tables. -/
theorem tables : defs (F := Bits) = Cert.InProjIdeal.defs (F := Bits) :=
  congrArg (Pipeline.defs _) bodies

/-- The program over floats as bits runs as the idealized text does. -/
theorem frame_bits : Cert.quiescent_InProj := fun m ρ _ => by
  have h := Cert.InProjIdeal.Gen.frame (F := Bits) m ρ
  rw [← tables] at h
  exact h

end Cert.InProj
end
-- ==== Proof.InGradBits.lean ====
/- The run of InGrad over floats as bits: the same text, so the same run. -/
module

public import proofs.«01_k».proof.Defs
public import proofs.«01_k».proof.Proof.InGradFrame
public import proofs.«01_k».proof.Proof.Gen.InGrad

@[expose] public section

set_option maxRecDepth 16384

noncomputable section

open Idealize.ShloMosaic Idealize.ShloMosaic.TcCoe Idealize.SL.Sem

namespace Cert.InGrad

/-- Both texts have the same bodies. -/
theorem bodies : defs₀ (F := Bits) = Cert.InGradIdeal.defs₀ (F := Bits) := by
  unfold defs₀ Cert.InGradIdeal.defs₀
  refine congrArg Defs.onTc ?_
  funext l x
  match l, x with
  | 0, (t, s) => rfl

/-- So the same tables. -/
theorem tables : defs (F := Bits) = Cert.InGradIdeal.defs (F := Bits) :=
  congrArg (Pipeline.defs _) bodies

/-- The program over floats as bits runs as the idealized text does. -/
theorem frame_bits : Cert.quiescent_InGrad := fun m ρ _ => by
  have h := Cert.InGradIdeal.Gen.frame (F := Bits) m ρ
  rw [← tables] at h
  exact h

end Cert.InGrad
end
-- ==== Proof.MlpBits.lean ====
/- The run of Mlp over floats as bits: the same text, so the same run. -/
module

public import proofs.«01_k».proof.Defs
public import proofs.«01_k».proof.Proof.MlpFrame
public import proofs.«01_k».proof.Proof.Gen.Mlp

@[expose] public section

set_option maxRecDepth 16384

noncomputable section

open Idealize.ShloMosaic Idealize.ShloMosaic.TcCoe Idealize.SL.Sem

namespace Cert.Mlp

set_option maxHeartbeats 4000000 in
/-- Both texts have the same bodies. -/
theorem bodies : defs₀ (F := Bits) = Cert.MlpIdeal.defs₀ (F := Bits) := by
  unfold defs₀ Cert.MlpIdeal.defs₀
  refine congrArg Defs.onTc ?_
  funext l x
  match l, x with
  | 0, (t, s) => rfl

set_option maxHeartbeats 4000000 in
/-- So the same tables. -/
theorem tables : defs (F := Bits) = Cert.MlpIdeal.defs (F := Bits) :=
  congrArg (Pipeline.defs _) bodies

set_option maxHeartbeats 4000000 in
/-- The program over floats as bits runs as the idealized text does. -/
theorem frame_bits : Cert.quiescent_Mlp := fun m ρ _ => by
  have h := Cert.MlpIdeal.Gen.frame (F := Bits) m ρ
  rw [← tables] at h
  exact h

end Cert.Mlp
end
-- ==== Proof.lean ====
module

public import proofs.«01_k».proof.Defs
public import proofs.«01_k».proof.Proof.Gen.WgUp
public import proofs.«01_k».proof.Proof.Gen.WgUp.Skeleton
public import proofs.«01_k».proof.Proof.Gen.WgUp.Launch
public import proofs.«01_k».proof.Proof.Gen.WgUp.Points
public import proofs.«01_k».proof.Proof.Gen.WgUp.Frame
public import proofs.«01_k».proof.Proof.Gen.WgUpIdeal
public import proofs.«01_k».proof.Proof.Gen.WgUpIdeal.Skeleton
public import proofs.«01_k».proof.Proof.Gen.WgUpIdeal.Launch
public import proofs.«01_k».proof.Proof.Gen.WgUpIdeal.Points
public import proofs.«01_k».proof.Proof.Gen.WgUpIdeal.Frame
public import proofs.«01_k».proof.Proof.Gen.WgUpIdeal.Value
public import proofs.«01_k».proof.Proof.Gen.WgUpRefIdeal.Read
public import proofs.«01_k».proof.Proof.Gen.WgUpRefIdeal
public import proofs.«01_k».proof.Proof.Gen.WgDown
public import proofs.«01_k».proof.Proof.Gen.WgDown.Skeleton
public import proofs.«01_k».proof.Proof.Gen.WgDown.Launch
public import proofs.«01_k».proof.Proof.Gen.WgDown.Points
public import proofs.«01_k».proof.Proof.Gen.WgDown.Frame
public import proofs.«01_k».proof.Proof.Gen.WgDownIdeal
public import proofs.«01_k».proof.Proof.Gen.WgDownIdeal.Skeleton
public import proofs.«01_k».proof.Proof.Gen.WgDownIdeal.Launch
public import proofs.«01_k».proof.Proof.Gen.WgDownIdeal.Points
public import proofs.«01_k».proof.Proof.Gen.WgDownIdeal.Frame
public import proofs.«01_k».proof.Proof.Gen.WgDownIdeal.Value
public import proofs.«01_k».proof.Proof.Gen.WgDownRefIdeal.Read
public import proofs.«01_k».proof.Proof.Gen.WgDownRefIdeal
public import proofs.«01_k».proof.Proof.Gen.WgProj
public import proofs.«01_k».proof.Proof.Gen.WgProj.Skeleton
public import proofs.«01_k».proof.Proof.Gen.WgProj.Launch
public import proofs.«01_k».proof.Proof.Gen.WgProj.Points
public import proofs.«01_k».proof.Proof.Gen.WgProj.Frame
public import proofs.«01_k».proof.Proof.Gen.WgProjIdeal
public import proofs.«01_k».proof.Proof.Gen.WgProjIdeal.Skeleton
public import proofs.«01_k».proof.Proof.Gen.WgProjIdeal.Launch
public import proofs.«01_k».proof.Proof.Gen.WgProjIdeal.Points
public import proofs.«01_k».proof.Proof.Gen.WgProjIdeal.Frame
public import proofs.«01_k».proof.Proof.Gen.WgProjIdeal.Value
public import proofs.«01_k».proof.Proof.Gen.WgProjRefIdeal.Read
public import proofs.«01_k».proof.Proof.Gen.WgProjRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal.Read
public import proofs.«01_k».proof.Proof.Gen.MixRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjRefIdeal.Read
public import proofs.«01_k».proof.Proof.Gen.InProjRefIdeal
public import proofs.«01_k».proof.Proof.Gen.InGrad
public import proofs.«01_k».proof.Proof.Gen.InGrad.Skeleton
public import proofs.«01_k».proof.Proof.Gen.InGrad.Launch
public import proofs.«01_k».proof.Proof.Gen.InGrad.Points
public import proofs.«01_k».proof.Proof.Gen.InGrad.Frame
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradRefIdeal.Read
public import proofs.«01_k».proof.Proof.Gen.InGradRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame.Runs
public import proofs.«01_k».proof.Proof.Gen.Pre_all_real
public import proofs.«01_k».proof.Proof.Gen.MlpRefIdeal.Read
public import proofs.«01_k».proof.Proof.Gen.MlpRefIdeal
public import proofs.«01_k».proof.Proof.WgUp
public import proofs.«01_k».proof.Proof.WgDown
public import proofs.«01_k».proof.Proof.WgProj
public import proofs.«01_k».proof.Proof.MixClaim
public import proofs.«01_k».proof.Proof.InProjClaim
public import proofs.«01_k».proof.Proof.InGradClaim
public import proofs.«01_k».proof.Proof.MlpClaim
public import proofs.«01_k».proof.Proof.InProjBits
public import proofs.«01_k».proof.Proof.InGradBits
public import proofs.«01_k».proof.Proof.MlpBits
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.WgUp

theorem claim : Cert.Claim := ⟨Cert.WgUp.Gen.facts, Cert.WgUpIdeal.Gen.facts, Cert.WgUpRefIdeal.Gen.facts, Cert.WgDown.Gen.facts, Cert.WgDownIdeal.Gen.facts, Cert.WgDownRefIdeal.Gen.facts, Cert.WgProj.Gen.facts, Cert.WgProjIdeal.Gen.facts, Cert.WgProjRefIdeal.Gen.facts, Cert.Mix.Gen.facts, Cert.MixIdeal.Gen.facts, Cert.MixRefIdeal.Gen.facts, Cert.InProj.Gen.facts, Cert.InProjIdeal.Gen.facts, Cert.InProjRefIdeal.Gen.facts, Cert.InGrad.Gen.facts, Cert.InGradIdeal.Gen.facts, Cert.InGradRefIdeal.Gen.facts, Cert.Mlp.Gen.facts, Cert.MlpIdeal.Gen.facts, Cert.MlpRefIdeal.Gen.facts, Cert.Pre_all_real.Gen.facts,
  fun m ρ _ => Cert.WgUp.Gen.frame m ρ,
  fun m ρ _ => Cert.WgUpIdeal.Gen.frame m ρ,
  fun m ρ _ => (θ_run _ _ _).mono (fun r h => ⟨fun c => (h c).2, sem_eq_zero_of_no_sems rfl _⟩) (Cert.WgUpRefIdeal.Value.run m ρ),
  fun m ρ _ => Cert.WgDown.Gen.frame m ρ,
  fun m ρ _ => Cert.WgDownIdeal.Gen.frame m ρ,
  fun m ρ _ => (θ_run _ _ _).mono (fun r h => ⟨fun c => (h c).2, sem_eq_zero_of_no_sems rfl _⟩) (Cert.WgDownRefIdeal.Value.run m ρ),
  fun m ρ _ => Cert.WgProj.Gen.frame m ρ,
  fun m ρ _ => Cert.WgProjIdeal.Gen.frame m ρ,
  fun m ρ _ => (θ_run _ _ _).mono (fun r h => ⟨fun c => (h c).2, sem_eq_zero_of_no_sems rfl _⟩) (Cert.WgProjRefIdeal.Value.run m ρ),
  fun m ρ _ => Cert.Mix.Gen.frame m ρ,
  fun m ρ _ => Cert.MixIdeal.Gen.frame m ρ,
  fun m ρ _ => (θ_run _ _ _).mono (fun r h => ⟨fun c => (h c).2.2.2.2.2.2.2, sem_eq_zero_of_no_sems rfl _⟩) (Cert.MixRefIdeal.Value.run m ρ),
  Cert.InProj.frame_bits,
  fun m ρ _ => Cert.InProjIdeal.Gen.frame m ρ,
  fun m ρ _ => (θ_run _ _ _).mono (fun r h => ⟨fun c => (h c).2.2.2, sem_eq_zero_of_no_sems rfl _⟩) (Cert.InProjRefIdeal.Value.run m ρ),
  Cert.InGrad.frame_bits,
  fun m ρ _ => Cert.InGradIdeal.Gen.frame m ρ,
  fun m ρ _ => (θ_run _ _ _).mono (fun r h => ⟨fun c => (h c).2, sem_eq_zero_of_no_sems rfl _⟩) (Cert.InGradRefIdeal.Value.run m ρ),
  Cert.Mlp.frame_bits,
  fun m ρ _ => Cert.MlpIdeal.Gen.frame m ρ,
  fun m ρ _ => Cert.MlpIdeal.Gen.frame m ρ,
  fun m ρ _ => (θ_run _ _ _).mono (fun r h => ⟨fun c => (h c).2.2.2.2.2.2.2.2.2.2, sem_eq_zero_of_no_sems rfl _⟩) (Cert.MlpRefIdeal.Value.run m ρ),
  fun m ρ _ => (θ_run _ _ _).mono (fun r h => ⟨fun c => (h c).2.2.2.2.2.2.2.2.2.2, sem_eq_zero_of_no_sems rfl _⟩) (Cert.MlpRefIdeal.Value.run m ρ),
  trivial,
  Cert.WgUpIdeal.Tiles.algebraic,
  trivial,
  Cert.WgDownIdeal.Tiles.algebraic,
  trivial,
  Cert.WgProjIdeal.Tiles.algebraic,
  trivial,
  Cert.MixIdeal.Tiles.algebraic,
  trivial,
  Cert.InProjIdeal.Tiles.algebraic,
  trivial,
  Cert.InGradIdeal.Tiles.algebraic,
  trivial,
  Cert.MlpIdeal.Tiles.algebraic⟩

end Cert.Proof

end
